-- ==== Defs.lean ====
def Pre_Kernel [hPre_rows_named : Cert.Pre_rows_named.Facts] (m : (ℓ : Loc Cert.Kernel.nD Cert.Kernel.τ Cert.Kernel.sig) → Buf (Elt Bits) ℓ) : Prop :=
  ∀ c : Dev Cert.Kernel.nD,
    (Cert.Pre_rows_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_rows_named : Cert.Pre_rows_named.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_named [hPre_rows_named : Cert.Pre_rows_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_rows_named : Cert.Pre_rows_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_rows_named [hReferenceIdeal : Cert.ReferenceIdeal.Facts] [hPre_rows_named : Cert.Pre_rows_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_rows_named : Cert.Pre_rows_named.Facts),
    quiescent_Kernel (hKernel := hKernel) (hPre_rows_named := hPre_rows_named)
    ∧ quiescent_KernelIdeal (hKernelIdeal := hKernelIdeal) (hPre_rows_named := hPre_rows_named)
    ∧ quiescent_ReferenceIdeal (hReferenceIdeal := hReferenceIdeal)
    ∧ quiescent_ReferenceIdeal_pre_rows_named (hReferenceIdeal := hReferenceIdeal) (hPre_rows_named := hPre_rows_named)
    ∧ preserves_Kernel_KernelIdeal
    ∧ algebraic_KernelIdeal_ReferenceIdeal (hKernelIdeal := hKernelIdeal) (hReferenceIdeal := hReferenceIdeal) (hPre_rows_named := hPre_rows_named)
-- ==== Pre_rows_named.lean ====
abbrev S1024x128 : Shape := ⟨2, ![1024, 128]⟩
abbrev S1024x200 : Shape := ⟨2, ![1024, 200]⟩
abbrev S384x128 : Shape := ⟨2, ![384, 128]⟩
abbrev S384 : Shape := ⟨1, ![384]⟩
abbrev S384x384 : Shape := ⟨2, ![384, 384]⟩
abbrev S1000x128 : Shape := ⟨2, ![1000, 128]⟩
abbrev S100000x128 : Shape := ⟨2, ![100000, 128]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn_part1 {F : FTy → Type} [FloatOps F] (main_arg3 : IVec S1024x200 32) (main_v12 : IVec S_ 1) (main_v14 : IVec S1024x200 1) (main_v15 : IVec S1024x200 32) : IVec S_ 1 :=
  let main_v16 : IVec S1024x200 1 := cmpi .slt main_arg3 main_v15
  let main_v17 : IVec S1024x200 1 := andi main_v14 main_v16
  let main_c_7 : IVec S_ 1 := constantI S_ 1 1#1
  let main_v18 : IVec S_ 1 := (fun x v => Host.reduce IntOp.andi x v reducesTo_S1024x200_S_d0_1 h_S_) main_v17 main_c_7
  let main_v19 : IVec S_ 1 := andi main_v12 main_v18
  main_v19

def fn {F : FTy → Type} [FloatOps F] (main_arg0 : FVec F S1024x128 .f32) (main_arg1 : IVec S1024x200 32) (main_arg2 : IVec S1024x200 32) (main_arg3 : IVec S1024x200 32) (main_arg4 : FVec F S1024x200 .f32) (main_arg5 : FVec F S384x128 .f32) (main_arg6 : FVec F S384 .f32) (main_arg7 : FVec F S384x384 .f32) (main_arg8 : FVec F S384 .f32) (main_arg9 : FVec F S1000x128 .f32) (main_arg10 : FVec F S100000x128 .f32) (main_arg11 : FVec F S100000x128 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg1 main_v0
  let main_c_0 : IVec S_ 32 := constantI S_ 32 1000#32
  let main_v2 : IVec S1024x200 32 := broadcastInDim S1024x200 ![] bcast_S_S1024x200 main_c_0
  let main_v3 : IVec S1024x200 1 := cmpi .slt main_arg1 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  let main_c_2 : IVec S_ 32 := constantI S_ 32 0#32
  let main_v6 : IVec S1024x200 32 := broadcastInDim S1024x200 ![] bcast_S_S1024x200 main_c_2
  let main_v7 : IVec S1024x200 1 := cmpi .sge main_arg2 main_v6
  let main_c_3 : IVec S_ 32 := constantI S_ 32 100000#32
  let main_v8 : IVec S1024x200 32 := broadcastInDim S1024x200 ![] bcast_S_S1024x200 main_c_3
  let main_v9 : IVec S1024x200 1 := cmpi .slt main_arg2 main_v8
  let main_v10 : IVec S1024x200 1 := andi main_v7 main_v9
  let main_c_4 : IVec S_ 1 := constantI S_ 1 1#1
  let main_v11 : IVec S_ 1 := (fun x v => Host.reduce IntOp.andi x v reducesTo_S1024x200_S_d0_1 h_S_) main_v10 main_c_4
  let main_v12 : IVec S_ 1 := andi main_v5 main_v11
  let main_c_5 : IVec S_ 32 := constantI S_ 32 0#32
  let main_v13 : IVec S1024x200 32 := broadcastInDim S1024x200 ![] bcast_S_S1024x200 main_c_5
  let main_v14 : IVec S1024x200 1 := cmpi .sge main_arg3 main_v13
  let main_c_6 : IVec S_ 32 := constantI S_ 32 100000#32
  let main_v15 : IVec S1024x200 32 := broadcastInDim S1024x200 ![] bcast_S_S1024x200 main_c_6
  fn_part1 (F := F) main_arg3 main_v12 main_v14 main_v15
-- ==== Kernel.lean ====
abbrev S1024x128 : Shape := ⟨2, ![1024, 128]⟩
abbrev S1024x200 : Shape := ⟨2, ![1024, 200]⟩
abbrev S384x128 : Shape := ⟨2, ![384, 128]⟩
abbrev S384 : Shape := ⟨1, ![384]⟩
abbrev S384x384 : Shape := ⟨2, ![384, 384]⟩
abbrev S1000x128 : Shape := ⟨2, ![1000, 128]⟩
abbrev S100000x128 : Shape := ⟨2, ![100000, 128]⟩
abbrev S1x384 : Shape := ⟨2, ![1, 384]⟩
abbrev S1024x384 : Shape := ⟨2, ![1024, 384]⟩
abbrev S1024x1x200 : Shape := ⟨3, ![1024, 1, 200]⟩
abbrev S1024x3x200 : Shape := ⟨3, ![1024, 3, 200]⟩
abbrev S1024x3x2x100 : Shape := ⟨4, ![1024, 3, 2, 100]⟩
abbrev S1024x256 : Shape := ⟨2, ![1024, 256]⟩
abbrev S3x2x100 : Shape := ⟨3, ![3, 2, 100]⟩
abbrev S600x128 : Shape := ⟨2, ![600, 128]⟩
abbrev S256 : Shape := ⟨1, ![256]⟩
abbrev S_ : Shape := ⟨0, ![]⟩
abbrev S16 : Shape := ⟨1, ![16]⟩
abbrev S1x3x2x100 : Shape := ⟨4, ![1, 3, 2, 100]⟩
abbrev S100x128 : Shape := ⟨2, ![100, 128]⟩
abbrev S1x1x100 : Shape := ⟨3, ![1, 1, 100]⟩
abbrev S100 : Shape := ⟨1, ![100]⟩
abbrev S1x256 : Shape := ⟨2, ![1, 256]⟩
abbrev S1x16 : Shape := ⟨2, ![1, 16]⟩
abbrev S8 : Shape := ⟨1, ![8]⟩
abbrev S12 : Shape := ⟨1, ![12]⟩
abbrev S4 : Shape := ⟨1, ![4]⟩
abbrev S14 : Shape := ⟨1, ![14]⟩
abbrev S2 : Shape := ⟨1, ![2]⟩
abbrev S15 : Shape := ⟨1, ![15]⟩
abbrev S1 : Shape := ⟨1, ![1]⟩
abbrev S1024x1 : Shape := ⟨2, ![1024, 1]⟩
abbrev S1024 : Shape := ⟨1, ![1024]⟩

abbrev nBuf : Table → Nat
  | .hbm => 24
  | .local .tc .vmem => 10
  | .local .scVector .vmem => 7
  | _ => 0

abbrev bufTy : (tb : Table) → Fin (nBuf tb) → BufTy
  | .hbm, ⟨0, _⟩ => ⟨S1024x128, .f32⟩
  | .hbm, ⟨1, _⟩ => ⟨S1024x200, .i32⟩
  | .hbm, ⟨2, _⟩ => ⟨S1024x200, .i32⟩
  | .hbm, ⟨3, _⟩ => ⟨S1024x200, .i32⟩
  | .hbm, ⟨4, _⟩ => ⟨S1024x200, .f32⟩
  | .hbm, ⟨5, _⟩ => ⟨S384x128, .f32⟩
  | .hbm, ⟨6, _⟩ => ⟨S384, .f32⟩
  | .hbm, ⟨7, _⟩ => ⟨S384x384, .f32⟩
  | .hbm, ⟨8, _⟩ => ⟨S384, .f32⟩
  | .hbm, ⟨9, _⟩ => ⟨S1000x128, .f32⟩
  | .hbm, ⟨10, _⟩ => ⟨S100000x128, .f32⟩
  | .hbm, ⟨11, _⟩ => ⟨S100000x128, .f32⟩
  | .hbm, ⟨12, _⟩ => ⟨S1x384, .f32⟩
  | .hbm, ⟨13, _⟩ => ⟨S1x384, .f32⟩
  | .hbm, ⟨14, _⟩ => ⟨S1024x384, .f32⟩
  | .hbm, ⟨15, _⟩ => ⟨S1024x1x200, .i32⟩
  | .hbm, ⟨16, _⟩ => ⟨S1024x1x200, .i32⟩
  | .hbm, ⟨17, _⟩ => ⟨S1024x1x200, .i32⟩
  | .hbm, ⟨18, _⟩ => ⟨S1024x3x200, .i32⟩
  | .hbm, ⟨19, _⟩ => ⟨S1024x3x2x100, .i32⟩
  | .hbm, ⟨20, _⟩ => ⟨S1024x256, .f32⟩
  | .hbm, ⟨21, _⟩ => ⟨S1024x200, .f32⟩
  | .hbm, ⟨22, _⟩ => ⟨S1024x1, .f32⟩
  | .hbm, ⟨23, _⟩ => ⟨S1024, .f32⟩
  | .local .tc .vmem, ⟨0, _⟩ => ⟨S1024x128, .f32⟩
  | .local .tc .vmem, ⟨1, _⟩ => ⟨S384x128, .f32⟩
  | .local .tc .vmem, ⟨2, _⟩ => ⟨S1x384, .f32⟩
  | .local .tc .vmem, ⟨3, _⟩ => ⟨S384x384, .f32⟩
  | .local .tc .vmem, ⟨4, _⟩ => ⟨S1x384, .f32⟩
  | .local .tc .vmem, ⟨5, _⟩ => ⟨S1024x384, .f32⟩
  | .local .tc .vmem, ⟨6, _⟩ => ⟨S1024x256, .f32⟩
  | .local .tc .vmem, ⟨7, _⟩ => ⟨S1024x200, .f32⟩
  | .local .tc .vmem, ⟨8, _⟩ => ⟨S1024x200, .f32⟩
  | .local .tc .vmem, ⟨9, _⟩ => ⟨S1024x1, .f32⟩
  | .local .scVector .vmem, ⟨0, _⟩ => ⟨S3x2x100, .i32⟩
  | .local .scVector .vmem, ⟨1, _⟩ => ⟨S3x2x100, .i32⟩
  | .local .scVector .vmem, ⟨2, _⟩ => ⟨S384, .f32⟩
  | .local .scVector .vmem, ⟨3, _⟩ => ⟨S384, .f32⟩
  | .local .scVector .vmem, ⟨4, _⟩ => ⟨S600x128, .f32⟩
  | .local .scVector .vmem, ⟨5, _⟩ => ⟨S256, .f32⟩
  | .local .scVector .vmem, ⟨6, _⟩ => ⟨S256, .f32⟩
  | _, _ => ⟨S1024x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v10 : Ref sig .tc := ⟨.hbm, 23, rfl⟩
abbrev main_v2_scv : Ref sig .scVector := ⟨.hbm, 14, rfl⟩
abbrev main_v7_scv : Ref sig .scVector := ⟨.hbm, 19, rfl⟩
abbrev main_arg9_scv : Ref sig .scVector := ⟨.hbm, 9, rfl⟩
abbrev main_arg10_scv : Ref sig .scVector := ⟨.hbm, 10, rfl⟩
abbrev main_arg11_scv : Ref sig .scVector := ⟨.hbm, 11, rfl⟩
abbrev main_v8_scv : Ref sig .scVector := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc2_sem0_0 : DmaSem sig := 13
abbrev cc2_sem1_0 : DmaSem sig := 14
abbrev cc2_sem2_0 : DmaSem sig := 15
abbrev cc2_sem3_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![2, 16], ![false, false]⟩

def k1_off1 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c0_i32 : BitVec 32 := 0#32
  let c0_i32_0 : BitVec 32 := 0#32
  let c0_i32_1 : BitVec 32 := 0#32
  ![v3.toNat, 0, 0, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c0_i32_5 : BitVec 32 := 0#32
  ![v3.toNat, 0]
def k1_off3 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c1_i32 : BitVec 32 := 1#32
  let v20 : BitVec 32 := Scalar.addi v3 c1_i32
  let c0_i32_15 : BitVec 32 := 0#32
  let c0_i32_16 : BitVec 32 := 0#32
  let c0_i32_17 : BitVec 32 := 0#32
  ![v20.toNat, 0, 0, 0]
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c1_i32 : BitVec 32 := 1#32
  let v20 : BitVec 32 := Scalar.addi v3 c1_i32
  let c0_i32_21 : BitVec 32 := 0#32
  ![v20.toNat, 0]
@[reducible] def k1_t1_loop : Scf.Loop 32 :=
  let c0_i32_24 : BitVec 32 := 0#32
  let c16_i32 : BitVec 32 := 16#32
  let v29 : BitVec 32 := Scalar.addi c0_i32_24 c16_i32
  let c1_i32_25 : BitVec 32 := 1#32
  ⟨c0_i32_24, v29, c1_i32_25⟩
def k1_cond1 (k1_t1 : Fin k1_t1_loop.trips) : BitVec 1 :=
  let c0_i32_24 : BitVec 32 := 0#32
  let c1_i32_25 : BitVec 32 := 1#32
  let arg22 : BitVec 32 := Scf.iv c0_i32_24 c1_i32_25 k1_t1
  let c0_i32_35 : BitVec 32 := 0#32
  let v42 : BitVec 1 := Scalar.cmpi .sgt arg22 c0_i32_35
  let v47 : BitVec 32 := Scalar.extui v42
  let c0_i32_38 : BitVec 32 := 0#32
  let v48 : BitVec 1 := Scalar.cmpi .ne v47 c0_i32_38
  v48

def k1_off5 (i : grid1.Coords) (k1_t1 : Fin k1_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c2_i32_36 : BitVec 32 := 2#32
  let c0_i32_24 : BitVec 32 := 0#32
  let c1_i32_25 : BitVec 32 := 1#32
  let arg22 : BitVec 32 := Scf.iv c0_i32_24 c1_i32_25 k1_t1
  let v44 : BitVec 32 := Scalar.muli c2_i32_36 arg22
  let v45 : BitVec 32 := Scalar.addi v3 v44
  let c0_i32_37 : BitVec 32 := 0#32
  let v46 : BitVec 32 := Scalar.addi v45 c0_i32_37
  let c0_i32_256 : BitVec 32 := 0#32
  let c0_i32_257 : BitVec 32 := 0#32
  let c0_i32_258 : BitVec 32 := 0#32
  ![v46.toNat, 0, 0, 0]
def k1_off6 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c2_i32_36 : BitVec 32 := 2#32
  let c0_i32_24 : BitVec 32 := 0#32
  let c1_i32_25 : BitVec 32 := 1#32
  let arg22 : BitVec 32 := Scf.iv c0_i32_24 c1_i32_25 k1_t1
  let v44 : BitVec 32 := Scalar.muli c2_i32_36 arg22
  let v45 : BitVec 32 := Scalar.addi v3 v44
  let c0_i32_37 : BitVec 32 := 0#32
  let v46 : BitVec 32 := Scalar.addi v45 c0_i32_37
  let c0_i32_262 : BitVec 32 := 0#32
  ![v46.toNat, 0]
def k1_cond2 (k1_t1 : Fin k1_t1_loop.trips) : BitVec 1 :=
  let c0_i32_24 : BitVec 32 := 0#32
  let c1_i32_25 : BitVec 32 := 1#32
  let arg22 : BitVec 32 := Scf.iv c0_i32_24 c1_i32_25 k1_t1
  let c15_i32 : BitVec 32 := 15#32
  let v43 : BitVec 1 := Scalar.cmpi .slt arg22 c15_i32
  let v121 : BitVec 32 := Scalar.extui v43
  let c0_i32_118 : BitVec 32 := 0#32
  let v122 : BitVec 1 := Scalar.cmpi .ne v121 c0_i32_118
  v122

def k1_off7 (i : grid1.Coords) (k1_t1 : Fin k1_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c2_i32_36 : BitVec 32 := 2#32
  let c0_i32_24 : BitVec 32 := 0#32
  let c1_i32_25 : BitVec 32 := 1#32
  let arg22 : BitVec 32 := Scf.iv c0_i32_24 c1_i32_25 k1_t1
  let v44 : BitVec 32 := Scalar.muli c2_i32_36 arg22
  let v45 : BitVec 32 := Scalar.addi v3 v44
  let c0_i32_37 : BitVec 32 := 0#32
  let v46 : BitVec 32 := Scalar.addi v45 c0_i32_37
  let c2_i32_256 : BitVec 32 := 2#32
  let v228 : BitVec 32 := Scalar.addi v46 c2_i32_256
  let c0_i32_257 : BitVec 32 := 0#32
  let c0_i32_258 : BitVec 32 := 0#32
  let c0_i32_259 : BitVec 32 := 0#32
  ![v228.toNat, 0, 0, 0]
def k1_off8 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c2_i32_36 : BitVec 32 := 2#32
  let c0_i32_24 : BitVec 32 := 0#32
  let c1_i32_25 : BitVec 32 := 1#32
  let arg22 : BitVec 32 := Scf.iv c0_i32_24 c1_i32_25 k1_t1
  let v44 : BitVec 32 := Scalar.muli c2_i32_36 arg22
  let v45 : BitVec 32 := Scalar.addi v3 v44
  let c0_i32_37 : BitVec 32 := 0#32
  let v46 : BitVec 32 := Scalar.addi v45 c0_i32_37
  let c2_i32_256 : BitVec 32 := 2#32
  let v228 : BitVec 32 := Scalar.addi v46 c2_i32_256
  let c0_i32_263 : BitVec 32 := 0#32
  ![v228.toNat, 0]
def k1_cond3 (k1_t1 : Fin k1_t1_loop.trips) : BitVec 1 :=
  let c0_i32_24 : BitVec 32 := 0#32
  let c1_i32_25 : BitVec 32 := 1#32
  let arg22 : BitVec 32 := Scf.iv c0_i32_24 c1_i32_25 k1_t1
  let c0_i32_35 : BitVec 32 := 0#32
  let v42 : BitVec 1 := Scalar.cmpi .sgt arg22 c0_i32_35
  let v123 : BitVec 32 := Scalar.extui v42
  let c0_i32_119 : BitVec 32 := 0#32
  let v124 : BitVec 1 := Scalar.cmpi .ne v123 c0_i32_119
  v124

def k1_off9 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c2_i32_36 : BitVec 32 := 2#32
  let c0_i32_24 : BitVec 32 := 0#32
  let c1_i32_25 : BitVec 32 := 1#32
  let arg22 : BitVec 32 := Scf.iv c0_i32_24 c1_i32_25 k1_t1
  let v44 : BitVec 32 := Scalar.muli c2_i32_36 arg22
  let v45 : BitVec 32 := Scalar.addi v3 v44
  let c0_i32_37 : BitVec 32 := 0#32
  let v46 : BitVec 32 := Scalar.addi v45 c0_i32_37
  let c0_i32_256 : BitVec 32 := 0#32
  ![v46.toNat, 0]
@[reducible] def k1_t2_loop : Scf.Loop 32 :=
  let c0_i32_122 : BitVec 32 := 0#32
  let c200_i32_123 : BitVec 32 := 200#32
  let v128 : BitVec 32 := Scalar.addi c0_i32_122 c200_i32_123
  let c1_i32_124 : BitVec 32 := 1#32
  ⟨c0_i32_122, v128, c1_i32_124⟩
def k1_off10 (k1_t2 : Fin k1_t2_loop.trips) (c0_i32_258 : BitVec 32) : Fin 2 → Nat :=
  let c0_i32_257 : BitVec 32 := 0#32
  let c0_i32_122 : BitVec 32 := 0#32
  let c1_i32_124 : BitVec 32 := 1#32
  let arg23 : BitVec 32 := Scf.iv c0_i32_122 c1_i32_124 k1_t2
  let c1_i32_256 : BitVec 32 := 1#32
  let v228 : BitVec 32 := Scalar.muli arg23 c1_i32_256
  let v229 : BitVec 32 := Scalar.addi c0_i32_257 v228
  let v230 : BitVec 32 := Scalar.addi c0_i32_258 v229
  let v231 : Index := Scalar.indexCast v230
  let c0_259 : Index := 0#32
  ![v231.toNat, 0]
def k1_off11 (k1_t2 : Fin k1_t2_loop.trips) (c0_i32_260 : BitVec 32) : Fin 2 → Nat :=
  let c0_i32_257 : BitVec 32 := 0#32
  let c0_i32_122 : BitVec 32 := 0#32
  let c1_i32_124 : BitVec 32 := 1#32
  let arg23 : BitVec 32 := Scf.iv c0_i32_122 c1_i32_124 k1_t2
  let c1_i32_256 : BitVec 32 := 1#32
  let v228 : BitVec 32 := Scalar.muli arg23 c1_i32_256
  let v229 : BitVec 32 := Scalar.addi c0_i32_257 v228
  let v234 : BitVec 32 := Scalar.addi c0_i32_260 v229
  let v235 : Index := Scalar.indexCast v234
  let c16_261 : Index := 16#32
  ![v235.toNat, 16]
def k1_off12 (k1_t2 : Fin k1_t2_loop.trips) (c0_i32_262 : BitVec 32) : Fin 2 → Nat :=
  let c0_i32_257 : BitVec 32 := 0#32
  let c0_i32_122 : BitVec 32 := 0#32
  let c1_i32_124 : BitVec 32 := 1#32
  let arg23 : BitVec 32 := Scf.iv c0_i32_122 c1_i32_124 k1_t2
  let c1_i32_256 : BitVec 32 := 1#32
  let v228 : BitVec 32 := Scalar.muli arg23 c1_i32_256
  let v229 : BitVec 32 := Scalar.addi c0_i32_257 v228
  let v238 : BitVec 32 := Scalar.addi c0_i32_262 v229
  let v239 : Index := Scalar.indexCast v238
  let c32_263 : Index := 32#32
  ![v239.toNat, 32]
def k1_off13 (k1_t2 : Fin k1_t2_loop.trips) (c0_i32_264 : BitVec 32) : Fin 2 → Nat :=
  let c0_i32_257 : BitVec 32 := 0#32
  let c0_i32_122 : BitVec 32 := 0#32
  let c1_i32_124 : BitVec 32 := 1#32
  let arg23 : BitVec 32 := Scf.iv c0_i32_122 c1_i32_124 k1_t2
  let c1_i32_256 : BitVec 32 := 1#32
  let v228 : BitVec 32 := Scalar.muli arg23 c1_i32_256
  let v229 : BitVec 32 := Scalar.addi c0_i32_257 v228
  let v242 : BitVec 32 := Scalar.addi c0_i32_264 v229
  let v243 : Index := Scalar.indexCast v242
  let c48_265 : Index := 48#32
  ![v243.toNat, 48]
def k1_off14 (k1_t2 : Fin k1_t2_loop.trips) (c0_i32_266 : BitVec 32) : Fin 2 → Nat :=
  let c0_i32_257 : BitVec 32 := 0#32
  let c0_i32_122 : BitVec 32 := 0#32
  let c1_i32_124 : BitVec 32 := 1#32
  let arg23 : BitVec 32 := Scf.iv c0_i32_122 c1_i32_124 k1_t2
  let c1_i32_256 : BitVec 32 := 1#32
  let v228 : BitVec 32 := Scalar.muli arg23 c1_i32_256
  let v229 : BitVec 32 := Scalar.addi c0_i32_257 v228
  let v246 : BitVec 32 := Scalar.addi c0_i32_266 v229
  let v247 : Index := Scalar.indexCast v246
  let c64_267 : Index := 64#32
  ![v247.toNat, 64]
def k1_off15 (k1_t2 : Fin k1_t2_loop.trips) (c0_i32_268 : BitVec 32) : Fin 2 → Nat :=
  let c0_i32_257 : BitVec 32 := 0#32
  let c0_i32_122 : BitVec 32 := 0#32
  let c1_i32_124 : BitVec 32 := 1#32
  let arg23 : BitVec 32 := Scf.iv c0_i32_122 c1_i32_124 k1_t2
  let c1_i32_256 : BitVec 32 := 1#32
  let v228 : BitVec 32 := Scalar.muli arg23 c1_i32_256
  let v229 : BitVec 32 := Scalar.addi c0_i32_257 v228
  let v251 : BitVec 32 := Scalar.addi c0_i32_268 v229
  let v252 : Index := Scalar.indexCast v251
  let c80_269 : Index := 80#32
  ![v252.toNat, 80]
def k1_off16 (k1_t2 : Fin k1_t2_loop.trips) (c0_i32_270 : BitVec 32) : Fin 2 → Nat :=
  let c0_i32_257 : BitVec 32 := 0#32
  let c0_i32_122 : BitVec 32 := 0#32
  let c1_i32_124 : BitVec 32 := 1#32
  let arg23 : BitVec 32 := Scf.iv c0_i32_122 c1_i32_124 k1_t2
  let c1_i32_256 : BitVec 32 := 1#32
  let v228 : BitVec 32 := Scalar.muli arg23 c1_i32_256
  let v229 : BitVec 32 := Scalar.addi c0_i32_257 v228
  let v256 : BitVec 32 := Scalar.addi c0_i32_270 v229
  let v257 : Index := Scalar.indexCast v256
  let c96_271 : Index := 96#32
  ![v257.toNat, 96]
def k1_off17 (k1_t2 : Fin k1_t2_loop.trips) (c0_i32_272 : BitVec 32) : Fin 2 → Nat :=
  let c0_i32_257 : BitVec 32 := 0#32
  let c0_i32_122 : BitVec 32 := 0#32
  let c1_i32_124 : BitVec 32 := 1#32
  let arg23 : BitVec 32 := Scf.iv c0_i32_122 c1_i32_124 k1_t2
  let c1_i32_256 : BitVec 32 := 1#32
  let v228 : BitVec 32 := Scalar.muli arg23 c1_i32_256
  let v229 : BitVec 32 := Scalar.addi c0_i32_257 v228
  let v261 : BitVec 32 := Scalar.addi c0_i32_272 v229
  let v262 : Index := Scalar.indexCast v261
  let c112_273 : Index := 112#32
  ![v262.toNat, 112]

def k1_chk1 (v366 : IVec S16 32) : Prop :=
  (∀ a x, ((![v366] : Fin 1 → IVec S16 32) a x).toNat < S256.size a)
theorem k1_idx1_inb : ∀ (v366 : IVec S16 32) (k1_hw1 : k1_chk1 v366), ∀ a x, ((![v366] : Fin 1 → IVec S16 32) a x).toNat < S256.size a := fun v366 k1_hw1 => k1_hw1
def k1_off18 (i : grid1.Coords) (k1_t1 : Fin k1_t1_loop.trips) (c0_i32_37 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c2_i32_36 : BitVec 32 := 2#32
  let c0_i32_24 : BitVec 32 := 0#32
  let c1_i32_25 : BitVec 32 := 1#32
  let arg22 : BitVec 32 := Scf.iv c0_i32_24 c1_i32_25 k1_t1
  let v44 : BitVec 32 := Scalar.muli c2_i32_36 arg22
  let v45 : BitVec 32 := Scalar.addi v3 v44
  let v46 : BitVec 32 := Scalar.addi v45 c0_i32_37
  let c0_i32_126 : BitVec 32 := 0#32
  ![v46.toNat, 0]
def k1_off19 (i : grid1.Coords) (k1_t1 : Fin k1_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c2_i32_128 : BitVec 32 := 2#32
  let c0_i32_24 : BitVec 32 := 0#32
  let c1_i32_25 : BitVec 32 := 1#32
  let arg22 : BitVec 32 := Scf.iv c0_i32_24 c1_i32_25 k1_t1
  let v133 : BitVec 32 := Scalar.muli c2_i32_128 arg22
  let v134 : BitVec 32 := Scalar.addi v3 v133
  let c1_i32_129 : BitVec 32 := 1#32
  let v135 : BitVec 32 := Scalar.addi v134 c1_i32_129
  let c0_i32_130 : BitVec 32 := 0#32
  let c0_i32_131 : BitVec 32 := 0#32
  let c0_i32_132 : BitVec 32 := 0#32
  ![v135.toNat, 0, 0, 0]
def k1_off20 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c2_i32_128 : BitVec 32 := 2#32
  let c0_i32_24 : BitVec 32 := 0#32
  let c1_i32_25 : BitVec 32 := 1#32
  let arg22 : BitVec 32 := Scf.iv c0_i32_24 c1_i32_25 k1_t1
  let v133 : BitVec 32 := Scalar.muli c2_i32_128 arg22
  let v134 : BitVec 32 := Scalar.addi v3 v133
  let c1_i32_129 : BitVec 32 := 1#32
  let v135 : BitVec 32 := Scalar.addi v134 c1_i32_129
  let c0_i32_136 : BitVec 32 := 0#32
  ![v135.toNat, 0]
def k1_cond4 (k1_t1 : Fin k1_t1_loop.trips) : BitVec 1 :=
  let c0_i32_24 : BitVec 32 := 0#32
  let c1_i32_25 : BitVec 32 := 1#32
  let arg22 : BitVec 32 := Scf.iv c0_i32_24 c1_i32_25 k1_t1
  let c15_i32 : BitVec 32 := 15#32
  let v43 : BitVec 1 := Scalar.cmpi .slt arg22 c15_i32
  let v216 : BitVec 32 := Scalar.extui v43
  let c0_i32_246 : BitVec 32 := 0#32
  let v217 : BitVec 1 := Scalar.cmpi .ne v216 c0_i32_246
  v217

def k1_off21 (i : grid1.Coords) (k1_t1 : Fin k1_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c2_i32_128 : BitVec 32 := 2#32
  let c0_i32_24 : BitVec 32 := 0#32
  let c1_i32_25 : BitVec 32 := 1#32
  let arg22 : BitVec 32 := Scf.iv c0_i32_24 c1_i32_25 k1_t1
  let v133 : BitVec 32 := Scalar.muli c2_i32_128 arg22
  let v134 : BitVec 32 := Scalar.addi v3 v133
  let c1_i32_129 : BitVec 32 := 1#32
  let v135 : BitVec 32 := Scalar.addi v134 c1_i32_129
  let c2_i32_256 : BitVec 32 := 2#32
  let v228 : BitVec 32 := Scalar.addi v135 c2_i32_256
  let c0_i32_257 : BitVec 32 := 0#32
  let c0_i32_258 : BitVec 32 := 0#32
  let c0_i32_259 : BitVec 32 := 0#32
  ![v228.toNat, 0, 0, 0]
def k1_off22 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c2_i32_128 : BitVec 32 := 2#32
  let c0_i32_24 : BitVec 32 := 0#32
  let c1_i32_25 : BitVec 32 := 1#32
  let arg22 : BitVec 32 := Scf.iv c0_i32_24 c1_i32_25 k1_t1
  let v133 : BitVec 32 := Scalar.muli c2_i32_128 arg22
  let v134 : BitVec 32 := Scalar.addi v3 v133
  let c1_i32_129 : BitVec 32 := 1#32
  let v135 : BitVec 32 := Scalar.addi v134 c1_i32_129
  let c2_i32_256 : BitVec 32 := 2#32
  let v228 : BitVec 32 := Scalar.addi v135 c2_i32_256
  let c0_i32_263 : BitVec 32 := 0#32
  ![v228.toNat, 0]
def k1_cond5 (k1_t1 : Fin k1_t1_loop.trips) : BitVec 1 :=
  let c0_i32_24 : BitVec 32 := 0#32
  let c1_i32_25 : BitVec 32 := 1#32
  let arg22 : BitVec 32 := Scf.iv c0_i32_24 c1_i32_25 k1_t1
  let c0_i32_35 : BitVec 32 := 0#32
  let v42 : BitVec 1 := Scalar.cmpi .sgt arg22 c0_i32_35
  let v218 : BitVec 32 := Scalar.extui v42
  let c0_i32_247 : BitVec 32 := 0#32
  let v219 : BitVec 1 := Scalar.cmpi .ne v218 c0_i32_247
  v219

def k1_off23 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c2_i32_128 : BitVec 32 := 2#32
  let c0_i32_24 : BitVec 32 := 0#32
  let c1_i32_25 : BitVec 32 := 1#32
  let arg22 : BitVec 32 := Scf.iv c0_i32_24 c1_i32_25 k1_t1
  let v133 : BitVec 32 := Scalar.muli c2_i32_128 arg22
  let v134 : BitVec 32 := Scalar.addi v3 v133
  let c1_i32_129 : BitVec 32 := 1#32
  let v135 : BitVec 32 := Scalar.addi v134 c1_i32_129
  let c0_i32_256 : BitVec 32 := 0#32
  ![v135.toNat, 0]
@[reducible] def k1_t3_loop : Scf.Loop 32 :=
  let c0_i32_250 : BitVec 32 := 0#32
  let c200_i32_251 : BitVec 32 := 200#32
  let v223 : BitVec 32 := Scalar.addi c0_i32_250 c200_i32_251
  let c1_i32_252 : BitVec 32 := 1#32
  ⟨c0_i32_250, v223, c1_i32_252⟩
def k1_off24 (k1_t3 : Fin k1_t3_loop.trips) (c0_i32_258 : BitVec 32) : Fin 2 → Nat :=
  let c0_i32_257 : BitVec 32 := 0#32
  let c0_i32_250 : BitVec 32 := 0#32
  let c1_i32_252 : BitVec 32 := 1#32
  let arg23 : BitVec 32 := Scf.iv c0_i32_250 c1_i32_252 k1_t3
  let c1_i32_256 : BitVec 32 := 1#32
  let v228 : BitVec 32 := Scalar.muli arg23 c1_i32_256
  let v229 : BitVec 32 := Scalar.addi c0_i32_257 v228
  let v230 : BitVec 32 := Scalar.addi c0_i32_258 v229
  let v231 : Index := Scalar.indexCast v230
  let c0_259 : Index := 0#32
  ![v231.toNat, 0]
def k1_off25 (k1_t3 : Fin k1_t3_loop.trips) (c0_i32_260 : BitVec 32) : Fin 2 → Nat :=
  let c0_i32_257 : BitVec 32 := 0#32
  let c0_i32_250 : BitVec 32 := 0#32
  let c1_i32_252 : BitVec 32 := 1#32
  let arg23 : BitVec 32 := Scf.iv c0_i32_250 c1_i32_252 k1_t3
  let c1_i32_256 : BitVec 32 := 1#32
  let v228 : BitVec 32 := Scalar.muli arg23 c1_i32_256
  let v229 : BitVec 32 := Scalar.addi c0_i32_257 v228
  let v234 : BitVec 32 := Scalar.addi c0_i32_260 v229
  let v235 : Index := Scalar.indexCast v234
  let c16_261 : Index := 16#32
  ![v235.toNat, 16]
def k1_off26 (k1_t3 : Fin k1_t3_loop.trips) (c0_i32_262 : BitVec 32) : Fin 2 → Nat :=
  let c0_i32_257 : BitVec 32 := 0#32
  let c0_i32_250 : BitVec 32 := 0#32
  let c1_i32_252 : BitVec 32 := 1#32
  let arg23 : BitVec 32 := Scf.iv c0_i32_250 c1_i32_252 k1_t3
  let c1_i32_256 : BitVec 32 := 1#32
  let v228 : BitVec 32 := Scalar.muli arg23 c1_i32_256
  let v229 : BitVec 32 := Scalar.addi c0_i32_257 v228
  let v238 : BitVec 32 := Scalar.addi c0_i32_262 v229
  let v239 : Index := Scalar.indexCast v238
  let c32_263 : Index := 32#32
  ![v239.toNat, 32]
def k1_off27 (k1_t3 : Fin k1_t3_loop.trips) (c0_i32_264 : BitVec 32) : Fin 2 → Nat :=
  let c0_i32_257 : BitVec 32 := 0#32
  let c0_i32_250 : BitVec 32 := 0#32
  let c1_i32_252 : BitVec 32 := 1#32
  let arg23 : BitVec 32 := Scf.iv c0_i32_250 c1_i32_252 k1_t3
  let c1_i32_256 : BitVec 32 := 1#32
  let v228 : BitVec 32 := Scalar.muli arg23 c1_i32_256
  let v229 : BitVec 32 := Scalar.addi c0_i32_257 v228
  let v242 : BitVec 32 := Scalar.addi c0_i32_264 v229
  let v243 : Index := Scalar.indexCast v242
  let c48_265 : Index := 48#32
  ![v243.toNat, 48]
def k1_off28 (k1_t3 : Fin k1_t3_loop.trips) (c0_i32_266 : BitVec 32) : Fin 2 → Nat :=
  let c0_i32_257 : BitVec 32 := 0#32
  let c0_i32_250 : BitVec 32 := 0#32
  let c1_i32_252 : BitVec 32 := 1#32
  let arg23 : BitVec 32 := Scf.iv c0_i32_250 c1_i32_252 k1_t3
  let c1_i32_256 : BitVec 32 := 1#32
  let v228 : BitVec 32 := Scalar.muli arg23 c1_i32_256
  let v229 : BitVec 32 := Scalar.addi c0_i32_257 v228
  let v246 : BitVec 32 := Scalar.addi c0_i32_266 v229
  let v247 : Index := Scalar.indexCast v246
  let c64_267 : Index := 64#32
  ![v247.toNat, 64]
def k1_off29 (k1_t3 : Fin k1_t3_loop.trips) (c0_i32_268 : BitVec 32) : Fin 2 → Nat :=
  let c0_i32_257 : BitVec 32 := 0#32
  let c0_i32_250 : BitVec 32 := 0#32
  let c1_i32_252 : BitVec 32 := 1#32
  let arg23 : BitVec 32 := Scf.iv c0_i32_250 c1_i32_252 k1_t3
  let c1_i32_256 : BitVec 32 := 1#32
  let v228 : BitVec 32 := Scalar.muli arg23 c1_i32_256
  let v229 : BitVec 32 := Scalar.addi c0_i32_257 v228
  let v251 : BitVec 32 := Scalar.addi c0_i32_268 v229
  let v252 : Index := Scalar.indexCast v251
  let c80_269 : Index := 80#32
  ![v252.toNat, 80]
def k1_off30 (k1_t3 : Fin k1_t3_loop.trips) (c0_i32_270 : BitVec 32) : Fin 2 → Nat :=
  let c0_i32_257 : BitVec 32 := 0#32
  let c0_i32_250 : BitVec 32 := 0#32
  let c1_i32_252 : BitVec 32 := 1#32
  let arg23 : BitVec 32 := Scf.iv c0_i32_250 c1_i32_252 k1_t3
  let c1_i32_256 : BitVec 32 := 1#32
  let v228 : BitVec 32 := Scalar.muli arg23 c1_i32_256
  let v229 : BitVec 32 := Scalar.addi c0_i32_257 v228
  let v256 : BitVec 32 := Scalar.addi c0_i32_270 v229
  let v257 : Index := Scalar.indexCast v256
  let c96_271 : Index := 96#32
  ![v257.toNat, 96]
def k1_off31 (k1_t3 : Fin k1_t3_loop.trips) (c0_i32_272 : BitVec 32) : Fin 2 → Nat :=
  let c0_i32_257 : BitVec 32 := 0#32
  let c0_i32_250 : BitVec 32 := 0#32
  let c1_i32_252 : BitVec 32 := 1#32
  let arg23 : BitVec 32 := Scf.iv c0_i32_250 c1_i32_252 k1_t3
  let c1_i32_256 : BitVec 32 := 1#32
  let v228 : BitVec 32 := Scalar.muli arg23 c1_i32_256
  let v229 : BitVec 32 := Scalar.addi c0_i32_257 v228
  let v261 : BitVec 32 := Scalar.addi c0_i32_272 v229
  let v262 : Index := Scalar.indexCast v261
  let c112_273 : Index := 112#32
  ![v262.toNat, 112]

def k1_chk2 (v366 : IVec S16 32) : Prop :=
  (∀ a x, ((![v366] : Fin 1 → IVec S16 32) a x).toNat < S256.size a)
theorem k1_idx2_inb : ∀ (v366 : IVec S16 32) (k1_hw2 : k1_chk2 v366), ∀ a x, ((![v366] : Fin 1 → IVec S16 32) a x).toNat < S256.size a := fun v366 k1_hw2 => k1_hw2
def k1_off32 (i : grid1.Coords) (c2_i32_28 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c32_i32_27 : BitVec 32 := 32#32
  let v30 : BitVec 32 := Scalar.addi v3 c32_i32_27
  let v31 : BitVec 32 := Scalar.subi v30 c2_i32_28
  let c0_i32_29 : BitVec 32 := 0#32
  ![v31.toNat, 0]
abbrev grid2 : Pipeline.Grid := .none

abbrev stage2_0 : Fin 1 → Memref sig .tc .vmem S1024x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1024x200 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1024x200 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1024x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x128 : Shape := ⟨2, ![1024, 128]⟩
abbrev S1024x200 : Shape := ⟨2, ![1024, 200]⟩
abbrev S384x128 : Shape := ⟨2, ![384, 128]⟩
abbrev S384 : Shape := ⟨1, ![384]⟩
abbrev S384x384 : Shape := ⟨2, ![384, 384]⟩
abbrev S1000x128 : Shape := ⟨2, ![1000, 128]⟩
abbrev S100000x128 : Shape := ⟨2, ![100000, 128]⟩
abbrev S128x384 : Shape := ⟨2, ![128, 384]⟩
abbrev S1024x384 : Shape := ⟨2, ![1024, 384]⟩
abbrev S1x384 : Shape := ⟨2, ![1, 384]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1024x200x384 : Shape := ⟨3, ![1024, 200, 384]⟩
abbrev S1024x384x1 : Shape := ⟨3, ![1024, 384, 1]⟩
abbrev S1024 : Shape := ⟨1, ![1024]⟩
abbrev S1024x1 : Shape := ⟨2, ![1024, 1]⟩

abbrev nBuf : Space → Nat
  | .hbm => 127
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x200, .i32⟩
  | .hbm, ⟨2, _⟩ => ⟨S1024x200, .i32⟩
  | .hbm, ⟨3, _⟩ => ⟨S1024x200, .i32⟩
  | .hbm, ⟨4, _⟩ => ⟨S1024x200, .f32⟩
  | .hbm, ⟨5, _⟩ => ⟨S384x128, .f32⟩
  | .hbm, ⟨6, _⟩ => ⟨S384, .f32⟩
  | .hbm, ⟨7, _⟩ => ⟨S384x384, .f32⟩
  | .hbm, ⟨8, _⟩ => ⟨S384, .f32⟩
  | .hbm, ⟨9, _⟩ => ⟨S1000x128, .f32⟩
  | .hbm, ⟨10, _⟩ => ⟨S100000x128, .f32⟩
  | .hbm, ⟨11, _⟩ => ⟨S100000x128, .f32⟩
  | .hbm, ⟨12, _⟩ => ⟨S128x384, .f32⟩
  | .hbm, ⟨13, _⟩ => ⟨S1024x384, .f32⟩
  | .hbm, ⟨14, _⟩ => ⟨S1x384, .f32⟩
  | .hbm, ⟨15, _⟩ => ⟨S1024x384, .f32⟩
  | .hbm, ⟨16, _⟩ => ⟨S1024x384, .f32⟩
  | .hbm, ⟨17, _⟩ => ⟨S_, .f32⟩
  | .hbm, ⟨18, _⟩ => ⟨S1024x384, .f32⟩
  | .hbm, ⟨19, _⟩ => ⟨S1024x384, .f32⟩
  | .hbm, ⟨20, _⟩ => ⟨S384x384, .f32⟩
  | .hbm, ⟨21, _⟩ => ⟨S1024x384, .f32⟩
  | .hbm, ⟨22, _⟩ => ⟨S1x384, .f32⟩
  | .hbm, ⟨23, _⟩ => ⟨S1024x384, .f32⟩
  | .hbm, ⟨24, _⟩ => ⟨S1024x384, .f32⟩
  | .hbm, ⟨25, _⟩ => ⟨S_, .i32⟩
  | .hbm, ⟨26, _⟩ => ⟨S1024x200, .i32⟩
  | .hbm, ⟨27, _⟩ => ⟨S1024x200, .i1⟩
  | .hbm, ⟨28, _⟩ => ⟨S_, .i32⟩
  | .hbm, ⟨29, _⟩ => ⟨S1024x200, .i32⟩
  | .hbm, ⟨30, _⟩ => ⟨S1024x200, .i32⟩
  | .hbm, ⟨31, _⟩ => ⟨S1024x200, .i32⟩
  | .hbm, ⟨32, _⟩ => ⟨S1024x200x1, .i32⟩
  | .hbm, ⟨33, _⟩ => ⟨S1, .i32⟩
  | .hbm, ⟨34, _⟩ => ⟨S_, .i32⟩
  | .hbm, ⟨35, _⟩ => ⟨S1024x200x1, .i32⟩
  | .hbm, ⟨36, _⟩ => ⟨S1024x200x1, .i1⟩
  | .hbm, ⟨37, _⟩ => ⟨S1x1x1, .i32⟩
  | .hbm, ⟨38, _⟩ => ⟨S1024x200x1, .i32⟩
  | .hbm, ⟨39, _⟩ => ⟨S1024x200x1, .i1⟩
  | .hbm, ⟨40, _⟩ => ⟨S1024x200x1, .i1⟩
  | .hbm, ⟨41, _⟩ => ⟨S_, .i1⟩
  | .hbm, ⟨42, _⟩ => ⟨S1024x200, .i1⟩
  | .hbm, ⟨43, _⟩ => ⟨S1024x200x128, .f32⟩
  | .hbm, ⟨44, _⟩ => ⟨S1024x200x128, .i1⟩
  | .hbm, ⟨45, _⟩ => ⟨S_, .f32⟩
  | .hbm, ⟨46, _⟩ => ⟨S1024x200x128, .f32⟩
  | .hbm, ⟨47, _⟩ => ⟨S1024x200x128, .f32⟩
  | .hbm, ⟨48, _⟩ => ⟨S_, .i32⟩
  | .hbm, ⟨49, _⟩ => ⟨S1024x200, .i32⟩
  | .hbm, ⟨50, _⟩ => ⟨S1024x200, .i1⟩
  | .hbm, ⟨51, _⟩ => ⟨S_, .i32⟩
  | .hbm, ⟨52, _⟩ => ⟨S1024x200, .i32⟩
  | .hbm, ⟨53, _⟩ => ⟨S1024x200, .i32⟩
  | .hbm, ⟨54, _⟩ => ⟨S1024x200, .i32⟩
  | .hbm, ⟨55, _⟩ => ⟨S1024x200x1, .i32⟩
  | .hbm, ⟨56, _⟩ => ⟨S1, .i32⟩
  | .hbm, ⟨57, _⟩ => ⟨S_, .i32⟩
  | .hbm, ⟨58, _⟩ => ⟨S1024x200x1, .i32⟩
  | .hbm, ⟨59, _⟩ => ⟨S1024x200x1, .i1⟩
  | .hbm, ⟨60, _⟩ => ⟨S1x1x1, .i32⟩
  | .hbm, ⟨61, _⟩ => ⟨S1024x200x1, .i32⟩
  | .hbm, ⟨62, _⟩ => ⟨S1024x200x1, .i1⟩
  | .hbm, ⟨63, _⟩ => ⟨S1024x200x1, .i1⟩
  | .hbm, ⟨64, _⟩ => ⟨S_, .i1⟩
  | .hbm, ⟨65, _⟩ => ⟨S1024x200, .i1⟩
  | .hbm, ⟨66, _⟩ => ⟨S1024x200x128, .f32⟩
  | .hbm, ⟨67, _⟩ => ⟨S1024x200x128, .i1⟩
  | .hbm, ⟨68, _⟩ => ⟨S_, .f32⟩
  | .hbm, ⟨69, _⟩ => ⟨S1024x200x128, .f32⟩
  | .hbm, ⟨70, _⟩ => ⟨S1024x200x128, .f32⟩
  | .hbm, ⟨71, _⟩ => ⟨S_, .i32⟩
  | .hbm, ⟨72, _⟩ => ⟨S1024x200, .i32⟩
  | .hbm, ⟨73, _⟩ => ⟨S1024x200, .i1⟩
  | .hbm, ⟨74, _⟩ => ⟨S_, .i32⟩
  | .hbm, ⟨75, _⟩ => ⟨S1024x200, .i32⟩
  | .hbm, ⟨76, _⟩ => ⟨S1024x200, .i32⟩
  | .hbm, ⟨77, _⟩ => ⟨S1024x200, .i32⟩
  | .hbm, ⟨78, _⟩ => ⟨S1024x200x1, .i32⟩
  | .hbm, ⟨79, _⟩ => ⟨S1, .i32⟩
  | .hbm, ⟨80, _⟩ => ⟨S_, .i32⟩
  | .hbm, ⟨81, _⟩ => ⟨S1024x200x1, .i32⟩
  | .hbm, ⟨82, _⟩ => ⟨S1024x200x1, .i1⟩
  | .hbm, ⟨83, _⟩ => ⟨S1x1x1, .i32⟩
  | .hbm, ⟨84, _⟩ => ⟨S1024x200x1, .i32⟩
  | .hbm, ⟨85, _⟩ => ⟨S1024x200x1, .i1⟩
  | .hbm, ⟨86, _⟩ => ⟨S1024x200x1, .i1⟩
  | .hbm, ⟨87, _⟩ => ⟨S_, .i1⟩
  | .hbm, ⟨88, _⟩ => ⟨S1024x200, .i1⟩
  | .hbm, ⟨89, _⟩ => ⟨S1024x200x128, .f32⟩
  | .hbm, ⟨90, _⟩ => ⟨S1024x200x128, .i1⟩
  | .hbm, ⟨91, _⟩ => ⟨S_, .f32⟩
  | .hbm, ⟨92, _⟩ => ⟨S1024x200x128, .f32⟩
  | .hbm, ⟨93, _⟩ => ⟨S1024x200x128, .f32⟩
  | .hbm, ⟨94, _⟩ => ⟨S1024x200x384, .f32⟩
  | .hbm, ⟨95, _⟩ => ⟨S1024x384x1, .f32⟩
  | .hbm, ⟨96, _⟩ => ⟨S1024x200x1, .f32⟩
  | .hbm, ⟨97, _⟩ => ⟨S1024x200, .f32⟩
  | .hbm, ⟨98, _⟩ => ⟨S_, .f32⟩
  | .hbm, ⟨99, _⟩ => ⟨S1024x200, .f32⟩
  | .hbm, ⟨100, _⟩ => ⟨S1024x200, .f32⟩
  | .hbm, ⟨101, _⟩ => ⟨S_, .f32⟩
  | .hbm, ⟨102, _⟩ => ⟨S1024x200, .f32⟩
  | .hbm, ⟨103, _⟩ => ⟨S1024x200, .f32⟩
  | .hbm, ⟨104, _⟩ => ⟨S1024x200, .f32⟩
  | .hbm, ⟨105, _⟩ => ⟨S_, .f32⟩
  | .hbm, ⟨106, _⟩ => ⟨S1024, .f32⟩
  | .hbm, ⟨107, _⟩ => ⟨S_, .f32⟩
  | .hbm, ⟨108, _⟩ => ⟨S1024, .f32⟩
  | .hbm, ⟨109, _⟩ => ⟨S1024, .f32⟩
  | .hbm, ⟨110, _⟩ => ⟨S1024x1, .f32⟩
  | .hbm, ⟨111, _⟩ => ⟨S1024x200, .f32⟩
  | .hbm, ⟨112, _⟩ => ⟨S1024x200, .f32⟩
  | .hbm, ⟨113, _⟩ => ⟨S1024x200, .f32⟩
  | .hbm, ⟨114, _⟩ => ⟨S_, .f32⟩
  | .hbm, ⟨115, _⟩ => ⟨S1024, .f32⟩
  | .hbm, ⟨116, _⟩ => ⟨S1024x1, .f32⟩
  | .hbm, ⟨117, _⟩ => ⟨S1024x200, .f32⟩
  | .hbm, ⟨118, _⟩ => ⟨S1024x200, .f32⟩
  | .hbm, ⟨119, _⟩ => ⟨S1024x200, .f32⟩
  | .hbm, ⟨120, _⟩ => ⟨S_, .f32⟩
  | .hbm, ⟨121, _⟩ => ⟨S1024x200, .f32⟩
  | .hbm, ⟨122, _⟩ => ⟨S1024x200, .f32⟩
  | .hbm, ⟨123, _⟩ => ⟨S1024x200, .f32⟩
  | .hbm, ⟨124, _⟩ => ⟨S1024x200, .f32⟩
  | .hbm, ⟨125, _⟩ => ⟨S_, .f32⟩
  | .hbm, ⟨126, _⟩ => ⟨S1024, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v11 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_call2_cst : Ref sig .tc := ⟨.hbm, 68, rfl⟩
abbrev main_call2_v15 : Ref sig .tc := ⟨.hbm, 69, rfl⟩
abbrev main_v12 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_c_1 : Ref sig .tc := ⟨.hbm, 79, rfl⟩
abbrev main_call3_c_2 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_3 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_call3_cst : Ref sig .tc := ⟨.hbm, 91, rfl⟩
abbrev main_call3_v15 : Ref sig .tc := ⟨.hbm, 92, rfl⟩
abbrev main_v13 : Ref sig .tc := ⟨.hbm, 93, rfl⟩
abbrev main_v14 : Ref sig .tc := ⟨.hbm, 94, rfl⟩
abbrev main_v15 : Ref sig .tc := ⟨.hbm, 95, rfl⟩
abbrev main_v16 : Ref sig .tc := ⟨.hbm, 96, rfl⟩
abbrev main_v17 : Ref sig .tc := ⟨.hbm, 97, rfl⟩
abbrev main_cst : Ref sig .tc := ⟨.hbm, 98, rfl⟩
abbrev main_v18 : Ref sig .tc := ⟨.hbm, 99, rfl⟩
abbrev main_v19 : Ref sig .tc := ⟨.hbm, 100, rfl⟩
abbrev main_cst_0 : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_cst_1 : Ref sig .tc := ⟨.hbm, 105, rfl⟩
abbrev main_v23 : Ref sig .tc := ⟨.hbm, 106, rfl⟩
abbrev main_cst_2 : Ref sig .tc := ⟨.hbm, 107, rfl⟩
abbrev main_v24 : Ref sig .tc := ⟨.hbm, 108, rfl⟩
abbrev main_v25 : Ref sig .tc := ⟨.hbm, 109, rfl⟩
abbrev main_v26 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩
abbrev main_cst_3 : Ref sig .tc := ⟨.hbm, 114, rfl⟩
abbrev main_v30 : Ref sig .tc := ⟨.hbm, 115, rfl⟩
abbrev main_v31 : Ref sig .tc := ⟨.hbm, 116, rfl⟩
abbrev main_v32 : Ref sig .tc := ⟨.hbm, 117, rfl⟩
abbrev main_v33 : Ref sig .tc := ⟨.hbm, 118, rfl⟩
abbrev main_v34 : Ref sig .tc := ⟨.hbm, 119, rfl⟩
abbrev main_cst_4 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_cst_5 : Ref sig .tc := ⟨.hbm, 125, rfl⟩
abbrev main_v39 : Ref sig .tc := ⟨.hbm, 126, rfl⟩

abbrev nD : Nat := 1
abbrev τ : Topo := Topo.v7x

variable {F : FTy → Type} [FloatOps F]
-- ==== Proof.Gather.lean ====
/-
  Several indirect gathers in flight at once on ONE DMA semaphore of a tile: each gather's rows are transfers of one
  batch (`Transfers.Batch`), so the rule for the issue takes the batch from `j0` transfers started to `j0` and as many
  more as the gather has rows, and hands each row's resources to the batch. Once the batch's last wait has handed back
  every delivery, a gather's rows join into its destination written with the gathered rows.
-/
module

public import Idealize.ShloMosaic.Lib.SparseCore.Stream
public import Idealize.ShloMosaic.Lib.Batch
public import Idealize.ShloMosaic.Lib.Tactic

@[expose] public section

noncomputable section

namespace Cert.Proof.Gather

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.SparseCore Idealize.ShloMosaic.Transfers

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- What the transfer of row `j` of a gather delivers: the destination's row written with the source's row that entry
    `j` of the list names, the entry's share and the row's piece of the source's share. -/
def rowDel (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (r : Fin (s.size hg.axis') → Fin (s₀.size hg.axis)) (ho : 0 < s.size hg.axis') (j : Fin (s.size hg.axis')) : sProp 𝕄 :=
  iprop(((dst.view.loc c ↦[(dst.view.slice (s.rowRect hg.axis' j)).set]{fullShare}
      ((dst.view.slice (s.rowRect hg.axis' j)).write (Elt F) fd (fun i => src.view.read (Elt F) fs (hg.rowIdx (r j) i)) Finset.univ))
    ∗ (offs.view.loc c ↦[{offs.view.emb (si.rowMajor.symm (j.cast hn.symm))}]{qo} fo))
    ∗ (src.view.loc c ↦[src.view.set]{pieceOf q _ ho j} fs))

instance rowDel_storable (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (r : Fin (s.size hg.axis') → Fin (s₀.size hg.axis)) (ho : 0 < s.size hg.axis') (j : Fin (s.size hg.axis')) :
    Storable (upEmb : UEmb _ 𝕄) (rowDel c src dst hg offs hn q qo fs fd fo r ho j) := by
  unfold rowDel; infer_instance

omit [Preorder Lvl] in
/-- The transfers not yet started from `k` on are the next `m` and those from `k + m` on. -/
theorem bigSep_pending_add {n : ℕ} (Φ : Fin n → sProp 𝕄) (k : ℕ) :
    ∀ (m : ℕ) (h : k + m ≤ n), bigSep (pending k) Φ
      = iprop((bigSep Finset.univ fun j : Fin m => Φ ⟨k + j.val, by omega⟩) ∗ bigSep (pending (k + m)) Φ)
  | 0, h => by
    rw [show (Finset.univ : Finset (Fin 0)) = ∅ from rfl, BI.bigSep_empty]
    have h1 : (bigSep (pending k) Φ : sProp 𝕄) ⊢ iprop(emp ∗ bigSep (pending k) Φ) := emp_sep.2
    have h2 : iprop(emp ∗ bigSep (pending k) Φ) ⊢ (bigSep (pending k) Φ : sProp 𝕄) := emp_sep.1
    exact BI.Entails.antisymm h1 h2
  | m + 1, h => by
    rw [bigSep_pending_add Φ k m (by omega), bigSep_pending_step Φ (k + m) (by omega), Fin.univ_castSuccEmb, Finset.cons_eq_insert,
      BI.bigSep_insert (by simp), BI.bigSep_map]
    have h1 : ∀ A B C : sProp 𝕄, iprop(A ∗ B ∗ C) ⊢ iprop((B ∗ A) ∗ C) := fun A B C => by
      iintro ⟨H1, H2, H3⟩
      isplitr [H3]
      · isplitl [H2]; · iexact H2
        iexact H1
      · iexact H3
    have h2 : ∀ A B C : sProp 𝕄, iprop((B ∗ A) ∗ C) ⊢ iprop(A ∗ B ∗ C) := fun A B C => by
      iintro ⟨⟨H1, H2⟩, H3⟩
      isplitl [H2]; · iexact H2
      isplitl [H1]; · iexact H1
      iexact H3
    exact BI.Entails.antisymm (h1 _ _ _) (h2 _ _ _)

/-- The issue of a gather whose rows are the batch's next transfers. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N m : ℕ) (hm : s.size hg.axis' = m)
    (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {n : ℕ} {D : Fin n → sProp 𝕄} {j0 u : ℕ} (hj : j0 + m ≤ n) (hu : u ≤ j0 * N)
    (hD : ∀ j : Fin (s.size hg.axis'), rowDel c src dst hg offs hn q qo fs fd fo (rows (offs.view.read (Elt F) fo) hn hin) ho j
      ⊢ D ⟨j0 + j.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j0 u)
      ⊢ iprop((Batch EC c (.dma sem) ι N D (j0 + m) u -∗ wp frame (wpE defs 𝒱 c bd) Set.univ (k ⟨⟩) Q)
          -∗ wp frame (wpE defs 𝒱 c bd) Set.univ (enqueueIndirectGather hp src dst hg offs hn sem hsrc he hsp hr >>= k) Q) := by
  subst hm
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let w : (j : Fin (s.size hg.axis')) → (s.rowShape hg.axis').Idx → Elt F e := fun j i => src.view.read (Elt F) fs (hg.rowIdx (r j) i)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsum : ∑ j, (dst.slice (s.rowRect hg.axis' j) (s.stride_rowRect hg.axis' j)).view.dmaCredit = s.size hg.axis' * N :=
    sum_rowCredit_eq _ hN rfl
  unfold Batch
  iintro ⟨Hs, Hd, Ho, ⟨%γ, %γ₀, %κ, #Hinv, HI, H0, Hcred⟩⟩ Hk
  ihave HI' := (Entails.of_eq (bigSep_pending_add (fun t => count EC (γ t) 0) j0 _ hj)) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι _ hA hrd hsum) $$ [Hd' Ho' Hs' Hγ]
  · have hrow : ∀ j : Fin (s.size hg.axis'), iprop(inv κ (batchBody EC (c, SemLoc.dma sem) N D γ γ₀)
          ∗ ((((dst.view.loc c ↦[(dst.view.slice (s.rowRect hg.axis' j)).set]{fullShare} fd) ∗ S.heldEntry qo fo j)
          ∗ (src.view.loc c ↦[src.view.set]{pieceOf q _ ho j} fs)) ∗ count EC (γ ⟨j0 + j.val, by omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare} ((dst.view.slice (s.rowRect hg.axis' j)).write (Elt F) fd (w j) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hc : (dst.slice (s.rowRect hg.axis' j) (s.stride_rowRect hg.axis' j)).view.dmaCredit = N := hN j
        have hcu := batch_creditUpdate EC (g := (c, SemLoc.dma sem)) (N := N) (D := D) (γ := γ) (γ₀ := γ₀) (ι := κ) ⟨j0 + j.val, by omega⟩ (hD j)
        rw [← hc] at hcu ⊢
        iapply hcu
        isplitr; · iexact Hinv
        iexact Hγj
    unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun j _ => hrow j)
    isplitr; · iexact Hinv
    iexact H3
  iintro Hcred'
  iapply Hk
  iexists γ, γ₀, κ
  isplitr; · iexact Hinv
  isplitl [HI]; · iexact HI
  isplitl [H0]; · iexact H0
  rw [show (j0 + s.size hg.axis') * N - u = (j0 * N - u) + s.size hg.axis' * N by rw [Nat.add_mul]; omega, ← tallyAt_add]
  icombine Hcred Hcred' as H
  iexact H

/-- The rows' deliveries of one gather are its destination written with the gathered rows, its source's share and its
    list's share. -/
theorem rowDel_join {src : Memref sig c.2.kind sp s₀ e} {dst : Memref sig c.2.kind .vmem s e} {hg : s₀.Gathers a s}
    {offs : Memref sig c.2.kind .vmem si .i32} {hn : si.numel = s.size hg.axis'} {q qo : PosShare TreeShare}
    {fs : Buf (Elt F) (src.view.loc c)} {fd : Buf (Elt F) (dst.view.loc c)} {fo : Buf (Elt F) (offs.view.loc c)}
    {r : Fin (s.size hg.axis') → Fin (s₀.size hg.axis)} {ho : 0 < s.size hg.axis'} :
    (bigSep Finset.univ fun j => rowDel (F := F) (Ix := Ix) (Name := Name) (U := U) (Lvl := Lvl) c src dst hg offs hn q qo fs fd fo r ho j)
      ⊢ iprop((dst.view.loc c ↦[dst.view.set]{fullShare} (dst.view.write (Elt F) fd (gatherPayload hg (src.view.read (Elt F) fs) r) Finset.univ))
        ∗ (src.view.loc c ↦[src.view.set]{q} fs) ∗ (offs.view.loc c ↦[offs.view.set]{qo} fo)) := by
  have hW : ∀ (j : Fin (s.size hg.axis')) (i : (s.rowShape hg.axis').Idx), src.view.read (Elt F) fs (hg.rowIdx (r j) i)
      = gatherPayload hg (src.view.read (Elt F) fs) r ((s.rowRect hg.axis' j).emb i) := fun j i => by
    unfold gatherPayload; rw [Shape.Gathers.idx_rowRect_emb]
  have hen : Function.Bijective (fun j : Fin (s.size hg.axis') => si.rowMajor.symm (j.cast hn.symm)) :=
    si.rowMajor.symm.bijective.comp (finCongr hn.symm).bijective
  unfold rowDel
  iintro HD
  ihave H1 := bigSep_sep_out _ _ _ $$ HD
  icases H1 with ⟨H2, Hsrc⟩
  ihave H3 := bigSep_sep_out _ _ _ $$ H2
  icases H3 with ⟨Hrows, Hoffs⟩
  isplitl [Hrows]; · iapply (pointsTo_rows_write c dst.view hg.axis' fd (fun j i => src.view.read (Elt F) fs (hg.rowIdx (r j) i)) _ hW); iexact Hrows
  isplitl [Hsrc]; · iapply (Entails.of_eq (pointsTo_piecesOf (src.view.set) fs ho q).symm) $$ Hsrc
  iapply (Entails.of_eq (pointsTo_entries c offs.view _ hen qo fo).symm) $$ Hoffs

/-- The deliveries of `a` gathers of `b` rows each, one after another: transfer `t` is row `t % b` of gather `t / b`. -/
def pack {M : Type} [URA M] {a b : ℕ} (A : Fin a → Fin b → sProp M) (t : Fin (a * b)) : sProp M :=
  A (finProdFinEquiv.symm t).1 (finProdFinEquiv.symm t).2

theorem pack_apply {M : Type} [URA M] {a b : ℕ} (A : Fin a → Fin b → sProp M) (i : Fin a) (j : Fin b) (t : Fin (a * b))
    (h : t.val = b * i.val + j.val) : pack A t = A i j := by
  have : t = finProdFinEquiv (i, j) := Fin.ext (by rw [h]; simp [finProdFinEquiv]; omega)
  unfold pack; rw [this, Equiv.symm_apply_apply]

theorem bigSep_pack {M : Type} [URA M] {a b : ℕ} (A : Fin a → Fin b → sProp M) :
    bigSep Finset.univ (pack A) = bigSep Finset.univ fun i => bigSep Finset.univ (A i) := by
  rw [BI.bigSep_univ_equiv finProdFinEquiv (pack A), BI.bigSep_univ_prod]
  unfold pack
  simp only [Equiv.symm_apply_apply]

end Cert.Proof.Gather

end
-- ==== Proof.Setup.lean ====
/-
  The program as the launch sees it: the SparseCore call's configuration, the resource algebra, the buffers the
  SparseCore's tiles work on.
-/
module

public import proofs.«01_k».proof.Defs
public import proofs.«01_k».proof.Proof.Gather
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic
public import Idealize.ShloMosaic.Lib.Pipeline.FrameBody
public import Idealize.ShloMosaic.Lib.ValueIdxCore
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := (UH × UP) × Counters

local notation "𝕄" => MT nD τ sig (HIx 1) (Elt F) ℕ UU ℕ

/-- The thread of the tile a grid coordinate names. -/
abbrev tile (d : Dev nD) (i : grid1.Coords) : Thread nD τ := V d ((i 0).castLE hcore1) ((i 1).castLE hsub1)

/-! ## Vectors read off a memref -/

section Own

variable {nD : Nat} {τ : Topo} {sig : RefSig} {Ix : Type} [DecidableEq Ix] {Val : EltTy → Type} {Name : Type} [DecidableEq Name]
variable {U : Type} [URA U] {Lvl : Type} [Preorder Lvl] {Λ : Labels} {defs : Defs nD τ sig Val Λ}
variable (𝒱 : Variants) (c : Thread nD τ) (bd : Option 𝒱.V) {α : Type} {Q : α → sProp (MT nD τ sig Ix Val Name U Lvl)}

/-- A load from an owned memref reads the owned vector at the rectangle's indices. -/
theorem wp_load_owns {cs : CoreSpace} {s : Shape} {e : EltTy} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) Set.univ (k (View.ld X r)) Q)
        -∗ wp frame (wpE defs 𝒱 c bd) Set.univ (Prog.lift (.load m r.toLoadRect hl) >>= k) Q) := by
  iintro H Hk
  unfold owns
  icases H with ⟨%f, %hf, H⟩
  subst hf
  iapply (wp_load (defs := defs) 𝒱 c bd Set.univ (m := m) (r := r.toLoadRect) (hl := hl) (k := k) (q := q) (f := f) (S := m.view.set)
    (View.setOn_subset_set _ _)) $$ H
  iintro H
  iapply Hk
  iexists f
  isplitr; · ipureintro; rfl
  iexact H

theorem set_access_whole {κ : Kind} {sp : Space} {s : Shape} {e : EltTy} (m : Memref sig κ sp s e) :
    (m.access (.whole s)).set = m.view.set := by
  rw [View.set_slice]; erw [Rect.set_whole]; exact View.setOn_univ _

theorem read_access_whole {κ : Kind} {sp : Space} {s : Shape} {e : EltTy} (m : Memref sig κ sp s e) (f : m.view.ty.Contents Val) :
    (m.access (.whole s)).read Val f = m.view.read Val f := by
  funext x
  change m.view.read Val f ((Rect.whole s).emb x) = _
  rw [Rect.emb_whole_apply]

theorem read_write_access_whole {κ : Kind} {sp : Space} {s : Shape} {e : EltTy} (m : Memref sig κ sp s e) (f : m.view.ty.Contents Val)
    (w : s.Idx → Val e) : m.view.read Val ((m.access (.whole s)).write Val f w Finset.univ) = w := by
  rw [← read_access_whole]; exact View.read_write_univ _ _

end Own

section OwnF

variable {nD : Nat} {τ : Topo} {sig : RefSig} {Ix : Type} [DecidableEq Ix] {F : FTy → Type} [FloatOps F] {Name : Type} [DecidableEq Name]
variable {U : Type} [URA U] {Lvl : Type} [Preorder Lvl] {Λ : Labels} {defs : Defs nD τ sig (Elt F) Λ}
variable (𝒱 : Variants) (c : Thread nD τ) (bd : Option 𝒱.V) {α : Type} {Q : α → sProp (MT nD τ sig Ix (Elt F) Name U Lvl)}

/-- An indexed store into an owned memref writes the owned vector. -/
theorem wp_storeIdx_owns {s : Shape} {e : EltTy} {d : Fin 1 → Nat} {base : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (base.access (.whole s)).Stores Finset.univ}
    {k : PUnit → Prog (TpuEff nD τ sig (Elt F) Λ c.2) α} {X : Vec F s e} :
    (owns c base fullShare X : sProp (MT nD τ sig Ix (Elt F) Name U Lvl))
      ⊢ iprop((owns c base fullShare (storeIdx X idxs v mask add h) -∗ wp frame (wpE defs 𝒱 c bd) Set.univ (k ⟨⟩) Q)
        -∗ wp frame (wpE defs 𝒱 c bd) Set.univ (SparseCore.vectorStoreIdx base idxs v mask add h hs >>= k) Q) := by
  iintro H Hk
  unfold owns
  icases H with ⟨%f, %hf, H⟩
  subst hf
  iapply (SparseCore.wp_vectorStoreIdx (defs := defs) 𝒱 c bd Set.univ (base := base) (f := f)) $$ [H]
  · rw [set_access_whole]; iexact H
  iintro H
  iapply Hk
  rw [set_access_whole, read_access_whole]
  iexists _
  isplitr
  rotate_left
  · iexact H
  · ipureintro; exact read_write_access_whole _ _ _

end OwnF

end Cert.Proof
-- ==== Proof.Action.lean ====
/-
  The action loop of a tile: for each of the 200 actions, 24 lanes-of-16 products of the gathered row with the state's
  row, summed, folded across the lanes, and the first lane stored at the action's place of the score buffer.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The score of one action -/

/-- Columns `16 k … 16 k + 15` of the state's row. -/
def xv (X : Vec F S384 .f32) (k : Fin 24) : Vec F S16 .f32 := fun x => X (ix1 ⟨16 * k.val + (x 0).val, by
  have := k.isLt; have h : (x 0).val < 16 := (x 0).isLt; omega⟩)

/-- Columns `16 (k % 8) … 16 (k % 8) + 15` of gathered row `200 (k / 8) + a`. -/
def rv (R : Vec F S600x128 .f32) (a : Fin 200) (k : Fin 24) : Vec F S1x16 .f32 := fun x =>
  R (ix2 ⟨200 * (k.val / 8) + a.val, by have := k.isLt; have := a.isLt; omega⟩
    ⟨16 * (k.val % 8) + (x 1).val, by have := k.isLt; have h : (x 1).val < 16 := (x 1).isLt; omega⟩)

/-- The lanes of one action's score: the products summed four ways, the four sums added, then folded by four
    rotations. -/
def scoreVec [FloatOps F] (x : Fin 24 → Vec F S16 .f32) (r : Fin 24 → Vec F S1x16 .f32) : Vec F S16 .f32 :=
  k1_pay28 (x 22) (x 23)
    (k1_pay10 (x 18) (k1_pay5 (x 10) (k1_pay4 (x 2) (x 6) (r 2) (r 6)) (r 10)) (k1_pay9 (x 14) (r 14)) (r 18))
    (k1_pay11 (x 15) (x 19) (k1_pay6 (x 7) (x 11) (k1_pay1 (x 3) (r 3)) (r 7) (r 11)) (r 15) (r 19))
    (k1_pay12 (x 16) (x 20) (k1_pay7 (x 8) (x 12) (k1_pay2 (x 0) (x 4) (r 0) (r 4)) (r 8) (r 12)) (r 16) (r 20))
    (k1_pay13 (x 17) (x 21) (k1_pay8 (x 9) (x 13) (k1_pay3 (x 1) (x 5) (r 1) (r 5)) (r 9) (r 13)) (r 17) (r 21))
    (r 22) (r 23)

/-- The score of action `a`: lane 0. -/
def score [FloatOps F] (R : Vec F S600x128 .f32) (X : Vec F S384 .f32) (a : Fin 200) : Elt F .f32 :=
  scoreVec (xv X) (rv R a) (ix1 0)

/-! ## The indexed store -/

/-- The lane numbers. -/
abbrev lanes : IVec S16 32 := iota .scVector S16 32 [0] iota_S16_d0_w32_scVector

theorem lanes_apply (x : S16.Idx) : lanes x = BitVec.ofNat 32 (x 0).val := by
  obtain ⟨a, rfl⟩ : ∃ a, x = ix1 a := ⟨x 0, eq_ix1 x⟩
  revert a; decide

theorem mask_apply (x : S16.Idx) : k1_pay27 lanes x = if (x 0).val = 0 then 1#1 else 0#1 := by
  obtain ⟨a, rfl⟩ : ∃ a, x = ix1 a := ⟨x 0, eq_ix1 x⟩
  revert a; decide

/-- A fold over 16 steps of which only the first does anything. -/
theorem foldl_head {β : Type} (f : β → Fin 16 → β) (h : ∀ (k : Fin 15) (g : β), f g k.succ = g) (g : β) : (List.finRange 16).foldl f g = f g 0 := by
  have hrest : ∀ (l : List (Fin 15)) (g : β), (l.map Fin.succ).foldl f g = g := by
    intro l
    induction l with
    | nil => intro g; rfl
    | cons k l ih => intro g; rw [List.map_cons, List.foldl_cons, h]; exact ih g
  rw [List.finRange_succ, List.foldl_cons]
  exact hrest _ _

/-- A store whose only set lane is lane 0, all lanes naming place `a`: place `a` holds lane 0, every other keeps. -/
theorem storeIdx_lane0 [FloatOps F] (g : Vec F S256 .f32) (w : IVec S16 32) (v : Vec F S16 .f32) (a : ℕ) (ha : ∀ x, (w x).toNat = a)
    (h : ∀ b x, ((![w] : Fin 1 → IVec S16 32) b x).toNat < S256.size b) :
    storeIdx (s := S256) (e := .f32) (d := ![16]) g ![w] v (k1_pay27 lanes) false h = fun j => if (j 0).val = a then v (ix1 0) else g j := by
  unfold storeIdx
  refine (foldl_head _ (fun k g => ?_) g).trans ?_
  · have : k1_pay27 lanes (Shape.ofLane (d := ![16]) k.succ) ≠ 1 := by
      rw [mask_apply]
      have : ((Shape.ofLane (d := ![16]) k.succ : S16.Idx) 0).val ≠ 0 := by
        show (k.succ : Fin 16).val ≠ 0
        simp
      rw [if_neg this]; decide
    exact if_neg this
  have h0 : k1_pay27 lanes (Shape.ofLane (d := ![16]) (0 : Fin 16)) = 1 := by rw [mask_apply]; rfl
  funext j
  simp only [h0, if_true]
  have e0 : (Shape.ofLane (d := ![16]) (0 : Fin 16) : S16.Idx) = ix1 0 := by
    funext b; obtain rfl : b = 0 := Fin.eq_zero b; rfl
  have : (∀ b, (j b).val = ((idxAt (s := S256) ![w] h (Shape.ofLane (d := ![16]) (0 : Fin 16))) b).val) ↔ (j 0).val = a := by
    constructor
    · intro hb; exact (hb 0).trans (ha _)
    · intro hb b; obtain rfl : b = 0 := Fin.eq_zero b; exact hb.trans (ha _).symm
  by_cases hj : (j 0).val = a
  · rw [if_pos (this.mpr hj), if_pos hj]; simp [e0]
  · rw [if_neg (fun hh => hj (this.mp hh)), if_neg hj]

/-! ## The loop -/

/-- A load of 16 lanes of a row of the gathered rows. -/
theorem ld_rv (R : Vec F S600x128 .f32) (a : Fin 200) (k : Fin 24) {off : Fin 2 → ℕ} (h : off = ![200 * (k.val / 8) + a.val, 16 * (k.val % 8)])
    (inb : ∀ b, off b + S1x16.size b ≤ S600x128.size b) :
    View.ld (Val := Elt F) (S := S600x128) (e' := .f32) R (Rect.unit (s := S600x128) off S1x16.size inb) = rv R a k := by
  subst h
  funext x
  change R _ = R _
  congr 1
  funext b
  match b with
  | ⟨0, _⟩ =>
    apply Fin.ext
    have h1 : (x (0 : Fin 2)).val < 1 := (x (0 : Fin 2)).isLt
    change 200 * (k.val / 8) + a.val + 1 * (x (0 : Fin 2)).val = 200 * (k.val / 8) + a.val
    omega
  | ⟨1, _⟩ =>
    apply Fin.ext
    change 16 * (k.val % 8) + 1 * (x (1 : Fin 2)).val = 16 * (k.val % 8) + (x (1 : Fin 2)).val
    omega

/-- The trip's action number. -/
def actOf (t : Fin k1_t2_loop.trips) : Fin 200 := ⟨t.val, lt_of_lt_of_le t.isLt k1_t2_abs.2.1⟩

theorem act_word : ∀ (t : Fin k1_t2_loop.trips), (Scalar.addi 0#32 (Scalar.muli (Scf.iv 0#32 1#32 t) 1#32)).toNat = t.val := by decide +kernel

theorem act_lanes (t : Fin k1_t2_loop.trips) (x : S16.Idx) :
    (k1_pay29 (Scalar.addi 0#32 (Scalar.muli (Scf.iv 0#32 1#32 t) 1#32)) x).toNat = t.val := by
  have h : k1_pay29 (Scalar.addi 0#32 (Scalar.muli (Scf.iv 0#32 1#32 t) 1#32)) x = Scalar.addi 0#32 (Scalar.muli (Scf.iv 0#32 1#32 t) 1#32) := by
    show _ + 0#32 = _
    simp only [BitVec.add_zero]
    rfl
  rw [h, act_word]

theorem act_chk (t : Fin k1_t2_loop.trips) : k1_chk1 (k1_pay29 (Scalar.addi 0#32 (Scalar.muli (Scf.iv 0#32 1#32 t) 1#32))) := by
  intro b x
  obtain rfl : b = 0 := Fin.eq_zero b
  show (k1_pay29 _ x).toNat < 256
  rw [act_lanes]
  have := (actOf t).isLt
  have e : (actOf t).val = t.val := rfl
  omega

section Loop

variable (d : Dev nD) (i : grid1.Coords)
variable (arg2 : Memref sig .scVector .hbm S1024x384 .f32) (harg2 : arg2.IsWhole) (arg3 : Memref sig .scVector .hbm S1024x3x2x100 .i32) (harg3 : arg3.IsWhole) (arg4 : Memref sig .scVector .hbm S1000x128 .f32) (harg4 : arg4.IsWhole) (arg5 : Memref sig .scVector .hbm S100000x128 .f32) (harg5 : arg5.IsWhole) (arg6 : Memref sig .scVector .hbm S100000x128 .f32) (harg6 : arg6.IsWhole) (arg7 : Memref sig .scVector .hbm S1024x256 .f32) (harg7 : arg7.IsWhole) (arg8 : Memref sig .scVector .vmem S3x2x100 .i32) (harg8 : arg8.IsWhole) (arg9 : Memref sig .scVector .vmem S3x2x100 .i32) (harg9 : arg9.IsWhole) (arg10 : Memref sig .scVector .vmem S384 .f32) (harg10 : arg10.IsWhole) (arg11 : Memref sig .scVector .vmem S384 .f32) (harg11 : arg11.IsWhole) (arg12 : Memref sig .scVector .vmem S600x128 .f32) (harg12 : arg12.IsWhole) (arg13 : Memref sig .scVector .vmem S256 .f32) (harg13 : arg13.IsWhole) (arg14 : Memref sig .scVector .vmem S256 .f32) (harg14 : arg14.IsWhole) (arg15 : DmaSems sig S_) (arg16 : DmaSems sig S_) (arg17 : DmaSems sig S_) (arg18 : DmaSems sig S_) (arg19 : DmaSems sig S_) (arg20 : DmaSems sig S_) (arg21 : DmaSems sig S_)

/-- Slot 1's trip is slot 0's trip with the other score buffer. -/
theorem t3_body_eq [FloatOps F] (v2 : IVec S16 32) (v3 c0 c1 : BitVec 32) (t1 : Fin k1_t1_loop.trips) (x : Fin 24 → Vec F S16 .f32)
    (a22 : BitVec 32) (v42 v43 : BitVec 1) (v46 : BitVec 32) :
    k1_t3_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 v2 v3 c0 c1 t1 (x 0) (x 1) (x 2) (x 3) (x 4) (x 5) (x 6) (x 7) (x 8) (x 9) (x 10) (x 11) (x 12) (x 13) (x 14) (x 15) (x 16) (x 17) (x 18) (x 19) (x 20) (x 21) (x 22) (x 23)
      = k1_t2_body (F := F) i arg2 harg2 arg3 harg3 arg4 harg4 arg5 harg5 arg6 harg6 arg7 harg7 arg8 harg8 arg9 harg9 arg10 harg10 arg11 harg11 arg12 harg12 arg14 harg14 arg13 harg13 arg15 arg16 arg17 arg18 arg19 arg20 arg21 v2 v3 t1 a22 v42 v43 v46 (x 0) (x 1) (x 2) (x 3) (x 4) (x 5) (x 6) (x 7) (x 8) (x 9) (x 10) (x 11) (x 12) (x 13) (x 14) (x 15) (x 16) (x 17) (x 18) (x 19) (x 20) (x 21) (x 22) (x 23) := rfl

/-- Part 1 of a trip: its loads and their payloads. -/
theorem part1_owns [FloatOps F] (R : Vec F S600x128 .f32) (x : Fin 24 → Vec F S16 .f32) (t : Fin k1_t2_loop.trips) :
    (owns (tile d i) arg12 fullShare R : sProp 𝕄)
      ⊢ wp frame (wpE (defs₀ (F := F)) 𝒱₀ (tile d i) none) Set.univ
          (k1_part1 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 (x 0) (x 1) (x 2) (x 3) (x 4) (x 5) (x 6) 0#32 1#32 t)
          fun r => iprop(⌜r = ⟨Scalar.addi 0#32 (Scalar.muli (Scf.iv 0#32 1#32 t) 1#32), k1_pay1 (x 3) (rv R (actOf t) 3), k1_pay2 (x 0) (x 4) (rv R (actOf t) 0) (rv R (actOf t) 4), k1_pay3 (x 1) (x 5) (rv R (actOf t) 1) (rv R (actOf t) 5), k1_pay4 (x 2) (x 6) (rv R (actOf t) 2) (rv R (actOf t) 6)⟩⌝ ∗ owns (tile d i) arg12 fullShare R) := by
  rw [k1_part1_eq_skeleton]
  unfold k1_part1_skel
  iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  simp only [wp_pure]
  imodintro
  isplitr [H]
  · ipureintro
    rw [ld_rv R (actOf t) 0 (off := k1_off10 t 0#32) (k1_off10_eq t 0), ld_rv R (actOf t) 1 (off := k1_off11 t 0#32) (k1_off11_eq t 0), ld_rv R (actOf t) 2 (off := k1_off12 t 0#32) (k1_off12_eq t 0), ld_rv R (actOf t) 3 (off := k1_off13 t 0#32) (k1_off13_eq t 0), ld_rv R (actOf t) 4 (off := k1_off14 t 0#32) (k1_off14_eq t 0), ld_rv R (actOf t) 5 (off := k1_off15 t 0#32) (k1_off15_eq t 0), ld_rv R (actOf t) 6 (off := k1_off16 t 0#32) (k1_off16_eq t 0)]
  · iexact H

/-- Part 2 of a trip: its loads and their payloads. -/
theorem part2_owns [FloatOps F] (R : Vec F S600x128 .f32) (x : Fin 24 → Vec F S16 .f32) (t : Fin k1_t2_loop.trips) (v229 : BitVec 32) (v245 v250 v255 v260 : Vec F S16 .f32) :
    (owns (tile d i) arg12 fullShare R : sProp 𝕄)
      ⊢ wp frame (wpE (defs₀ (F := F)) 𝒱₀ (tile d i) none) Set.univ
          (k1_part2 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 (x 7) (x 8) (x 9) (x 10) (x 11) (x 12) (x 13) (x 14) t v229 v245 v250 v255 v260)
          fun r => iprop(⌜r = ⟨k1_pay5 (x 10) v260 (rv R (actOf t) 10), k1_pay6 (x 7) (x 11) v245 (rv R (actOf t) 7) (rv R (actOf t) 11), k1_pay7 (x 8) (x 12) v250 (rv R (actOf t) 8) (rv R (actOf t) 12), k1_pay8 (x 9) (x 13) v255 (rv R (actOf t) 9) (rv R (actOf t) 13), k1_pay9 (x 14) (rv R (actOf t) 14)⟩⌝ ∗ owns (tile d i) arg12 fullShare R) := by
  rw [k1_part2_eq_skeleton]
  unfold k1_part2_skel
  iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  simp only [wp_pure]
  imodintro
  isplitr [H]
  · ipureintro
    rw [ld_rv R (actOf t) 7 (off := k1_off17 t 0#32) (k1_off17_eq t 0), ld_rv R (actOf t) 8 (off := k1_off10 t 200#32) (k1_off10_eq t 1), ld_rv R (actOf t) 9 (off := k1_off11 t 200#32) (k1_off11_eq t 1), ld_rv R (actOf t) 10 (off := k1_off12 t 200#32) (k1_off12_eq t 1), ld_rv R (actOf t) 11 (off := k1_off13 t 200#32) (k1_off13_eq t 1), ld_rv R (actOf t) 12 (off := k1_off14 t 200#32) (k1_off14_eq t 1), ld_rv R (actOf t) 13 (off := k1_off15 t 200#32) (k1_off15_eq t 1), ld_rv R (actOf t) 14 (off := k1_off16 t 200#32) (k1_off16_eq t 1)]
  · iexact H

/-- Part 3 of a trip: its loads and their payloads. -/
theorem part3_owns [FloatOps F] (R : Vec F S600x128 .f32) (x : Fin 24 → Vec F S16 .f32) (t : Fin k1_t2_loop.trips) (v229 : BitVec 32) (v280 v285 v290 v295 v299 : Vec F S16 .f32) :
    (owns (tile d i) arg12 fullShare R : sProp 𝕄)
      ⊢ wp frame (wpE (defs₀ (F := F)) 𝒱₀ (tile d i) none) Set.univ
          (k1_part3 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 (x 15) (x 16) (x 17) (x 18) (x 19) (x 20) (x 21) t v229 v280 v285 v290 v295 v299)
          fun r => iprop(⌜r = ⟨k1_pay10 (x 18) v280 v299 (rv R (actOf t) 18), k1_pay11 (x 15) (x 19) v285 (rv R (actOf t) 15) (rv R (actOf t) 19), k1_pay12 (x 16) (x 20) v290 (rv R (actOf t) 16) (rv R (actOf t) 20), k1_pay13 (x 17) (x 21) v295 (rv R (actOf t) 17) (rv R (actOf t) 21)⟩⌝ ∗ owns (tile d i) arg12 fullShare R) := by
  rw [k1_part3_eq_skeleton]
  unfold k1_part3_skel
  iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  simp only [wp_pure]
  imodintro
  isplitr [H]
  · ipureintro
    rw [ld_rv R (actOf t) 15 (off := k1_off17 t 200#32) (k1_off17_eq t 1), ld_rv R (actOf t) 16 (off := k1_off10 t 400#32) (k1_off10_eq t 2), ld_rv R (actOf t) 17 (off := k1_off11 t 400#32) (k1_off11_eq t 2), ld_rv R (actOf t) 18 (off := k1_off12 t 400#32) (k1_off12_eq t 2), ld_rv R (actOf t) 19 (off := k1_off13 t 400#32) (k1_off13_eq t 2), ld_rv R (actOf t) 20 (off := k1_off14 t 400#32) (k1_off14_eq t 2), ld_rv R (actOf t) 21 (off := k1_off15 t 400#32) (k1_off15_eq t 2)]
  · iexact H

/-- What the loop keeps: the gathered rows, and the score buffer at the scores of the actions done. -/
def actInv [FloatOps F] (R : Vec F S600x128 .f32) (X : Vec F S384 .f32) (k : ℕ) : sProp 𝕄 :=
  iprop(owns (tile d i) arg12 fullShare R
    ∗ ∃ g : Vec F S256 .f32, ⌜∀ a : Fin 200, a.val < k → g (ix1 ⟨a.val, by omega⟩) = score R X a⌝ ∗ owns (tile d i) arg13 fullShare g)

/-- One trip of the action loop. -/
theorem t2_trip [FloatOps F] (R : Vec F S600x128 .f32) (X : Vec F S384 .f32) (v3 : BitVec 32) (t1 : Fin k1_t1_loop.trips)
    (a22 : BitVec 32) (v42 v43 : BitVec 1) (v46 : BitVec 32) (t : Fin k1_t2_loop.trips) (u : Unit) :
    actInv d i arg12 arg13 R X t.val
      ⊢ wp frame (wpE (defs₀ (F := F)) 𝒱₀ (tile d i) none) Set.univ
          (k1_t2_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 lanes v3 t1 a22 v42 v43 v46 (xv X 0) (xv X 1) (xv X 2) (xv X 3) (xv X 4) (xv X 5) (xv X 6) (xv X 7) (xv X 8) (xv X 9) (xv X 10) (xv X 11) (xv X 12) (xv X 13) (xv X 14) (xv X 15) (xv X 16) (xv X 17) (xv X 18) (xv X 19) (xv X 20) (xv X 21) (xv X 22) (xv X 23) t u)
          fun _ => actInv d i arg12 arg13 R X (t.val + 1) := by
  unfold k1_t2_body actInv
  iintro ⟨H, ⟨%g, %hg, Hg⟩⟩
  rw [wp_bind]
  iapply (wp_wand_r frame _ _)
  isplitl [H]
  · iapply (part1_owns d i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 R (xv X) t); iexact H
  iintro %r ⟨%hr, H⟩; subst hr
  simp only
  rw [wp_bind]
  iapply (wp_wand_r frame _ _)
  isplitl [H]
  · iapply (part2_owns d i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 R (xv X) t); iexact H
  iintro %r ⟨%hr, H⟩; subst hr
  simp only
  rw [wp_bind]
  iapply (wp_wand_r frame _ _)
  isplitl [H]
  · iapply (part3_owns d i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 R (xv X) t); iexact H
  iintro %r ⟨%hr, H⟩; subst hr
  simp only
  iapply (wp_load_owns 𝒱₀ (tile d i) none) $$ H; iintro H
  iapply (wp_load_owns 𝒱₀ (tile d i) none) $$ H; iintro H
  iapply (wp_assume 𝒱₀ (tile d i) none Set.univ (act_chk t))
  iapply (wp_storeIdx_owns 𝒱₀ (tile d i) none) $$ Hg; iintro Hg
  simp only [wp_pure]
  imodintro
  isplitl [H]; · iexact H
  iexists _
  isplitr
  rotate_left
  · iexact Hg
  ipureintro
  intro a ha
  have hst := storeIdx_lane0 g (k1_pay29 (Scalar.addi 0#32 (Scalar.muli (Scf.iv 0#32 1#32 t) 1#32)))
    (scoreVec (xv X) (rv R (actOf t))) t.val (act_lanes t) (act_chk t)
  rw [ld_rv R (actOf t) 22 (off := k1_off16 t 400#32) (k1_off16_eq t 2), ld_rv R (actOf t) 23 (off := k1_off17 t 400#32) (k1_off17_eq t 2)]
  refine (congrFun hst _).trans ?_
  by_cases hat : a.val = t.val
  · obtain rfl : a = actOf t := Fin.ext hat
    rw [if_pos hat]
    rfl
  · rw [if_neg hat]; exact hg a (by omega)

/-- The action loop: all 200 scores. -/
theorem t2_loop [FloatOps F] (R : Vec F S600x128 .f32) (X : Vec F S384 .f32) (v3 : BitVec 32) (t1 : Fin k1_t1_loop.trips)
    (a22 : BitVec 32) (v42 v43 : BitVec 1) (v46 : BitVec 32) :
    (iprop(owns (tile d i) arg12 fullShare R ∗ ∃ g : Vec F S256 .f32, owns (tile d i) arg13 fullShare g) : sProp 𝕄)
      ⊢ wp frame (wpE (defs₀ (F := F)) 𝒱₀ (tile d i) none) Set.univ
          (Scf.Loop.for k1_t2_loop k1_t2_ok ⟨⟩ (k1_t2_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 lanes v3 t1 a22 v42 v43 v46 (xv X 0) (xv X 1) (xv X 2) (xv X 3) (xv X 4) (xv X 5) (xv X 6) (xv X 7) (xv X 8) (xv X 9) (xv X 10) (xv X 11) (xv X 12) (xv X 13) (xv X 14) (xv X 15) (xv X 16) (xv X 17) (xv X 18) (xv X 19) (xv X 20) (xv X 21) (xv X 22) (xv X 23)))
          fun _ => actInv d i arg12 arg13 R X 200 := by
  iintro ⟨H, ⟨%g, Hg⟩⟩
  iapply (Scf.wp_for frame _ _ k1_t2_loop.lb k1_t2_loop.ub k1_t2_loop.st k1_t2_ok (⟨⟩ : Unit) _ (fun k _ => actInv d i arg12 arg13 R X k)
    (fun k acc => t2_trip d i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 R X v3 t1 a22 v42 v43 v46 k acc))
  isplitl [H Hg]
  · unfold actInv
    isplitl [H]; · iexact H
    iexists g
    isplitr
    · ipureintro; intro a ha; exact absurd ha (Nat.not_lt_zero _)
    iexact Hg
  iintro %acc HI
  have ht : k1_t2_loop.trips = 200 := by decide
  ihave HI' := (Entails.of_eq (congrArg (actInv d i arg12 arg13 R X) ht)) $$ HI
  iexact HI'

end Loop

end Cert.Proof
-- ==== Proof.Phase.lean ====
/-
  The six gathers of a row of the batch: three tables' rows into six slabs of the row buffer, all on one semaphore, then
  six waits. And the plain copies in and out, stated over owned memrefs.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx
open Cert.Proof.Gather

variable {F : FTy → Type}

local notation "𝕄" => MT nD τ sig (HIx 1) (Elt F) ℕ UU ℕ

/-! ## What a tile owes, between its waits -/

/-- A tile's debts as its body finds them, its waits so far the given ones and waits of its own transfers. -/
def Ow (thr : Thread nD τ) (O : CellTallies nD τ sig (HIx 1)) (W : Waits sig (HIx 1)) : sProp 𝕄 :=
  iprop(Transfers.MayWaits thr (none : HIx 1) O ∗ ∃ W' : Waits sig (HIx 1), ⌜∀ p ∈ W', p ∈ W ∨ p.2 = none⌝ ∗ owes thr O W')

section Steps

variable [FloatOps F] (d : Dev nD) (i : grid1.Coords) (O : CellTallies nD τ sig (HIx 1)) (W : Waits sig (HIx 1))
variable {α : Type} {sp sp' : Space} {s : Shape} {e : EltTy}

/-- A copy in flight on a tile's semaphore, delivering `A`. -/
abbrev FL (sem : DmaSem sig) (N : ℕ) (A : sProp 𝕄) : sProp 𝕄 := Transfers.Flight countersEmb (tile d i) (.dma sem) (none : HIx 1) N A

/-- What a tile's program runs to. -/
abbrev wpT {α : Type} (p : Prog (TpuEff nD τ sig (Elt F) Λ₀ (tile d i).2) α) (Q : α → sProp 𝕄) : sProp 𝕄 :=
  wp frame (wpE (defs₀ (F := F)) 𝒱₀ (tile d i) none) Set.univ p Q

/-- A wait for a copy in flight. -/
theorem wp_wait {s' : Shape} {e' : EltTy} {sem : DmaSem sig} {srcw : Memref sig (tile d i).2.kind sp' s' e'} {dstw : Memref sig (tile d i).2.kind sp s e}
    {hsrc : srcw.view.WordExact} {hdst : dstw.view.WordExact}
    {k : PUnit → Prog (TpuEff nD τ sig (Elt F) Λ₀ (tile d i).2) α} {Q : α → sProp 𝕄} {A : sProp 𝕄} :
    iprop(FL d i sem (RefSig.bitCredit s e) A ∗ Ow (tile d i) O W)
      ⊢ iprop((iprop(A ∗ semVal (tile d i, .dma sem) 0 ∗ Ow (tile d i) O W) -∗ wpT d i (k ⟨⟩) Q)
          -∗ wpT d i (Prog.lift (.waitDma2 sem srcw dstw hsrc hdst) >>= k) Q) := by
  unfold Ow
  iintro ⟨Hf, #Hmw, ⟨%W', %hW, HO⟩⟩ Hk
  iapply (Transfers.wp_waitLocalO countersEmb 𝒱₀ (tile d i) none (none : HIx 1)
    (show dstw.view.dmaCredit = RefSig.bitCredit s e from rfl)) $$ [Hf HO]
  · isplitl [Hf]; · iexact Hf
    isplitl [HO]; · iexact HO
    iapply (Transfers.MayWaits.elim (SemLoc.dma sem)) $$ Hmw
  iintro ⟨HA, Hv, HO⟩
  iapply Hk
  isplitl [HA]; · iexact HA
  isplitl [Hv]; · iexact Hv
  isplitr; · iexact Hmw
  iexists (insert (SemLoc.dma sem, none) W')
  isplitr
  · ipureintro
    intro p hp
    rcases Finset.mem_insert.mp hp with rfl | hp
    · exact Or.inr rfl
    · exact hW p hp
  · iexact HO

/-- A copy between two owned memrefs, started. -/
theorem wp_copy {sem : DmaSem sig} {src src' : Memref sig (tile d i).2.kind sp s e} {dst dst' : Memref sig (tile d i).2.kind sp' s e}
    (hsrc' : src = src') (hdst' : dst = dst') (hpos : 0 < s.numel)
    {hsrc : src.view.WordExact} {hdst : dst.view.WordExact} {hsem : DmaTarget.Typed (nD := nD) sp (.dma sem) (.here dst)}
    {k : PUnit → Prog (TpuEff nD τ sig (Elt F) Λ₀ (tile d i).2) α} {Q : α → sProp 𝕄} {q : PosShare TreeShare} {X Y : s.Idx → Elt F e} :
    iprop((owns (tile d i) src' q X : sProp 𝕄) ∗ owns (tile d i) dst' fullShare Y ∗ semVal (tile d i, .dma sem) 0)
      ⊢ iprop((FL d i sem (RefSig.bitCredit s e) iprop(owns (tile d i) dst' fullShare X ∗ owns (tile d i) src' q X) -∗ wpT d i (k ⟨⟩) Q)
          -∗ wpT d i (Prog.lift (.enqueueDma src (.here dst) (.dma sem) hsrc hdst hsem) >>= k) Q) := by
  subst hsrc' hdst'
  unfold owns
  iintro ⟨⟨%fs, %hs, Hs⟩, ⟨%fd, %hd, Hd⟩, Hv⟩ Hk
  subst hs
  iapply (Transfers.wp_dmaLocal countersEmb 𝒱₀ (tile d i) none (none : HIx 1) (src := src) (dst := dst) (sm := .dma sem) (RefSig.bitCredit s e)
    (show dst.view.amount (.dma sem) = RefSig.bitCredit s e from rfl) (RefSig.bitCredit_pos s e hpos) (Finset.Subset.refl _)) $$ [Hs Hd Hv]
  · isplitl [Hs]; · iexact Hs
    isplitl [Hd]; · iexact Hd
    iexact Hv
  iintro Hf
  iapply Hk
  iapply (Transfers.Flight_mono countersEmb (tile d i) (N := RefSig.bitCredit s e) (D := iprop((dst.view.loc (tile d i) ↦[dst.view.set]{fullShare}
      (dst.view.write (Elt F) fd (src.view.read (Elt F) fs) Finset.univ)) ∗ (src.view.loc (tile d i) ↦[src.view.set]{q} fs))) (by
    iintro ⟨Hd, Hs⟩
    isplitl [Hd]
    · iexists _
      isplitr
      rotate_left
      · iexact Hd
      ipureintro; exact View.read_write_univ _ _
    · iexists fs
      isplitr; · ipureintro; rfl
      iexact Hs))
  iexact Hf

/-- A run of a program and what follows it. -/
theorem wpT_bind {β : Type} (p : Prog (TpuEff nD τ sig (Elt F) Λ₀ (tile d i).2) β) (k : β → Prog (TpuEff nD τ sig (Elt F) Λ₀ (tile d i).2) α)
    {R : β → sProp 𝕄} {Q : α → sProp 𝕄} :
    iprop(wpT d i p R ∗ (∀ x, R x -∗ wpT d i (k x) Q)) ⊢ wpT d i (p >>= k) Q := by
  unfold wpT
  rw [wp_bind]
  iintro ⟨H, Hk⟩
  iapply (wp_wand_r frame _ _)
  isplitl [H]; · iexact H
  iexact Hk

end Steps

end Cert.Proof
-- ==== Proof.Six.lean ====
/-
  Six gathers of a hundred rows each, on one semaphore: what each holds before it starts, its start, the waits.
-/
module

public import proofs.«01_k».proof.Proof.Phase

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.Gather

variable {F : FTy → Type}

local notation "𝕄" => MT nD τ sig (HIx 1) (Elt F) ℕ UU ℕ

section Squeeze

variable {nD : Nat} {τ : Topo} {sig : RefSig} {Ix : Type} [DecidableEq Ix] {Val : EltTy → Type} {Name : Type} [DecidableEq Name]
variable {U : Type} [URA U] {Lvl : Type} [Preorder Lvl]

/-- A memref owned at `X` is its squeeze owned at `X` read in row-major order. -/
theorem owns_squeeze (c : Thread nD τ) {sp : Space} {s s' : Shape} {e : EltTy} (m : Memref sig c.2.kind sp s e) (h : s.Squeezes s')
    (q : PosShare TreeShare) (X : s.Idx → Val e) (Y : s'.Idx → Val e)
    (hXY : ∀ x y, (s.rowMajor x).val = (s'.rowMajor y).val → X x = Y y) :
    (owns c m q X : sProp (MT nD τ sig Ix Val Name U Lvl)) ⊣⊢ owns c (m.squeeze s' h) q Y := by
  have hset : (m.squeeze s' h).view.set = m.view.set := View.set_reshape _ _
  have hread : ∀ f, (m.squeeze s' h).view.read Val f = fun y => m.view.read Val f (Shape.reshapeEquiv h.numel_eq y) := fun _ => rfl
  constructor
  · unfold owns
    iintro ⟨%f, %hf, H⟩
    iexists f
    isplitr
    · ipureintro
      rw [hread, hf]
      funext y
      exact hXY _ _ (Shape.rowMajor_reshapeEquiv _ y)
    · rw [hset]; iexact H
  · unfold owns
    iintro ⟨%f, %hf, H⟩
    iexists f
    isplitr
    · ipureintro
      rw [hread] at hf
      funext x
      have e := congrFun hf ((Shape.reshapeEquiv h.numel_eq).symm x)
      simp only [Equiv.apply_symm_apply] at e
      rw [e]
      refine (hXY x _ ?_).symm
      rw [← Shape.rowMajor_reshapeEquiv h.numel_eq, Equiv.apply_symm_apply]
    · rw [hset]; iexact H

end Squeeze

section One

variable [FloatOps F] (d : Dev nD) (i : grid1.Coords) (O : CellTallies nD τ sig (HIx 1)) (W : Waits sig (HIx 1))
variable {α : Type} {sp sp' : Space} {s₀ : Shape} {e : EltTy}

theorem rows_pos (hg : s₀.Gathers 0 S100x128) : 0 < S100x128.size hg.axis' := Nat.zero_lt_succ 99

theorem rows_numel (hg : s₀.Gathers 0 S100x128) : S100.numel = S100x128.size hg.axis' := numel_eq
  where numel_eq : S100.numel = 100 := by decide

theorem credit_row : RefSig.bitCredit (S100x128.rowShape 0) .f32 = 4096 := by decide

theorem credit_slab : RefSig.bitCredit S100x128 .f32 = 100 * 4096 := by decide

theorem credit_rowOf (dst : Memref sig (tile d i).2.kind .vmem S100x128 .f32) (hg : s₀.Gathers 0 S100x128) (j : Fin (S100x128.size hg.axis')) :
    (dst.slice (S100x128.rowRect hg.axis' j) (S100x128.stride_rowRect hg.axis' j)).view.dmaCredit = 4096 :=
  (show _ = RefSig.bitCredit (S100x128.rowShape 0) .f32 from rfl).trans credit_row

theorem credit_slabOf (dst : Memref sig (tile d i).2.kind .vmem S100x128 .f32) : dst.view.dmaCredit = 100 * 4096 :=
  (show _ = RefSig.bitCredit S100x128 .f32 from rfl).trans credit_slab

/-- What a gather of a hundred rows holds before it starts, its rows' deliveries being `A`. -/
def Pre (src : Memref sig (tile d i).2.kind sp s₀ .f32) (dst : Memref sig (tile d i).2.kind .vmem S100x128 .f32)
    (hg : s₀.Gathers 0 S100x128) (offs : Memref sig (tile d i).2.kind .vmem S100 .i32) (A : Fin 100 → sProp 𝕄) : sProp 𝕄 :=
  iprop(∃ (q qo : PosShare TreeShare) (fs : Buf (Elt F) (src.view.loc (tile d i))) (fd : Buf (Elt F) (dst.view.loc (tile d i)))
      (fo : Buf (Elt F) (offs.view.loc (tile d i))), ⌜∃ hin : ∀ x, (offs.view.read (Elt F) fo x).toNat < s₀.size hg.axis,
        ∀ j : Fin 100, A j = rowDel (tile d i) src dst hg offs (rows_numel hg) q qo fs fd fo (SparseCore.rows (offs.view.read (Elt F) fo) (rows_numel hg) hin) (rows_pos hg) j⌝
    ∗ (src.view.loc (tile d i) ↦[src.view.set]{q} fs) ∗ (dst.view.loc (tile d i) ↦[dst.view.set]{fullShare} fd)
    ∗ (offs.view.loc (tile d i) ↦[offs.view.set]{qo} fo))

/-- What a gather holds before it starts, and what its rows' deliveries are together. -/
theorem gather_one (src : Memref sig (tile d i).2.kind sp s₀ .f32) (dst : Memref sig (tile d i).2.kind .vmem S100x128 .f32)
    (hg : s₀.Gathers 0 S100x128) (offs : Memref sig (tile d i).2.kind .vmem S100 .i32) (q qo : PosShare TreeShare)
    (T : Vec F s₀ .f32) (L : Vec F S100 .i32) (hin : ∀ x, (L x).toNat < s₀.size hg.axis) :
    (iprop(owns (tile d i) src q T ∗ (∃ Y : Vec F S100x128 .f32, owns (tile d i) dst fullShare Y) ∗ owns (tile d i) offs qo L) : sProp 𝕄)
      ⊢ iprop(∃ A : Fin 100 → sProp 𝕄, ⌜(∀ j, Storable (upEmb : UEmb _ 𝕄) (A j)) ∧
          (bigSep Finset.univ A ⊢ iprop(owns (tile d i) src q T
            ∗ owns (tile d i) dst fullShare (SparseCore.gatherPayload hg T (SparseCore.rows L (rows_numel hg) hin)) ∗ owns (tile d i) offs qo L))⌝
          ∗ Pre d i src dst hg offs A) := by
  unfold owns
  iintro ⟨⟨%fs, %hs, Hs⟩, ⟨%Y, %fd, %hd, Hd⟩, ⟨%fo, %ho, Ho⟩⟩
  subst hs ho
  iexists (fun j => rowDel (tile d i) src dst hg offs (rows_numel hg) q qo fs fd fo (SparseCore.rows (offs.view.read (Elt F) fo) (rows_numel hg) hin) (rows_pos hg) j)
  isplitr
  · ipureintro
    refine ⟨fun j => rowDel_storable (tile d i) src dst hg offs (rows_numel hg) q qo fs fd fo _ (rows_pos hg) j, ?_⟩
    refine (rowDel_join (tile d i) (src := src) (dst := dst) (hg := hg) (offs := offs) (hn := rows_numel hg) (q := q) (qo := qo) (fs := fs) (fd := fd) (fo := fo)
      (r := SparseCore.rows (offs.view.read (Elt F) fo) (rows_numel hg) hin) (ho := rows_pos hg)).trans ?_
    iintro ⟨Hd, Hs, Ho⟩
    isplitl [Hs]
    · iexists fs
      isplitr; · ipureintro; rfl
      iexact Hs
    isplitl [Hd]
    · iexists _
      isplitr
      rotate_left
      · iexact Hd
      ipureintro; exact View.read_write_univ _ _
    · iexists fo
      isplitr; · ipureintro; rfl
      iexact Ho
  · unfold Pre
    iexists q, qo, fs, fd, fo
    isplitr
    · ipureintro; exact ⟨hin, fun j => rfl⟩
    isplitl [Hs]; · iexact Hs
    isplitl [Hd]; · iexact Hd
    iexact Ho

/-- Six gathers' batch, `j` of its six hundred rows started and `u` units waited for. -/
abbrev BT (sem : DmaSem sig) (A : Fin 6 → Fin 100 → sProp 𝕄) (j u : ℕ) : sProp 𝕄 :=
  Transfers.Batch countersEmb (tile d i) (.dma sem) (none : HIx 1) 4096 (pack A) j u

/-- Gather `t` of the six, started. -/
theorem wp_enq {sem : DmaSem sig} (t : Fin 6) {src : Memref sig (tile d i).2.kind sp s₀ .f32} {dst : Memref sig (tile d i).2.kind .vmem S100x128 .f32}
    {hg : s₀.Gathers 0 S100x128} {offs : Memref sig (tile d i).2.kind .vmem S100 .i32} {hn : S100.numel = S100x128.size hg.axis'}
    {hp : (tile d i).2.kind = .scVector} {hsrc : src.view.WordExact} {he : (EltTy.f32).bits = 32} {hsp : sp = .hbm ∨ sp = .shared} {hr : s₀.StreamRows 0}
    {k : PUnit → Prog (TpuEff nD τ sig (Elt F) Λ₀ (tile d i).2) α} {Q : α → sProp 𝕄} {A : Fin 6 → Fin 100 → sProp 𝕄} :
    iprop(Pre d i src dst hg offs (A t) ∗ BT d i sem A (100 * t.val) 0)
      ⊢ iprop((BT d i sem A (100 * (t.val + 1)) 0 -∗ wpT d i (k ⟨⟩) Q)
          -∗ wpT d i (SparseCore.enqueueIndirectGather hp src dst hg offs hn sem hsrc he hsp hr >>= k) Q) := by
  have hN : ∀ j, (dst.slice (S100x128.rowRect hg.axis' j) (S100x128.stride_rowRect hg.axis' j)).view.dmaCredit = 4096 := credit_rowOf d i dst hg
  unfold Pre
  iintro ⟨⟨%q, %qo, %fs, %fd, %fo, ⟨%hin, %hA⟩, Hs, Hd, Ho⟩, HB⟩ Hk
  have hlt : ∀ j : Fin (S100x128.size hg.axis'), j.val < 100 := fun j => j.isLt
  have ht := t.isLt
  have hD : ∀ j : Fin (S100x128.size hg.axis'), rowDel (tile d i) src dst hg offs (rows_numel hg) q qo fs fd fo
      (SparseCore.rows (offs.view.read (Elt F) fo) (rows_numel hg) hin) (rows_pos hg) j
      ⊢ pack A ⟨100 * t.val + j.val, by have := hlt j; omega⟩ := fun j => by
    rw [pack_apply A t ⟨j.val, hlt j⟩ _ rfl, hA]; exact .rfl
  iapply (wp_gatherBatch countersEmb 𝒱₀ (tile d i) none (none : HIx 1) 4096 100 rfl hN (rows_pos hg) hin (j0 := 100 * t.val) (u := 0)
    (D := pack A) (by omega) (Nat.zero_le _) hD) $$ [Hs Hd Ho HB]
  · isplitl [Hs]; · iexact Hs
    isplitl [Hd]; · iexact Hd
    isplitl [Ho]; · iexact Ho
    iexact HB
  iintro HB
  iapply Hk
  iexact HB

/-- A wait for one gather's rows that others follow. -/
theorem wp_waitRows {sem : DmaSem sig} (u : ℕ) (hu : u < 5) {src : Memref sig (tile d i).2.kind sp s₀ .f32} {dst : Memref sig (tile d i).2.kind .vmem S100x128 .f32}
    {hsrc : src.view.WordExact} {hdst : dst.view.WordExact}
    {k : PUnit → Prog (TpuEff nD τ sig (Elt F) Λ₀ (tile d i).2) α} {Q : α → sProp 𝕄} {A : Fin 6 → Fin 100 → sProp 𝕄} :
    iprop(BT d i sem A 600 (u * 409600) ∗ Ow (tile d i) O W)
      ⊢ iprop((iprop(BT d i sem A 600 ((u + 1) * 409600) ∗ Ow (tile d i) O W) -∗ wpT d i (k ⟨⟩) Q)
          -∗ wpT d i (SparseCore.waitIndirectGather sem src dst hsrc hdst >>= k) Q) := by
  have hJ := credit_slabOf d i dst
  unfold Ow
  iintro ⟨HB, #Hmw, ⟨%W', %hW, HO⟩⟩ Hk
  iapply (Transfers.wp_waitBatchMulO countersEmb 𝒱₀ (tile d i) none (none : HIx 1) 100 hJ (D := pack A) (j := 600) (u := u * 409600)
    (by omega)) $$ [HB HO]
  · isplitl [HB]; · iexact HB
    isplitl [HO]; · iexact HO
    iapply (Transfers.MayWaits.elim (SemLoc.dma sem)) $$ Hmw
  iintro ⟨HB, HO⟩
  iapply Hk
  isplitl [HB]
  · rw [show (u + 1) * 409600 = u * 409600 + 100 * 4096 by omega]; iexact HB
  isplitr; · iexact Hmw
  iexists (insert (SemLoc.dma sem, none) W')
  isplitr
  · ipureintro
    intro p hp
    rcases Finset.mem_insert.mp hp with rfl | hp
    · exact Or.inr rfl
    · exact hW p hp
  · iexact HO

/-- The last wait of the six. -/
theorem wp_waitLast {sem : DmaSem sig} {src : Memref sig (tile d i).2.kind sp s₀ .f32} {dst : Memref sig (tile d i).2.kind .vmem S100x128 .f32}
    {hsrc : src.view.WordExact} {hdst : dst.view.WordExact}
    {k : PUnit → Prog (TpuEff nD τ sig (Elt F) Λ₀ (tile d i).2) α} {Q : α → sProp 𝕄} {A : Fin 6 → Fin 100 → sProp 𝕄} :
    iprop(BT d i sem A 600 (5 * 409600) ∗ Ow (tile d i) O W)
      ⊢ iprop((iprop(bigSep Finset.univ (pack A) ∗ semVal (tile d i, .dma sem) 0 ∗ Ow (tile d i) O W) -∗ wpT d i (k ⟨⟩) Q)
          -∗ wpT d i (SparseCore.waitIndirectGather sem src dst hsrc hdst >>= k) Q) := by
  have hJ := credit_slabOf d i dst
  unfold Ow
  iintro ⟨HB, #Hmw, ⟨%W', %hW, HO⟩⟩ Hk
  iapply (Transfers.wp_waitBatchAllO countersEmb 𝒱₀ (tile d i) none (none : HIx 1) (N := 4096) hJ (Nat.zero_lt_succ 4095) (D := pack A) (u := 5 * 409600)
    (by omega)) $$ [HB HO]
  · isplitl [HB]; · iexact HB
    isplitl [HO]; · iexact HO
    iapply (Transfers.MayWaits.elim (SemLoc.dma sem)) $$ Hmw
  iintro ⟨HB, Hv, HO⟩
  iapply Hk
  isplitl [HB]; · iexact HB
  isplitl [Hv]; · iexact Hv
  isplitr; · iexact Hmw
  iexists (insert (SemLoc.dma sem, none) W')
  isplitr
  · ipureintro
    intro p hp
    rcases Finset.mem_insert.mp hp with rfl | hp
    · exact Or.inr rfl
    · exact hW p hp
  · iexact HO

end One

end Cert.Proof
-- ==== Proof.Slabs.lean ====
/-
  What the row buffer holds after the six gathers of a batch row, and the gathers' batch: the buffer's slabs, the lists,
  the tables' shares handed in, and what comes back after the last wait.
-/
module

public import Idealize.ShloMosaic.Lib.MemrefSat
public import proofs.«01_k».proof.Proof.Six

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.Gather

variable {F : FTy → Type}

local notation "𝕄" => MT nD τ sig (HIx 1) (Elt F) ℕ UU ℕ

/-! ## What the row buffer holds after the six gathers -/

/-- The word of the three index slabs that names row `r` of the row buffer. -/
def ent (X : Vec F S3x2x100 .i32) (r : Fin 600) : BitVec 32 :=
  X (ix3 ⟨r.val / 200, by have := r.isLt; omega⟩ ⟨r.val % 200 / 100, by have := r.isLt; omega⟩ ⟨r.val % 100, by have := r.isLt; omega⟩)

/-- The row buffer after the gathers: two hundred rows of each table, each the row its word names. -/
def gath (X : Vec F S3x2x100 .i32) (T4 : Vec F S1000x128 .f32) (T5 T6 : Vec F S100000x128 .f32) : Vec F S600x128 .f32 := fun y =>
  if (y 0).val < 200 then T4 (ix2 (Fin.ofNat 1000 (ent X (y 0)).toNat) (y 1))
  else if (y 0).val < 400 then T5 (ix2 (Fin.ofNat 100000 (ent X (y 0)).toNat) (y 1))
  else T6 (ix2 (Fin.ofNat 100000 (ent X (y 0)).toNat) (y 1))

/-- Every word names a row of its table. -/
def InRange (X : Vec F S3x2x100 .i32) : Prop :=
  (∀ j k, (X (ix3 0 j k)).toNat < 1000) ∧ (∀ j k, (X (ix3 1 j k)).toNat < 100000) ∧ (∀ j k, (X (ix3 2 j k)).toNat < 100000)

/-- The list of gather `t`. -/
def lstv (X : Vec F S3x2x100 .i32) (t : Fin 6) : Vec F S100 .i32 := fun j =>
  X (ix3 ⟨t.val / 2, by have := t.isLt; omega⟩ ⟨t.val % 2, by omega⟩ (j 0))

theorem inbSlab (t : Fin 6) : ∀ a, (![100 * t.val, 0] : Fin 2 → Nat) a + S100x128.size a ≤ S600x128.size a := by
  revert t; decide

theorem inbLst (t : Fin 6) : ∀ a, (![t.val / 2, t.val % 2, 0] : Fin 3 → Nat) a + S1x1x100.size a ≤ S3x2x100.size a := by
  revert t; decide

/-- Slab `t` of the row buffer. -/
abbrev rSlab (t : Fin 6) : Rect S600x128 := Rect.unit ![100 * t.val, 0] S100x128.size (inbSlab t)

/-- List `t` of an index buffer. -/
abbrev rLst (t : Fin 6) : Rect S3x2x100 := Rect.unit ![t.val / 2, t.val % 2, 0] S1x1x100.size (inbLst t)

theorem rSlab_disj (t t' : Fin 6) (h : t ≠ t') : Disjoint (rSlab t).set (rSlab t').set := by
  have h' : t.val ≠ t'.val := fun e => h (Fin.ext e)
  rw [Finset.disjoint_left]
  intro y hy hy'
  have h1 := Rect.mem_set_unit.mp hy 0
  have h2 := Rect.mem_set_unit.mp hy' 0
  change 100 * t.val ≤ (y 0).val ∧ (y 0).val < 100 * t.val + 100 at h1
  change 100 * t'.val ≤ (y 0).val ∧ (y 0).val < 100 * t'.val + 100 at h2
  omega

theorem rSlab_cov : (Finset.univ : Finset (Fin 6)).biUnion (fun t => (rSlab t).set) = Finset.univ := by
  refine Finset.eq_univ_of_forall fun y => ?_
  have hy : (y 0).val < 600 := (y 0).isLt
  have hy1 : (y 1).val < 128 := (y 1).isLt
  refine Finset.mem_biUnion.mpr ⟨⟨(y 0).val / 100, by omega⟩, Finset.mem_univ _, Rect.mem_set_unit.mpr fun a => ?_⟩
  match a with
  | 0 => show 100 * ((y 0).val / 100) ≤ (y 0).val ∧ (y 0).val < 100 * ((y 0).val / 100) + 100; omega
  | 1 => show 0 ≤ (y 1).val ∧ (y 1).val < 0 + 128; omega

theorem rLst_disj (t t' : Fin 6) (h : t ≠ t') : Disjoint (rLst t).set (rLst t').set := by
  have h' : t.val ≠ t'.val := fun e => h (Fin.ext e)
  rw [Finset.disjoint_left]
  intro y hy hy'
  have h1 := Rect.mem_set_unit.mp hy 0
  have h2 := Rect.mem_set_unit.mp hy' 0
  have h3 := Rect.mem_set_unit.mp hy 1
  have h4 := Rect.mem_set_unit.mp hy' 1
  change t.val / 2 ≤ (y 0).val ∧ (y 0).val < t.val / 2 + 1 at h1
  change t'.val / 2 ≤ (y 0).val ∧ (y 0).val < t'.val / 2 + 1 at h2
  change t.val % 2 ≤ (y 1).val ∧ (y 1).val < t.val % 2 + 1 at h3
  change t'.val % 2 ≤ (y 1).val ∧ (y 1).val < t'.val % 2 + 1 at h4
  omega

theorem rLst_cov : (Finset.univ : Finset (Fin 6)).biUnion (fun t => (rLst t).set) = Finset.univ := by
  refine Finset.eq_univ_of_forall fun y => ?_
  have hy : (y 0).val < 3 := (y 0).isLt
  have hy1 : (y 1).val < 2 := (y 1).isLt
  have hy2 : (y 2).val < 100 := (y 2).isLt
  refine Finset.mem_biUnion.mpr ⟨⟨2 * (y 0).val + (y 1).val, by omega⟩, Finset.mem_univ _, Rect.mem_set_unit.mpr fun a => ?_⟩
  match a with
  | 0 => show (2 * (y 0).val + (y 1).val) / 2 ≤ (y 0).val ∧ (y 0).val < (2 * (y 0).val + (y 1).val) / 2 + 1; omega
  | 1 => show (2 * (y 0).val + (y 1).val) % 2 ≤ (y 1).val ∧ (y 1).val < (2 * (y 0).val + (y 1).val) % 2 + 1; omega
  | 2 => show 0 ≤ (y 2).val ∧ (y 2).val < 0 + 100; omega

/-- What a gather's rows hold at an index: the row its word names. -/
theorem payload_apply {n : ℕ} (hg : (⟨2, ![n, 128]⟩ : Shape).Gathers 0 S100x128) (T : Vec F ⟨2, ![n, 128]⟩ .f32) (L : Vec F S100 .i32)
    (hin : ∀ x, (L x).toNat < (⟨2, ![n, 128]⟩ : Shape).size hg.axis) (y : S100x128.Idx) :
    SparseCore.gatherPayload hg T (SparseCore.rows L (rows_numel hg) hin) y = T (ix2 ⟨(L (ix1 (y 0))).toNat, hin _⟩ (y 1)) := by
  unfold SparseCore.gatherPayload
  congr 1
  funext b
  match b with
  | ⟨0, _⟩ =>
    refine (Shape.Gathers.idx_axis hg _ y).trans (Fin.ext ?_)
    unfold SparseCore.rows
    show (L _).toNat = (L _).toNat
    congr 2
    refine S100.rowMajor.injective ?_
    rw [Equiv.apply_symm_apply]
    refine Fin.ext ?_
    rw [Shape.rowMajor_val_one]
    rfl
  | ⟨1, _⟩ => exact Fin.ext (Shape.Gathers.idx_of_ne hg _ y _ Nat.one_ne_zero)

/-- The row buffer's slab `t` at an index. -/
theorem gath_slab (X : Vec F S3x2x100 .i32) (T4 : Vec F S1000x128 .f32) (T5 T6 : Vec F S100000x128 .f32) (t : Fin 6) (y : S100x128.Idx) :
    gath X T4 T5 T6 ((rSlab t).emb y)
      = if t.val < 2 then T4 (ix2 (Fin.ofNat 1000 (lstv X t (ix1 (y 0))).toNat) (y 1))
        else if t.val < 4 then T5 (ix2 (Fin.ofNat 100000 (lstv X t (ix1 (y 0))).toNat) (y 1))
        else T6 (ix2 (Fin.ofNat 100000 (lstv X t (ix1 (y 0))).toNat) (y 1)) := by
  have hy : (y 0).val < 100 := (y 0).isLt
  have ht := t.isLt
  have e0 : (((rSlab t).emb y) 0).val = 100 * t.val + (y 0).val := by
    show 100 * t.val + 1 * (y 0).val = _; omega
  have e1 : ((rSlab t).emb y) 1 = y 1 := Fin.ext (by show 0 + 1 * (y 1).val = _; omega)
  have eL : ent X (((rSlab t).emb y) 0) = lstv X t (ix1 (y 0)) := by
    unfold ent lstv
    congr 1
    congr 1
    · exact Fin.ext (by show _ / 200 = t.val / 2; rw [e0]; omega)
    · exact Fin.ext (by show _ % 200 / 100 = t.val % 2; rw [e0]; omega)
    · exact Fin.ext (by show _ % 100 = (y 0).val; rw [e0]; omega)
  unfold gath
  rw [eL, e1, e0]
  by_cases h2 : t.val < 2
  · rw [if_pos (by omega), if_pos h2]
  · by_cases h4 : t.val < 4
    · rw [if_neg (by omega), if_pos (by omega), if_neg h2, if_pos h4]
    · rw [if_neg (by omega), if_neg (by omega), if_neg h2, if_neg h4]

theorem ix2_ofNat {n : ℕ} [NeZero n] (w : ℕ) (h : w < n) (c : Fin 128) : (ix2 (⟨w, h⟩ : Fin n) c) = ix2 (Fin.ofNat n w) c := by
  congr 1
  exact Fin.ext (Nat.mod_eq_of_lt h).symm

theorem bigSep_fin6 {M : Type} [URA M] (Φ : Fin 6 → sProp M) :
    bigSep Finset.univ Φ = iprop(Φ 0 ∗ Φ 1 ∗ Φ 2 ∗ Φ 3 ∗ Φ 4 ∗ Φ 5) :=
  BI.bigSep_univ_eq_bigSepL [0, 1, 2, 3, 4, 5] (by decide) (by decide) Φ

/-- The whole of the small table, as the gathers name it. -/
abbrev tabA (m : Memref sig .scVector .hbm S1000x128 .f32) : Memref sig .scVector .hbm S1000x128 .f32 :=
  m.slice (Rect.unit (s := S1000x128) ![0, 0] S1000x128.size inb_S1000x128_S1000x128_0_0) (fun _ => rfl)

/-- The whole of a large table, as the gathers name it. -/
abbrev tabB (m : Memref sig .scVector .hbm S100000x128 .f32) : Memref sig .scVector .hbm S100000x128 .f32 :=
  m.slice (Rect.unit (s := S100000x128) ![0, 0] S100000x128.size inb_S100000x128_S100000x128_0_0) (fun _ => rfl)

section Open

variable [FloatOps F] (d : Dev nD) (i : grid1.Coords)

/-- The row buffer as its six slabs, whatever they hold. -/
theorem slabs_split (arg12 : Memref sig .scVector .vmem S600x128 .f32) (R : Vec F S600x128 .f32) :
    (owns (tile d i) arg12 fullShare R : sProp 𝕄)
      ⊢ bigSep Finset.univ fun t : Fin 6 => iprop(∃ Y : Vec F S100x128 .f32, owns (tile d i) (arg12.slice (rSlab t) (fun _ => rfl)) fullShare Y) :=
  (owns_rects (tile d i) arg12 fullShare rSlab (fun _ _ => rfl) rSlab_disj rSlab_cov R).trans
    (bigSep_mono fun t _ => exists_intro (Φ := fun Y : Vec F S100x128 .f32 => owns (tile d i) (arg12.slice (rSlab t) (fun _ => rfl)) fullShare Y)
      (fun j => R ((rSlab t).emb j)))

theorem lst_word (X : Vec F S3x2x100 .i32) (t : Fin 6) (x : S1x1x100.Idx) (y : S100.Idx) (h : (S1x1x100.rowMajor x).val = (S100.rowMajor y).val) :
    X ((rLst t).emb x) = lstv X t y := by
  rw [Shape.rowMajor_val_three, Shape.rowMajor_val_one] at h
  have h0 : (x 0).val < 1 := (x 0).isLt
  have h1 : (x 1).val < 1 := (x 1).isLt
  change ((x 0).val * 1 + (x 1).val) * 100 + (x 2).val = (y 0).val at h
  unfold lstv
  congr 1
  funext a
  match a with
  | ⟨0, _⟩ => exact Fin.ext (by show t.val / 2 + 1 * (x 0).val = t.val / 2; omega)
  | ⟨1, _⟩ => exact Fin.ext (by show t.val % 2 + 1 * (x 1).val = t.val % 2; omega)
  | ⟨2, _⟩ => exact Fin.ext (by show 0 + 1 * (x 2).val = (y 0).val; omega)

/-- An index buffer as its six lists. -/
theorem lists_split (al : Memref sig .scVector .vmem S3x2x100 .i32) (X : Vec F S3x2x100 .i32) :
    (owns (tile d i) al fullShare X : sProp 𝕄)
      ⊣⊢ bigSep Finset.univ fun t : Fin 6 =>
        owns (tile d i) ((al.slice (rLst t) (fun _ => rfl)).squeeze S100 squeezes_S1x1x100_S100) fullShare (lstv X t) := by
  constructor
  · refine (owns_rects (tile d i) al fullShare rLst (fun _ _ => rfl) rLst_disj rLst_cov X).trans (bigSep_mono fun t _ => ?_)
    exact (owns_squeeze (tile d i) (al.slice (rLst t) (fun _ => rfl)) squeezes_S1x1x100_S100 fullShare _ _ (lst_word X t)).1
  · refine BI.Entails.trans (bigSep_mono fun t _ => ?_) (owns_of_rects (tile d i) al fullShare rLst (fun _ _ => rfl) rLst_disj rLst_cov X)
    exact (owns_squeeze (tile d i) (al.slice (rLst t) (fun _ => rfl)) squeezes_S1x1x100_S100 fullShare _ _ (lst_word X t)).2

/-- What the gathers' rows are together, and what each gather holds before it starts. -/
theorem gather_open (sem : DmaSem sig) (arg4 : Memref sig .scVector .hbm S1000x128 .f32) (arg5 arg6 : Memref sig .scVector .hbm S100000x128 .f32)
    (arg12 : Memref sig .scVector .vmem S600x128 .f32) (al : Memref sig .scVector .vmem S3x2x100 .i32)
    (q : PosShare TreeShare) (X : Vec F S3x2x100 .i32) (hX : InRange X) (T4 : Vec F S1000x128 .f32) (T5 T6 : Vec F S100000x128 .f32) :
    (iprop((∃ R : Vec F S600x128 .f32, owns (tile d i) arg12 fullShare R) ∗ owns (tile d i) al fullShare X
        ∗ (owns (tile d i) (tabA arg4) q T4 ∗ owns (tile d i) (tabB arg5) q T5 ∗ owns (tile d i) (tabB arg6) q T6)
        ∗ semVal (tile d i, .dma sem) 0) : sProp 𝕄)
      ⊢ |={Set.univ}=> iprop(∃ A : Fin 6 → Fin 100 → sProp 𝕄, ⌜bigSep Finset.univ (pack A)
            ⊢ iprop(owns (tile d i) arg12 fullShare (gath X T4 T5 T6) ∗ owns (tile d i) al fullShare X
              ∗ (owns (tile d i) (tabA arg4) q T4 ∗ owns (tile d i) (tabB arg5) q T5 ∗ owns (tile d i) (tabB arg6) q T6))⌝
          ∗ BT d i sem A 0 0
          ∗ Pre d i (tabA arg4) (arg12.slice (Rect.unit (s := S600x128) ![0, 0] S100x128.size inb_S600x128_S100x128_0_0) (fun _ => rfl)) gathers_S1000x128_S100x128 ((al.slice (Rect.unit (s := S3x2x100) ![0, 0, 0] S1x1x100.size inb_S3x2x100_S1x1x100_0_0_0) (fun _ => rfl)).squeeze S100 squeezes_S1x1x100_S100) (A 0)
          ∗ Pre d i (tabA arg4) (arg12.slice (Rect.unit (s := S600x128) ![100, 0] S100x128.size inb_S600x128_S100x128_100_0) (fun _ => rfl)) gathers_S1000x128_S100x128 ((al.slice (Rect.unit (s := S3x2x100) ![0, 1, 0] S1x1x100.size inb_S3x2x100_S1x1x100_0_1_0) (fun _ => rfl)).squeeze S100 squeezes_S1x1x100_S100) (A 1)
          ∗ Pre d i (tabB arg5) (arg12.slice (Rect.unit (s := S600x128) ![200, 0] S100x128.size inb_S600x128_S100x128_200_0) (fun _ => rfl)) gathers_S100000x128_S100x128 ((al.slice (Rect.unit (s := S3x2x100) ![1, 0, 0] S1x1x100.size inb_S3x2x100_S1x1x100_1_0_0) (fun _ => rfl)).squeeze S100 squeezes_S1x1x100_S100) (A 2)
          ∗ Pre d i (tabB arg5) (arg12.slice (Rect.unit (s := S600x128) ![300, 0] S100x128.size inb_S600x128_S100x128_300_0) (fun _ => rfl)) gathers_S100000x128_S100x128 ((al.slice (Rect.unit (s := S3x2x100) ![1, 1, 0] S1x1x100.size inb_S3x2x100_S1x1x100_1_1_0) (fun _ => rfl)).squeeze S100 squeezes_S1x1x100_S100) (A 3)
          ∗ Pre d i (tabB arg6) (arg12.slice (Rect.unit (s := S600x128) ![400, 0] S100x128.size inb_S600x128_S100x128_400_0) (fun _ => rfl)) gathers_S100000x128_S100x128 ((al.slice (Rect.unit (s := S3x2x100) ![2, 0, 0] S1x1x100.size inb_S3x2x100_S1x1x100_2_0_0) (fun _ => rfl)).squeeze S100 squeezes_S1x1x100_S100) (A 4)
          ∗ Pre d i (tabB arg6) (arg12.slice (Rect.unit (s := S600x128) ![500, 0] S100x128.size inb_S600x128_S100x128_500_0) (fun _ => rfl)) gathers_S100000x128_S100x128 ((al.slice (Rect.unit (s := S3x2x100) ![2, 1, 0] S1x1x100.size inb_S3x2x100_S1x1x100_2_1_0) (fun _ => rfl)).squeeze S100 squeezes_S1x1x100_S100) (A 5)) := by
  obtain ⟨hX0, hX1, hX2⟩ := hX
  iintro ⟨⟨%R, HR⟩, HX, ⟨H4, H5, H6⟩, Hv⟩
  ihave HR' := ((slabs_split d i arg12 R).trans (Entails.of_eq (bigSep_fin6 _))) $$ HR
  ihave HX' := ((lists_split d i al X).1.trans (Entails.of_eq (bigSep_fin6 _))) $$ HX
  ihave H4' := (owns_halves (tile d i) (tabA arg4) q T4).1 $$ H4
  ihave H5' := (owns_halves (tile d i) (tabB arg5) q T5).1 $$ H5
  ihave H6' := (owns_halves (tile d i) (tabB arg6) q T6).1 $$ H6
  icases HR' with ⟨HR0, HR1, HR2, HR3, HR4, HR5⟩
  icases HX' with ⟨HX0, HX1, HX2, HX3, HX4, HX5⟩
  icases H4' with ⟨HT0, HT1⟩
  icases H5' with ⟨HT2, HT3⟩
  icases H6' with ⟨HT4, HT5⟩
  ihave HA0 := (gather_one d i (tabA arg4) (arg12.slice (Rect.unit (s := S600x128) ![0, 0] S100x128.size inb_S600x128_S100x128_0_0) (fun _ => rfl)) gathers_S1000x128_S100x128 ((al.slice (Rect.unit (s := S3x2x100) ![0, 0, 0] S1x1x100.size inb_S3x2x100_S1x1x100_0_0_0) (fun _ => rfl)).squeeze S100 squeezes_S1x1x100_S100) q.left fullShare T4 (lstv X 0) (fun x => hX0 0 (x 0))) $$ [HT0 HR0 HX0]
  · isplitl [HT0]; · iexact HT0
    isplitl [HR0]; · iexact HR0
    iexact HX0
  icases HA0 with ⟨%A0, %hA0, HP0⟩
  ihave HA1 := (gather_one d i (tabA arg4) (arg12.slice (Rect.unit (s := S600x128) ![100, 0] S100x128.size inb_S600x128_S100x128_100_0) (fun _ => rfl)) gathers_S1000x128_S100x128 ((al.slice (Rect.unit (s := S3x2x100) ![0, 1, 0] S1x1x100.size inb_S3x2x100_S1x1x100_0_1_0) (fun _ => rfl)).squeeze S100 squeezes_S1x1x100_S100) q.right fullShare T4 (lstv X 1) (fun x => hX0 1 (x 0))) $$ [HT1 HR1 HX1]
  · isplitl [HT1]; · iexact HT1
    isplitl [HR1]; · iexact HR1
    iexact HX1
  icases HA1 with ⟨%A1, %hA1, HP1⟩
  ihave HA2 := (gather_one d i (tabB arg5) (arg12.slice (Rect.unit (s := S600x128) ![200, 0] S100x128.size inb_S600x128_S100x128_200_0) (fun _ => rfl)) gathers_S100000x128_S100x128 ((al.slice (Rect.unit (s := S3x2x100) ![1, 0, 0] S1x1x100.size inb_S3x2x100_S1x1x100_1_0_0) (fun _ => rfl)).squeeze S100 squeezes_S1x1x100_S100) q.left fullShare T5 (lstv X 2) (fun x => hX1 0 (x 0))) $$ [HT2 HR2 HX2]
  · isplitl [HT2]; · iexact HT2
    isplitl [HR2]; · iexact HR2
    iexact HX2
  icases HA2 with ⟨%A2, %hA2, HP2⟩
  ihave HA3 := (gather_one d i (tabB arg5) (arg12.slice (Rect.unit (s := S600x128) ![300, 0] S100x128.size inb_S600x128_S100x128_300_0) (fun _ => rfl)) gathers_S100000x128_S100x128 ((al.slice (Rect.unit (s := S3x2x100) ![1, 1, 0] S1x1x100.size inb_S3x2x100_S1x1x100_1_1_0) (fun _ => rfl)).squeeze S100 squeezes_S1x1x100_S100) q.right fullShare T5 (lstv X 3) (fun x => hX1 1 (x 0))) $$ [HT3 HR3 HX3]
  · isplitl [HT3]; · iexact HT3
    isplitl [HR3]; · iexact HR3
    iexact HX3
  icases HA3 with ⟨%A3, %hA3, HP3⟩
  ihave HA4 := (gather_one d i (tabB arg6) (arg12.slice (Rect.unit (s := S600x128) ![400, 0] S100x128.size inb_S600x128_S100x128_400_0) (fun _ => rfl)) gathers_S100000x128_S100x128 ((al.slice (Rect.unit (s := S3x2x100) ![2, 0, 0] S1x1x100.size inb_S3x2x100_S1x1x100_2_0_0) (fun _ => rfl)).squeeze S100 squeezes_S1x1x100_S100) q.left fullShare T6 (lstv X 4) (fun x => hX2 0 (x 0))) $$ [HT4 HR4 HX4]
  · isplitl [HT4]; · iexact HT4
    isplitl [HR4]; · iexact HR4
    iexact HX4
  icases HA4 with ⟨%A4, %hA4, HP4⟩
  ihave HA5 := (gather_one d i (tabB arg6) (arg12.slice (Rect.unit (s := S600x128) ![500, 0] S100x128.size inb_S600x128_S100x128_500_0) (fun _ => rfl)) gathers_S100000x128_S100x128 ((al.slice (Rect.unit (s := S3x2x100) ![2, 1, 0] S1x1x100.size inb_S3x2x100_S1x1x100_2_1_0) (fun _ => rfl)).squeeze S100 squeezes_S1x1x100_S100) q.right fullShare T6 (lstv X 5) (fun x => hX2 1 (x 0))) $$ [HT5 HR5 HX5]
  · isplitl [HT5]; · iexact HT5
    isplitl [HR5]; · iexact HR5
    iexact HX5
  icases HA5 with ⟨%A5, %hA5, HP5⟩
  let A : Fin 6 → Fin 100 → sProp 𝕄 := ![A0, A1, A2, A3, A4, A5]
  haveI hst : ∀ t, Storable (upEmb : UEmb _ 𝕄) (pack A t) := fun t => by
    unfold pack
    generalize (finProdFinEquiv.symm t).1 = u
    generalize (finProdFinEquiv.symm t).2 = v
    match u with
    | 0 => exact hA0.1 v
    | 1 => exact hA1.1 v
    | 2 => exact hA2.1 v
    | 3 => exact hA3.1 v
    | 4 => exact hA4.1 v
    | 5 => exact hA5.1 v
  imod (Transfers.batch_alloc' countersEmb (tile d i) (none : HIx 1) 4096 (pack A) (E := Set.univ)) $$ Hv with HB
  imodintro
  iexists A
  isplitr
  · ipureintro
    rw [bigSep_pack, bigSep_fin6]
    iintro ⟨HA0, HA1, HA2, HA3, HA4, HA5⟩
    ihave HB0 := (show bigSep Finset.univ (A 0) ⊢ _ from hA0.2) $$ HA0
    icases HB0 with ⟨HT0, HR0, HX0⟩
    ihave HB1 := (show bigSep Finset.univ (A 1) ⊢ _ from hA1.2) $$ HA1
    icases HB1 with ⟨HT1, HR1, HX1⟩
    ihave HB2 := (show bigSep Finset.univ (A 2) ⊢ _ from hA2.2) $$ HA2
    icases HB2 with ⟨HT2, HR2, HX2⟩
    ihave HB3 := (show bigSep Finset.univ (A 3) ⊢ _ from hA3.2) $$ HA3
    icases HB3 with ⟨HT3, HR3, HX3⟩
    ihave HB4 := (show bigSep Finset.univ (A 4) ⊢ _ from hA4.2) $$ HA4
    icases HB4 with ⟨HT4, HR4, HX4⟩
    ihave HB5 := (show bigSep Finset.univ (A 5) ⊢ _ from hA5.2) $$ HA5
    icases HB5 with ⟨HT5, HR5, HX5⟩
    isplitl [HR0 HR1 HR2 HR3 HR4 HR5]
    · iapply ((Entails.of_eq (bigSep_fin6 _).symm).trans (owns_of_rects (tile d i) arg12 fullShare rSlab (fun _ _ => rfl) rSlab_disj rSlab_cov (gath X T4 T5 T6)))
      isplitl [HR0]
      · iapply (Entails.of_eq (congrArg (owns (tile d i) (arg12.slice (Rect.unit (s := S600x128) ![0, 0] S100x128.size inb_S600x128_S100x128_0_0) (fun _ => rfl)) fullShare) (show SparseCore.gatherPayload gathers_S1000x128_S100x128 T4 (SparseCore.rows (lstv X 0) (rows_numel gathers_S1000x128_S100x128) (fun x => hX0 0 (x 0))) = fun j => gath X T4 T5 T6 ((rSlab 0).emb j) from funext fun j => (payload_apply gathers_S1000x128_S100x128 T4 (lstv X 0) (fun x => hX0 0 (x 0)) j).trans ((congrArg T4 (ix2_ofNat _ _ _)).trans (gath_slab X T4 T5 T6 0 j).symm)))) $$ HR0
      isplitl [HR1]
      · iapply (Entails.of_eq (congrArg (owns (tile d i) (arg12.slice (Rect.unit (s := S600x128) ![100, 0] S100x128.size inb_S600x128_S100x128_100_0) (fun _ => rfl)) fullShare) (show SparseCore.gatherPayload gathers_S1000x128_S100x128 T4 (SparseCore.rows (lstv X 1) (rows_numel gathers_S1000x128_S100x128) (fun x => hX0 1 (x 0))) = fun j => gath X T4 T5 T6 ((rSlab 1).emb j) from funext fun j => (payload_apply gathers_S1000x128_S100x128 T4 (lstv X 1) (fun x => hX0 1 (x 0)) j).trans ((congrArg T4 (ix2_ofNat _ _ _)).trans (gath_slab X T4 T5 T6 1 j).symm)))) $$ HR1
      isplitl [HR2]
      · iapply (Entails.of_eq (congrArg (owns (tile d i) (arg12.slice (Rect.unit (s := S600x128) ![200, 0] S100x128.size inb_S600x128_S100x128_200_0) (fun _ => rfl)) fullShare) (show SparseCore.gatherPayload gathers_S100000x128_S100x128 T5 (SparseCore.rows (lstv X 2) (rows_numel gathers_S100000x128_S100x128) (fun x => hX1 0 (x 0))) = fun j => gath X T4 T5 T6 ((rSlab 2).emb j) from funext fun j => (payload_apply gathers_S100000x128_S100x128 T5 (lstv X 2) (fun x => hX1 0 (x 0)) j).trans ((congrArg T5 (ix2_ofNat _ _ _)).trans (gath_slab X T4 T5 T6 2 j).symm)))) $$ HR2
      isplitl [HR3]
      · iapply (Entails.of_eq (congrArg (owns (tile d i) (arg12.slice (Rect.unit (s := S600x128) ![300, 0] S100x128.size inb_S600x128_S100x128_300_0) (fun _ => rfl)) fullShare) (show SparseCore.gatherPayload gathers_S100000x128_S100x128 T5 (SparseCore.rows (lstv X 3) (rows_numel gathers_S100000x128_S100x128) (fun x => hX1 1 (x 0))) = fun j => gath X T4 T5 T6 ((rSlab 3).emb j) from funext fun j => (payload_apply gathers_S100000x128_S100x128 T5 (lstv X 3) (fun x => hX1 1 (x 0)) j).trans ((congrArg T5 (ix2_ofNat _ _ _)).trans (gath_slab X T4 T5 T6 3 j).symm)))) $$ HR3
      isplitl [HR4]
      · iapply (Entails.of_eq (congrArg (owns (tile d i) (arg12.slice (Rect.unit (s := S600x128) ![400, 0] S100x128.size inb_S600x128_S100x128_400_0) (fun _ => rfl)) fullShare) (show SparseCore.gatherPayload gathers_S100000x128_S100x128 T6 (SparseCore.rows (lstv X 4) (rows_numel gathers_S100000x128_S100x128) (fun x => hX2 0 (x 0))) = fun j => gath X T4 T5 T6 ((rSlab 4).emb j) from funext fun j => (payload_apply gathers_S100000x128_S100x128 T6 (lstv X 4) (fun x => hX2 0 (x 0)) j).trans ((congrArg T6 (ix2_ofNat _ _ _)).trans (gath_slab X T4 T5 T6 4 j).symm)))) $$ HR4
      iapply (Entails.of_eq (congrArg (owns (tile d i) (arg12.slice (Rect.unit (s := S600x128) ![500, 0] S100x128.size inb_S600x128_S100x128_500_0) (fun _ => rfl)) fullShare) (show SparseCore.gatherPayload gathers_S100000x128_S100x128 T6 (SparseCore.rows (lstv X 5) (rows_numel gathers_S100000x128_S100x128) (fun x => hX2 1 (x 0))) = fun j => gath X T4 T5 T6 ((rSlab 5).emb j) from funext fun j => (payload_apply gathers_S100000x128_S100x128 T6 (lstv X 5) (fun x => hX2 1 (x 0)) j).trans ((congrArg T6 (ix2_ofNat _ _ _)).trans (gath_slab X T4 T5 T6 5 j).symm)))) $$ HR5
    isplitl [HX0 HX1 HX2 HX3 HX4 HX5]
    · iapply ((Entails.of_eq (bigSep_fin6 _).symm).trans (lists_split d i al X).2)
      isplitl [HX0]; · iexact HX0
      isplitl [HX1]; · iexact HX1
      isplitl [HX2]; · iexact HX2
      isplitl [HX3]; · iexact HX3
      isplitl [HX4]; · iexact HX4
      iexact HX5
    isplitl [HT0 HT1]
    · iapply (owns_halves (tile d i) (tabA arg4) q T4).2
      isplitl [HT0] <;> iassumption
    isplitl [HT2 HT3]
    · iapply (owns_halves (tile d i) (tabB arg5) q T5).2
      isplitl [HT2] <;> iassumption
    · iapply (owns_halves (tile d i) (tabB arg6) q T6).2
      isplitl [HT4] <;> iassumption
  isplitl [HB]; · iexact HB
  isplitl [HP0]; · iexact HP0
  isplitl [HP1]; · iexact HP1
  isplitl [HP2]; · iexact HP2
  isplitl [HP3]; · iexact HP3
  isplitl [HP4]; · iexact HP4
  iexact HP5

end Open

end Cert.Proof
-- ==== Proof.Rows.lean ====
/-
  The steps of a trip that both slots share: the six gathers, the slot's 24 loads, the copies of the next row's list and
  vector in and of the scores out, over the memrefs of a batch row.
-/
module

public import proofs.«01_k».proof.Proof.Action
public import proofs.«01_k».proof.Proof.Slabs

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The memrefs of a batch row -/

/-- The index lists of batch row `r`. -/
abbrev idxRow (arg3 : Memref sig .scVector .hbm S1024x3x2x100 .i32) (r : Fin 1024) : Memref sig .scVector .hbm S3x2x100 .i32 :=
  (arg3.slice (Rect.unit (s := S1024x3x2x100) ![r.val, 0, 0, 0] S1x3x2x100.size (by
    intro k; have := r.isLt; fin_cases k <;> simp [S1024x3x2x100, S1x3x2x100] <;> omega)) (fun _ => rfl)).squeeze S3x2x100 squeezes_S1x3x2x100_S3x2x100

/-- The vector of batch row `r`. -/
abbrev x2Row (arg2 : Memref sig .scVector .hbm S1024x384 .f32) (r : Fin 1024) : Memref sig .scVector .hbm S384 .f32 :=
  (arg2.slice (Rect.unit (s := S1024x384) ![r.val, 0] S1x384.size (by
    intro k; have := r.isLt; fin_cases k <;> simp [S1024x384, S1x384] <;> omega)) (fun _ => rfl)).squeeze S384 squeezes_S1x384_S384

/-- The scores of batch row `r`. -/
abbrev outRow (arg7 : Memref sig .scVector .hbm S1024x256 .f32) (r : Fin 1024) : Memref sig .scVector .hbm S256 .f32 :=
  (arg7.slice (Rect.unit (s := S1024x256) ![r.val, 0] S1x256.size (by
    intro k; have := r.isLt; fin_cases k <;> simp [S1024x256, S1x256] <;> omega)) (fun _ => rfl)).squeeze S256 squeezes_S1x256_S256

theorem idxRow_eq (arg3 : Memref sig .scVector .hbm S1024x3x2x100 .i32) (r : Fin 1024) {o : Fin 4 → ℕ} (h : o = ![r.val, 0, 0, 0])
    (inb : ∀ k, o k + S1x3x2x100.size k ≤ S1024x3x2x100.size k) :
    (arg3.slice (Rect.unit (s := S1024x3x2x100) o S1x3x2x100.size inb) (fun _ => rfl)).squeeze S3x2x100 squeezes_S1x3x2x100_S3x2x100 = idxRow arg3 r := by
  subst h; rfl

theorem x2Row_eq (arg2 : Memref sig .scVector .hbm S1024x384 .f32) (r : Fin 1024) {o : Fin 2 → ℕ} (h : o = ![r.val, 0])
    (inb : ∀ k, o k + S1x384.size k ≤ S1024x384.size k) :
    (arg2.slice (Rect.unit (s := S1024x384) o S1x384.size inb) (fun _ => rfl)).squeeze S384 squeezes_S1x384_S384 = x2Row arg2 r := by
  subst h; rfl

theorem outRow_eq (arg7 : Memref sig .scVector .hbm S1024x256 .f32) (r : Fin 1024) {o : Fin 2 → ℕ} (h : o = ![r.val, 0])
    (inb : ∀ k, o k + S1x256.size k ≤ S1024x256.size k) :
    (arg7.slice (Rect.unit (s := S1024x256) o S1x256.size inb) (fun _ => rfl)).squeeze S256 squeezes_S1x256_S256 = outRow arg7 r := by
  subst h; rfl

/-- Row `j` of the 32 that a tile works, among the batch's. -/
def rowOf (i : grid1.Coords) (j : ℕ) : Fin 1024 := Fin.ofNat 1024 (64 * (i 1).val + 32 * (i 0).val + j)

theorem rowOf_val (i : grid1.Coords) (j : ℕ) (hj : j < 32) : (rowOf i j).val = 64 * (i 1).val + 32 * (i 0).val + j := by
  have h0 : (i 0).val < 2 := (i 0).isLt
  have h1 : (i 1).val < 16 := (i 1).isLt
  exact Nat.mod_eq_of_lt (by omega)

/-! ## Families over a range of rows -/

section Families

theorem take_if (Φ : ℕ → sProp 𝕄) (k n : ℕ) : bigSep (Finset.Ico k n) Φ ⊢ iprop((if k < n then Φ k else emp) ∗ bigSep (Finset.Ico (k + 1) n) Φ) := by
  by_cases h : k < n
  · rw [if_pos h, ← Finset.insert_Ico_succ_left_eq_Ico h]
    exact Entails.of_eq (BI.bigSep_insert (by simp))
  · rw [if_neg h, Finset.Ico_eq_empty_of_le (by omega), Finset.Ico_eq_empty_of_le (by omega)]
    exact BI.emp_sep.2

theorem put_if (Φ : ℕ → sProp 𝕄) (b : Prop) [Decidable b] (k : ℕ) : iprop((if b then Φ k else emp) ∗ bigSep (Finset.range k) Φ) ⊢ bigSep (Finset.range (if b then k + 1 else k)) Φ := by
  by_cases h : b
  · rw [if_pos h, if_pos h, Finset.range_add_one]
    exact Entails.of_eq (BI.bigSep_insert (by simp)).symm
  · rw [if_neg h, if_neg h]
    iintro ⟨-, H⟩; iexact H

theorem put_one (Φ : ℕ → sProp 𝕄) (k : ℕ) : iprop(Φ k ∗ bigSep (Finset.range k) Φ) ⊢ bigSep (Finset.range (k + 1)) Φ := by
  rw [Finset.range_add_one]
  exact Entails.of_eq (BI.bigSep_insert (by simp)).symm

theorem take_one (Φ : ℕ → sProp 𝕄) (k n : ℕ) (h : k < n) : bigSep (Finset.Ico k n) Φ ⊢ iprop(Φ k ∗ bigSep (Finset.Ico (k + 1) n) Φ) := by
  rw [← Finset.insert_Ico_succ_left_eq_Ico h]
  exact Entails.of_eq (BI.bigSep_insert (by simp))

end Families

section Slot

variable [FloatOps F] (d : Dev nD) (i : grid1.Coords) (O : CellTallies nD τ sig (HIx 1)) (W : Waits sig (HIx 1))

/-- The three tables, read at share `q`. -/
def Tabs (arg4 : Memref sig .scVector .hbm S1000x128 .f32) (arg5 arg6 : Memref sig .scVector .hbm S100000x128 .f32) (q : PosShare TreeShare)
    (T4 : Vec F S1000x128 .f32) (T5 T6 : Vec F S100000x128 .f32) : sProp 𝕄 :=
  iprop(owns (tile d i) (tabA arg4) q T4 ∗ owns (tile d i) (tabB arg5) q T5 ∗ owns (tile d i) (tabB arg6) q T6)

set_option maxHeartbeats 800000 in
/-- The six gathers of a row and the six waits. -/
theorem six_wp (sem : DmaSem sig) (arg4 : Memref sig .scVector .hbm S1000x128 .f32) (arg5 arg6 : Memref sig .scVector .hbm S100000x128 .f32)
    (arg12 : Memref sig .scVector .vmem S600x128 .f32) (al : Memref sig .scVector .vmem S3x2x100 .i32)
    (q : PosShare TreeShare) (X : Vec F S3x2x100 .i32) (hX : InRange X) (T4 : Vec F S1000x128 .f32) (T5 T6 : Vec F S100000x128 .f32)
    {α : Type} {rest : Prog (TpuEff nD τ sig (Elt F) Λ₀ (tile d i).2) α} {Q : α → sProp 𝕄} :
    (iprop((∃ R : Vec F S600x128 .f32, owns (tile d i) arg12 fullShare R) ∗ owns (tile d i) al fullShare X ∗ Tabs d i arg4 arg5 arg6 q T4 T5 T6
        ∗ semVal (tile d i, .dma sem) 0 ∗ Ow (tile d i) O W) : sProp 𝕄)
      ⊢ iprop((iprop(owns (tile d i) arg12 fullShare (gath X T4 T5 T6) ∗ owns (tile d i) al fullShare X ∗ Tabs d i arg4 arg5 arg6 q T4 T5 T6
            ∗ semVal (tile d i, .dma sem) 0 ∗ Ow (tile d i) O W) -∗ wpT d i rest Q)
          -∗ wpT d i (do
            SparseCore.enqueueIndirectGather rfl (tabA arg4) (arg12.slice (Rect.unit (s := S600x128) ![0, 0] S100x128.size inb_S600x128_S100x128_0_0) (fun _ => rfl)) gathers_S1000x128_S100x128 ((al.slice (Rect.unit (s := S3x2x100) ![0, 0, 0] S1x1x100.size inb_S3x2x100_S1x1x100_0_0_0) (fun _ => rfl)).squeeze S100 squeezes_S1x1x100_S100) rfl sem (View.wordExact_bits rfl) rfl (Or.inl rfl)
            SparseCore.enqueueIndirectGather rfl (tabA arg4) (arg12.slice (Rect.unit (s := S600x128) ![100, 0] S100x128.size inb_S600x128_S100x128_100_0) (fun _ => rfl)) gathers_S1000x128_S100x128 ((al.slice (Rect.unit (s := S3x2x100) ![0, 1, 0] S1x1x100.size inb_S3x2x100_S1x1x100_0_1_0) (fun _ => rfl)).squeeze S100 squeezes_S1x1x100_S100) rfl sem (View.wordExact_bits rfl) rfl (Or.inl rfl)
            SparseCore.enqueueIndirectGather rfl (tabB arg5) (arg12.slice (Rect.unit (s := S600x128) ![200, 0] S100x128.size inb_S600x128_S100x128_200_0) (fun _ => rfl)) gathers_S100000x128_S100x128 ((al.slice (Rect.unit (s := S3x2x100) ![1, 0, 0] S1x1x100.size inb_S3x2x100_S1x1x100_1_0_0) (fun _ => rfl)).squeeze S100 squeezes_S1x1x100_S100) rfl sem (View.wordExact_bits rfl) rfl (Or.inl rfl)
            SparseCore.enqueueIndirectGather rfl (tabB arg5) (arg12.slice (Rect.unit (s := S600x128) ![300, 0] S100x128.size inb_S600x128_S100x128_300_0) (fun _ => rfl)) gathers_S100000x128_S100x128 ((al.slice (Rect.unit (s := S3x2x100) ![1, 1, 0] S1x1x100.size inb_S3x2x100_S1x1x100_1_1_0) (fun _ => rfl)).squeeze S100 squeezes_S1x1x100_S100) rfl sem (View.wordExact_bits rfl) rfl (Or.inl rfl)
            SparseCore.enqueueIndirectGather rfl (tabB arg6) (arg12.slice (Rect.unit (s := S600x128) ![400, 0] S100x128.size inb_S600x128_S100x128_400_0) (fun _ => rfl)) gathers_S100000x128_S100x128 ((al.slice (Rect.unit (s := S3x2x100) ![2, 0, 0] S1x1x100.size inb_S3x2x100_S1x1x100_2_0_0) (fun _ => rfl)).squeeze S100 squeezes_S1x1x100_S100) rfl sem (View.wordExact_bits rfl) rfl (Or.inl rfl)
            SparseCore.enqueueIndirectGather rfl (tabB arg6) (arg12.slice (Rect.unit (s := S600x128) ![500, 0] S100x128.size inb_S600x128_S100x128_500_0) (fun _ => rfl)) gathers_S100000x128_S100x128 ((al.slice (Rect.unit (s := S3x2x100) ![2, 1, 0] S1x1x100.size inb_S3x2x100_S1x1x100_2_1_0) (fun _ => rfl)).squeeze S100 squeezes_S1x1x100_S100) rfl sem (View.wordExact_bits rfl) rfl (Or.inl rfl)
            SparseCore.waitIndirectGather sem (tabA arg4) (arg12.slice (Rect.unit (s := S600x128) ![0, 0] S100x128.size inb_S600x128_S100x128_0_0) (fun _ => rfl)) (View.wordExact_bits rfl) (View.wordExact_bits rfl)
            SparseCore.waitIndirectGather sem (tabA arg4) (arg12.slice (Rect.unit (s := S600x128) ![100, 0] S100x128.size inb_S600x128_S100x128_100_0) (fun _ => rfl)) (View.wordExact_bits rfl) (View.wordExact_bits rfl)
            SparseCore.waitIndirectGather sem (tabB arg5) (arg12.slice (Rect.unit (s := S600x128) ![200, 0] S100x128.size inb_S600x128_S100x128_200_0) (fun _ => rfl)) (View.wordExact_bits rfl) (View.wordExact_bits rfl)
            SparseCore.waitIndirectGather sem (tabB arg5) (arg12.slice (Rect.unit (s := S600x128) ![300, 0] S100x128.size inb_S600x128_S100x128_300_0) (fun _ => rfl)) (View.wordExact_bits rfl) (View.wordExact_bits rfl)
            SparseCore.waitIndirectGather sem (tabB arg6) (arg12.slice (Rect.unit (s := S600x128) ![400, 0] S100x128.size inb_S600x128_S100x128_400_0) (fun _ => rfl)) (View.wordExact_bits rfl) (View.wordExact_bits rfl)
            SparseCore.waitIndirectGather sem (tabB arg6) (arg12.slice (Rect.unit (s := S600x128) ![500, 0] S100x128.size inb_S600x128_S100x128_500_0) (fun _ => rfl)) (View.wordExact_bits rfl) (View.wordExact_bits rfl)
            rest) Q) := by
  unfold Tabs
  iintro ⟨HR, HX, HT, Hv, HO⟩ Hk
  imod (gather_open d i sem arg4 arg5 arg6 arg12 al q X hX T4 T5 T6) $$ [HR HX HT Hv] with ⟨%A, %hA, HB, HP0, HP1, HP2, HP3, HP4, HP5⟩
  · isplitl [HR]; · iexact HR
    isplitl [HX]; · iexact HX
    isplitl [HT]; · iexact HT
    iexact Hv
  iapply (wp_enq d i (A := A) 0) $$ [HP0 HB]
  · isplitl [HP0]; · iexact HP0
    iexact HB
  iintro HB
  iapply (wp_enq d i (A := A) 1) $$ [HP1 HB]
  · isplitl [HP1]; · iexact HP1
    iexact HB
  iintro HB
  iapply (wp_enq d i (A := A) 2) $$ [HP2 HB]
  · isplitl [HP2]; · iexact HP2
    iexact HB
  iintro HB
  iapply (wp_enq d i (A := A) 3) $$ [HP3 HB]
  · isplitl [HP3]; · iexact HP3
    iexact HB
  iintro HB
  iapply (wp_enq d i (A := A) 4) $$ [HP4 HB]
  · isplitl [HP4]; · iexact HP4
    iexact HB
  iintro HB
  iapply (wp_enq d i (A := A) 5) $$ [HP5 HB]
  · isplitl [HP5]; · iexact HP5
    iexact HB
  iintro HB
  iapply (wp_waitRows d i O W 0 (by omega) (A := A)) $$ [HB HO]
  · isplitl [HB]; · iexact HB
    iexact HO
  iintro ⟨HB, HO⟩
  iapply (wp_waitRows d i O W 1 (by omega) (A := A)) $$ [HB HO]
  · isplitl [HB]; · iexact HB
    iexact HO
  iintro ⟨HB, HO⟩
  iapply (wp_waitRows d i O W 2 (by omega) (A := A)) $$ [HB HO]
  · isplitl [HB]; · iexact HB
    iexact HO
  iintro ⟨HB, HO⟩
  iapply (wp_waitRows d i O W 3 (by omega) (A := A)) $$ [HB HO]
  · isplitl [HB]; · iexact HB
    iexact HO
  iintro ⟨HB, HO⟩
  iapply (wp_waitRows d i O W 4 (by omega) (A := A)) $$ [HB HO]
  · isplitl [HB]; · iexact HB
    iexact HO
  iintro ⟨HB, HO⟩
  iapply (wp_waitLast d i O W (A := A)) $$ [HB HO]
  · isplitl [HB]; · iexact HB
    iexact HO
  iintro ⟨HA, Hv, HO⟩
  ihave HA' := hA $$ HA
  icases HA' with ⟨HR, HX, HT⟩
  iapply Hk
  isplitl [HR]; · iexact HR
  isplitl [HX]; · iexact HX
  isplitl [HT]; · iexact HT
  isplitl [Hv]; · iexact Hv
  iexact HO

/-- A load of a slot is a run of 16 of its vector. -/
theorem ld_xv (X : Vec F S384 .f32) (k : Fin 24) {o : ℕ} (ho : o = 16 * k.val) (inb : ∀ a, (![o] : Fin 1 → ℕ) a + S16.size a ≤ S384.size a) :
    View.ld X (Rect.unit (s := S384) ![o] S16.size inb) = xv X k := by
  subst ho
  funext x
  change X _ = X _
  congr 1
  funext b
  match b with
  | ⟨0, _⟩ =>
    apply Fin.ext
    change 16 * k.val + 1 * (x (0 : Fin 1)).val = 16 * k.val + (x (0 : Fin 1)).val
    omega

/-- The 24 loads of a slot. -/
theorem loads_wp (m : Memref sig .scVector .vmem S384 .f32) (X : Vec F S384 .f32)
    {α : Type} {k : Vec F S16 .f32 → Vec F S16 .f32 → Vec F S16 .f32 → Vec F S16 .f32 → Vec F S16 .f32 → Vec F S16 .f32 → Vec F S16 .f32 → Vec F S16 .f32 → Vec F S16 .f32 → Vec F S16 .f32 → Vec F S16 .f32 → Vec F S16 .f32 → Vec F S16 .f32 → Vec F S16 .f32 → Vec F S16 .f32 → Vec F S16 .f32 → Vec F S16 .f32 → Vec F S16 .f32 → Vec F S16 .f32 → Vec F S16 .f32 → Vec F S16 .f32 → Vec F S16 .f32 → Vec F S16 .f32 → Vec F S16 .f32 → Prog (TpuEff nD τ sig (Elt F) Λ₀ (tile d i).2) α} {Q : α → sProp 𝕄} :
    (owns (tile d i) m fullShare X : sProp 𝕄)
      ⊢ iprop((owns (tile d i) m fullShare X -∗ wpT d i (k (xv X 0) (xv X 1) (xv X 2) (xv X 3) (xv X 4) (xv X 5) (xv X 6) (xv X 7) (xv X 8) (xv X 9) (xv X 10) (xv X 11) (xv X 12) (xv X 13) (xv X 14) (xv X 15) (xv X 16) (xv X 17) (xv X 18) (xv X 19) (xv X 20) (xv X 21) (xv X 22) (xv X 23)) Q)
          -∗ wpT d i (do
            let x0 : Vec F S16 .f32 ← Prog.lift (.load m (Rect.unit (s := S384) ![0] S16.size inb_S384_S16_0).toLoadRect (View.loadsAt_vmem h_S16))
            let x1 : Vec F S16 .f32 ← Prog.lift (.load m (Rect.unit (s := S384) ![16] S16.size inb_S384_S16_16).toLoadRect (View.loadsAt_vmem h_S16))
            let x2 : Vec F S16 .f32 ← Prog.lift (.load m (Rect.unit (s := S384) ![32] S16.size inb_S384_S16_32).toLoadRect (View.loadsAt_vmem h_S16))
            let x3 : Vec F S16 .f32 ← Prog.lift (.load m (Rect.unit (s := S384) ![48] S16.size inb_S384_S16_48).toLoadRect (View.loadsAt_vmem h_S16))
            let x4 : Vec F S16 .f32 ← Prog.lift (.load m (Rect.unit (s := S384) ![64] S16.size inb_S384_S16_64).toLoadRect (View.loadsAt_vmem h_S16))
            let x5 : Vec F S16 .f32 ← Prog.lift (.load m (Rect.unit (s := S384) ![80] S16.size inb_S384_S16_80).toLoadRect (View.loadsAt_vmem h_S16))
            let x6 : Vec F S16 .f32 ← Prog.lift (.load m (Rect.unit (s := S384) ![96] S16.size inb_S384_S16_96).toLoadRect (View.loadsAt_vmem h_S16))
            let x7 : Vec F S16 .f32 ← Prog.lift (.load m (Rect.unit (s := S384) ![112] S16.size inb_S384_S16_112).toLoadRect (View.loadsAt_vmem h_S16))
            let x8 : Vec F S16 .f32 ← Prog.lift (.load m (Rect.unit (s := S384) ![128] S16.size inb_S384_S16_128).toLoadRect (View.loadsAt_vmem h_S16))
            let x9 : Vec F S16 .f32 ← Prog.lift (.load m (Rect.unit (s := S384) ![144] S16.size inb_S384_S16_144).toLoadRect (View.loadsAt_vmem h_S16))
            let x10 : Vec F S16 .f32 ← Prog.lift (.load m (Rect.unit (s := S384) ![160] S16.size inb_S384_S16_160).toLoadRect (View.loadsAt_vmem h_S16))
            let x11 : Vec F S16 .f32 ← Prog.lift (.load m (Rect.unit (s := S384) ![176] S16.size inb_S384_S16_176).toLoadRect (View.loadsAt_vmem h_S16))
            let x12 : Vec F S16 .f32 ← Prog.lift (.load m (Rect.unit (s := S384) ![192] S16.size inb_S384_S16_192).toLoadRect (View.loadsAt_vmem h_S16))
            let x13 : Vec F S16 .f32 ← Prog.lift (.load m (Rect.unit (s := S384) ![208] S16.size inb_S384_S16_208).toLoadRect (View.loadsAt_vmem h_S16))
            let x14 : Vec F S16 .f32 ← Prog.lift (.load m (Rect.unit (s := S384) ![224] S16.size inb_S384_S16_224).toLoadRect (View.loadsAt_vmem h_S16))
            let x15 : Vec F S16 .f32 ← Prog.lift (.load m (Rect.unit (s := S384) ![240] S16.size inb_S384_S16_240).toLoadRect (View.loadsAt_vmem h_S16))
            let x16 : Vec F S16 .f32 ← Prog.lift (.load m (Rect.unit (s := S384) ![256] S16.size inb_S384_S16_256).toLoadRect (View.loadsAt_vmem h_S16))
            let x17 : Vec F S16 .f32 ← Prog.lift (.load m (Rect.unit (s := S384) ![272] S16.size inb_S384_S16_272).toLoadRect (View.loadsAt_vmem h_S16))
            let x18 : Vec F S16 .f32 ← Prog.lift (.load m (Rect.unit (s := S384) ![288] S16.size inb_S384_S16_288).toLoadRect (View.loadsAt_vmem h_S16))
            let x19 : Vec F S16 .f32 ← Prog.lift (.load m (Rect.unit (s := S384) ![304] S16.size inb_S384_S16_304).toLoadRect (View.loadsAt_vmem h_S16))
            let x20 : Vec F S16 .f32 ← Prog.lift (.load m (Rect.unit (s := S384) ![320] S16.size inb_S384_S16_320).toLoadRect (View.loadsAt_vmem h_S16))
            let x21 : Vec F S16 .f32 ← Prog.lift (.load m (Rect.unit (s := S384) ![336] S16.size inb_S384_S16_336).toLoadRect (View.loadsAt_vmem h_S16))
            let x22 : Vec F S16 .f32 ← Prog.lift (.load m (Rect.unit (s := S384) ![352] S16.size inb_S384_S16_352).toLoadRect (View.loadsAt_vmem h_S16))
            let x23 : Vec F S16 .f32 ← Prog.lift (.load m (Rect.unit (s := S384) ![368] S16.size inb_S384_S16_368).toLoadRect (View.loadsAt_vmem h_S16))
            k x0 x1 x2 x3 x4 x5 x6 x7 x8 x9 x10 x11 x12 x13 x14 x15 x16 x17 x18 x19 x20 x21 x22 x23) Q) := by
  rw [← ld_xv X 0 (o := 0) rfl inb_S384_S16_0, ← ld_xv X 1 (o := 16) rfl inb_S384_S16_16, ← ld_xv X 2 (o := 32) rfl inb_S384_S16_32, ← ld_xv X 3 (o := 48) rfl inb_S384_S16_48, ← ld_xv X 4 (o := 64) rfl inb_S384_S16_64, ← ld_xv X 5 (o := 80) rfl inb_S384_S16_80, ← ld_xv X 6 (o := 96) rfl inb_S384_S16_96, ← ld_xv X 7 (o := 112) rfl inb_S384_S16_112, ← ld_xv X 8 (o := 128) rfl inb_S384_S16_128, ← ld_xv X 9 (o := 144) rfl inb_S384_S16_144, ← ld_xv X 10 (o := 160) rfl inb_S384_S16_160, ← ld_xv X 11 (o := 176) rfl inb_S384_S16_176, ← ld_xv X 12 (o := 192) rfl inb_S384_S16_192, ← ld_xv X 13 (o := 208) rfl inb_S384_S16_208, ← ld_xv X 14 (o := 224) rfl inb_S384_S16_224, ← ld_xv X 15 (o := 240) rfl inb_S384_S16_240, ← ld_xv X 16 (o := 256) rfl inb_S384_S16_256, ← ld_xv X 17 (o := 272) rfl inb_S384_S16_272, ← ld_xv X 18 (o := 288) rfl inb_S384_S16_288, ← ld_xv X 19 (o := 304) rfl inb_S384_S16_304, ← ld_xv X 20 (o := 320) rfl inb_S384_S16_320, ← ld_xv X 21 (o := 336) rfl inb_S384_S16_336, ← ld_xv X 22 (o := 352) rfl inb_S384_S16_352, ← ld_xv X 23 (o := 368) rfl inb_S384_S16_368]
  iintro H Hk
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply (wp_load_owns 𝒱₀ (tile d i) none) $$ H; iintro H
  iapply Hk
  iexact H

end Slot

end Cert.Proof
-- ==== Proof.Slot.lean ====
/-
  A slot of a tile: its list and vector landed, flying in or idle; its scores' buffer being written back or idle. The
  steps between those states, each conditional copy or wait one lemma.
-/
module

public import proofs.«01_k».proof.Proof.Rows

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Conditional steps -/

/-- Two steps under a condition. -/
def when2 {thr : Thread nD τ} (c : BitVec 1) (A B : c = 1#1 → Prog (TpuEff nD τ sig (Elt F) Λ₀ thr.2) PUnit) : Prog (TpuEff nD τ sig (Elt F) Λ₀ thr.2) PUnit :=
  if h : c = 1#1 then A h >>= fun _ => B h else Pure.pure ⟨⟩

/-- One step under a condition. -/
def when1 {thr : Thread nD τ} (c : BitVec 1) (A : c = 1#1 → Prog (TpuEff nD τ sig (Elt F) Λ₀ thr.2) PUnit) : Prog (TpuEff nD τ sig (Elt F) Λ₀ thr.2) PUnit :=
  if h : c = 1#1 then A h else Pure.pure ⟨⟩

theorem when2_eq {thr : Thread nD τ} {α : Type} (c : BitVec 1) (A B : c = 1#1 → Prog (TpuEff nD τ sig (Elt F) Λ₀ thr.2) PUnit) (rest : Prog (TpuEff nD τ sig (Elt F) Λ₀ thr.2) α) :
    (if h : c = 1#1 then (A h >>= fun _ => B h >>= fun _ => rest) else rest) = (when2 c A B >>= fun _ => rest) := by
  unfold when2
  by_cases h : c = 1#1
  · rw [dif_pos h, dif_pos h, bind_assoc]
  · rw [dif_neg h, dif_neg h, pure_bind]

theorem when1_eq {thr : Thread nD τ} {α : Type} (c : BitVec 1) (A : c = 1#1 → Prog (TpuEff nD τ sig (Elt F) Λ₀ thr.2) PUnit) (rest : Prog (TpuEff nD τ sig (Elt F) Λ₀ thr.2) α) :
    (if h : c = 1#1 then (A h >>= fun _ => rest) else rest) = (when1 c A >>= fun _ => rest) := by
  unfold when1
  by_cases h : c = 1#1
  · rw [dif_pos h, dif_pos h]
  · rw [dif_neg h, dif_neg h, pure_bind]

section Slot

variable [FloatOps F] (d : Dev nD) (i : grid1.Coords) (O : CellTallies nD τ sig (HIx 1)) (W : Waits sig (HIx 1))
variable (arg2 : Memref sig .scVector .hbm S1024x384 .f32) (arg3 : Memref sig .scVector .hbm S1024x3x2x100 .i32) (arg7 : Memref sig .scVector .hbm S1024x256 .f32)
variable (IX : ℕ → Vec F S3x2x100 .i32) (XX : ℕ → Vec F S384 .f32) (T4 : Vec F S1000x128 .f32) (T5 T6 : Vec F S100000x128 .f32)

/-- Row `j`'s list and vector, unread. -/
def inp (j : ℕ) : sProp 𝕄 :=
  iprop(owns (tile d i) (idxRow arg3 (rowOf i j)) fullShare (IX j) ∗ owns (tile d i) (x2Row arg2 (rowOf i j)) fullShare (XX j))

/-- Row `j`'s scores, of any content. -/
def outw (j : ℕ) : sProp 𝕄 := iprop(∃ Y : Vec F S256 .f32, owns (tile d i) (outRow arg7 (rowOf i j)) fullShare Y)

/-- A scores' buffer whose 200 first entries are row `j`'s scores. -/
def Scored (j : ℕ) (Y : Vec F S256 .f32) : Prop :=
  ∀ a : Fin 200, Y (ix1 ⟨a.val, by have := a.isLt; omega⟩) = score (gath (IX j) T4 T5 T6) (XX j) a

/-- Row `j`'s scores, written. -/
def dnr (j : ℕ) : sProp 𝕄 :=
  iprop(∃ Y : Vec F S256 .f32, ⌜Scored IX XX T4 T5 T6 j Y⌝ ∗ owns (tile d i) (outRow arg7 (rowOf i j)) fullShare Y)

variable (al : Memref sig .scVector .vmem S3x2x100 .i32) (xm : Memref sig .scVector .vmem S384 .f32) (mo : Memref sig .scVector .vmem S256 .f32)
variable (sI sX sW : DmaSem sig)

/-- The slot holds row `j`'s list and vector. -/
def landed (j : ℕ) : sProp 𝕄 :=
  iprop(owns (tile d i) al fullShare (IX j) ∗ owns (tile d i) xm fullShare (XX j) ∗ inp d i arg2 arg3 IX XX j
    ∗ semVal (tile d i, .dma sI) 0 ∗ semVal (tile d i, .dma sX) 0)

/-- Row `j`'s list and vector are on their way to the slot. -/
def flying (j : ℕ) : sProp 𝕄 :=
  iprop(FL d i sI (RefSig.bitCredit S3x2x100 .i32) iprop(owns (tile d i) al fullShare (IX j) ∗ owns (tile d i) (idxRow arg3 (rowOf i j)) fullShare (IX j))
    ∗ FL d i sX (RefSig.bitCredit S384 .f32) iprop(owns (tile d i) xm fullShare (XX j) ∗ owns (tile d i) (x2Row arg2 (rowOf i j)) fullShare (XX j)))

/-- The slot waits for nothing. -/
def idle : sProp 𝕄 :=
  iprop((∃ Y : Vec F S3x2x100 .i32, owns (tile d i) al fullShare Y) ∗ (∃ Y : Vec F S384 .f32, owns (tile d i) xm fullShare Y)
    ∗ semVal (tile d i, .dma sI) 0 ∗ semVal (tile d i, .dma sX) 0)

/-- Row `j`'s scores are on their way out. -/
def leaving (j : ℕ) : sProp 𝕄 :=
  iprop(FL d i sW (RefSig.bitCredit S256 .f32) iprop(dnr d i arg7 IX XX T4 T5 T6 j ∗ ∃ g : Vec F S256 .f32, owns (tile d i) mo fullShare g))

/-- The scores' buffer waits for nothing. -/
def quiet : sProp 𝕄 := iprop((∃ g : Vec F S256 .f32, owns (tile d i) mo fullShare g) ∗ semVal (tile d i, .dma sW) 0)

/-- The two waits for a slot's copies. -/
theorem land_wp (j : ℕ) {srcI : Memref sig .scVector .hbm S3x2x100 .i32} {srcX : Memref sig .scVector .hbm S384 .f32}
    {w1 : srcI.view.WordExact} {w2 : al.view.WordExact} {w3 : srcX.view.WordExact} {w4 : xm.view.WordExact}
    {α : Type} {rest : Prog (TpuEff nD τ sig (Elt F) Λ₀ (tile d i).2) α} {Q : α → sProp 𝕄} :
    (iprop(flying d i arg2 arg3 IX XX al xm sI sX j ∗ Ow (tile d i) O W) : sProp 𝕄)
      ⊢ iprop((iprop(landed d i arg2 arg3 IX XX al xm sI sX j ∗ Ow (tile d i) O W) -∗ wpT d i rest Q)
          -∗ wpT d i (do
            Prog.lift (.waitDma2 sI srcI al w1 w2)
            Prog.lift (.waitDma2 sX srcX xm w3 w4)
            rest) Q) := by
  unfold flying landed inp
  iintro ⟨⟨HI, HX⟩, HO⟩ Hk
  iapply (wp_wait d i O W) $$ [HI HO]
  · isplitl [HI]; · iexact HI
    iexact HO
  iintro ⟨⟨Ha, HIr⟩, HsI, HO⟩
  iapply (wp_wait d i O W) $$ [HX HO]
  · isplitl [HX]; · iexact HX
    iexact HO
  iintro ⟨⟨Hx, HXr⟩, HsX, HO⟩
  iapply Hk
  isplitr [HO]
  · isplitl [Ha]; · iexact Ha
    isplitl [Hx]; · iexact Hx
    isplitl [HIr HXr]
    · isplitl [HIr]; · iexact HIr
      iexact HXr
    isplitl [HsI]; · iexact HsI
    iexact HsX
  · iexact HO

/-- The same waits under a condition that says whether the copies fly. -/
theorem land_if (j : ℕ) {c : BitVec 1} {b : Prop} [Decidable b] (hb : c = 1#1 ↔ b)
    {srcI : c = 1#1 → Memref sig .scVector .hbm S3x2x100 .i32} {srcX : c = 1#1 → Memref sig .scVector .hbm S384 .f32}
    {w1 : ∀ h, (srcI h).view.WordExact} {w2 : c = 1#1 → al.view.WordExact} {w3 : ∀ h, (srcX h).view.WordExact} {w4 : c = 1#1 → xm.view.WordExact}
    {α : Type} {rest : Prog (TpuEff nD τ sig (Elt F) Λ₀ (tile d i).2) α} {Q : α → sProp 𝕄} :
    (iprop((if b then flying d i arg2 arg3 IX XX al xm sI sX j else landed d i arg2 arg3 IX XX al xm sI sX j) ∗ Ow (tile d i) O W) : sProp 𝕄)
      ⊢ iprop((iprop(landed d i arg2 arg3 IX XX al xm sI sX j ∗ Ow (tile d i) O W) -∗ wpT d i rest Q)
          -∗ wpT d i (when2 (thr := tile d i) c (fun h => Prog.lift (.waitDma2 sI (srcI h) al (w1 h) (w2 h)))
            (fun h => Prog.lift (.waitDma2 sX (srcX h) xm (w3 h) (w4 h))) >>= fun _ => rest) Q) := by
  rw [← when2_eq]
  by_cases h : b
  · rw [if_pos h, dif_pos (hb.2 h)]
    exact land_wp d i O W arg2 arg3 IX XX al xm sI sX j
  · rw [if_neg h, dif_neg (fun hc => h (hb.1 hc))]
    iintro H Hk
    iapply Hk
    iexact H

/-- The two copies of a row into a slot. -/
theorem fetch_wp (j : ℕ) {srcI : Memref sig .scVector .hbm S3x2x100 .i32} {srcX : Memref sig .scVector .hbm S384 .f32}
    (hI : srcI = idxRow arg3 (rowOf i j)) (hX : srcX = x2Row arg2 (rowOf i j))
    {w1 : srcI.view.WordExact} {w2 : al.view.WordExact} {w3 : srcX.view.WordExact} {w4 : xm.view.WordExact} {a1 a2}
    {α : Type} {rest : Prog (TpuEff nD τ sig (Elt F) Λ₀ (tile d i).2) α} {Q : α → sProp 𝕄} :
    (iprop(idle d i al xm sI sX ∗ inp d i arg2 arg3 IX XX j) : sProp 𝕄)
      ⊢ iprop((flying d i arg2 arg3 IX XX al xm sI sX j -∗ wpT d i rest Q)
          -∗ wpT d i (do
            Prog.lift (.enqueueDma srcI (.here al) (.dma sI) w1 w2 a1)
            Prog.lift (.enqueueDma srcX (.here xm) (.dma sX) w3 w4 a2)
            rest) Q) := by
  unfold flying inp idle
  iintro ⟨⟨⟨%Y, Ha⟩, ⟨%Z, Hx⟩, HsI, HsX⟩, ⟨HIr, HXr⟩⟩ Hk
  iapply (wp_copy d i hI rfl (by decide)) $$ [Ha HIr HsI]
  · isplitl [HIr]; · iexact HIr
    isplitl [Ha]; · iexact Ha
    iexact HsI
  iintro HI
  iapply (wp_copy d i hX rfl (by decide)) $$ [Hx HXr HsX]
  · isplitl [HXr]; · iexact HXr
    isplitl [Hx]; · iexact Hx
    iexact HsX
  iintro HX
  iapply Hk
  isplitl [HI]; · iexact HI
  iexact HX

/-- The same copies under a condition. -/
theorem fetch_if (j : ℕ) {c : BitVec 1} {b : Prop} [Decidable b] (hb : c = 1#1 ↔ b)
    {srcI : c = 1#1 → Memref sig .scVector .hbm S3x2x100 .i32} {srcX : c = 1#1 → Memref sig .scVector .hbm S384 .f32}
    (hI : ∀ h, srcI h = idxRow arg3 (rowOf i j)) (hX : ∀ h, srcX h = x2Row arg2 (rowOf i j))
    {w1 : ∀ h, (srcI h).view.WordExact} {w2 : c = 1#1 → al.view.WordExact} {w3 : ∀ h, (srcX h).view.WordExact} {w4 : c = 1#1 → xm.view.WordExact}
    {a1 : c = 1#1 → DmaTarget.Typed (nD := nD) .hbm (.dma sI) (.here (p := (tile d i).2) al)} {a2 : c = 1#1 → DmaTarget.Typed (nD := nD) .hbm (.dma sX) (.here (p := (tile d i).2) xm)}
    {α : Type} {rest : Prog (TpuEff nD τ sig (Elt F) Λ₀ (tile d i).2) α} {Q : α → sProp 𝕄} :
    (iprop(idle d i al xm sI sX ∗ (if b then inp d i arg2 arg3 IX XX j else emp)) : sProp 𝕄)
      ⊢ iprop(((if b then flying d i arg2 arg3 IX XX al xm sI sX j else idle d i al xm sI sX) -∗ wpT d i rest Q)
          -∗ wpT d i (when2 (thr := tile d i) c (fun h => Prog.lift (.enqueueDma (srcI h) (.here al) (.dma sI) (w1 h) (w2 h) (a1 h)))
            (fun h => Prog.lift (.enqueueDma (srcX h) (.here xm) (.dma sX) (w3 h) (w4 h) (a2 h))) >>= fun _ => rest) Q) := by
  rw [← when2_eq]
  by_cases h : b
  · rw [if_pos h, if_pos h, dif_pos (hb.2 h)]
    exact fetch_wp d i arg2 arg3 IX XX al xm sI sX j (hI _) (hX _)
  · rw [if_neg h, if_neg h, dif_neg (fun hc => h (hb.1 hc))]
    iintro ⟨H, -⟩ Hk
    iapply Hk
    iexact H

/-- The wait for the scores on their way out. -/
theorem left_wp (j : ℕ) {dst : Memref sig .scVector .hbm S256 .f32} {w1 : mo.view.WordExact} {w2 : dst.view.WordExact}
    {α : Type} {k : PUnit → Prog (TpuEff nD τ sig (Elt F) Λ₀ (tile d i).2) α} {Q : α → sProp 𝕄} :
    (iprop(leaving d i arg7 IX XX T4 T5 T6 mo sW j ∗ Ow (tile d i) O W) : sProp 𝕄)
      ⊢ iprop((iprop(quiet d i mo sW ∗ dnr d i arg7 IX XX T4 T5 T6 j ∗ Ow (tile d i) O W) -∗ wpT d i (k ⟨⟩) Q)
          -∗ wpT d i (Prog.lift (.waitDma2 sW mo dst w1 w2) >>= k) Q) := by
  unfold leaving quiet
  iintro ⟨HW, HO⟩ Hk
  iapply (wp_wait d i O W) $$ [HW HO]
  · isplitl [HW]; · iexact HW
    iexact HO
  iintro ⟨⟨Hd, Hg⟩, Hs, HO⟩
  iapply Hk
  isplitl [Hg Hs]
  · isplitl [Hg]; · iexact Hg
    iexact Hs
  isplitl [Hd]; · iexact Hd
  iexact HO

/-- The same wait under a condition that says whether any are. -/
theorem left_if (j : ℕ) {c : BitVec 1} {b : Prop} [Decidable b] (hb : c = 1#1 ↔ b)
    {dst : c = 1#1 → Memref sig .scVector .hbm S256 .f32} {w1 : c = 1#1 → mo.view.WordExact} {w2 : ∀ h, (dst h).view.WordExact}
    {α : Type} {rest : Prog (TpuEff nD τ sig (Elt F) Λ₀ (tile d i).2) α} {Q : α → sProp 𝕄} :
    (iprop((if b then leaving d i arg7 IX XX T4 T5 T6 mo sW j else quiet d i mo sW) ∗ Ow (tile d i) O W) : sProp 𝕄)
      ⊢ iprop((iprop(quiet d i mo sW ∗ (if b then dnr d i arg7 IX XX T4 T5 T6 j else emp) ∗ Ow (tile d i) O W) -∗ wpT d i rest Q)
          -∗ wpT d i (when1 (thr := tile d i) c (fun h => Prog.lift (.waitDma2 sW mo (dst h) (w1 h) (w2 h))) >>= fun _ => rest) Q) := by
  rw [← when1_eq]
  by_cases h : b
  · rw [if_pos h, if_pos h, dif_pos (hb.2 h)]
    exact left_wp d i O W arg7 IX XX T4 T5 T6 mo sW j (k := fun _ => rest)
  · rw [if_neg h, if_neg h, dif_neg (fun hc => h (hb.1 hc))]
    iintro ⟨H, HO⟩ Hk
    iapply Hk
    isplitl [H]; · iexact H
    isplitr; · iempintro
    iexact HO

/-- The copy of the scores out. -/
theorem leave_wp (j : ℕ) {dst : Memref sig .scVector .hbm S256 .f32} (hd : dst = outRow arg7 (rowOf i j)) {Y : Vec F S256 .f32} (hY : Scored IX XX T4 T5 T6 j Y)
    {w1 : mo.view.WordExact} {w2 : dst.view.WordExact} {a1}
    {α : Type} {k : PUnit → Prog (TpuEff nD τ sig (Elt F) Λ₀ (tile d i).2) α} {Q : α → sProp 𝕄} :
    (iprop(owns (tile d i) mo fullShare Y ∗ semVal (tile d i, .dma sW) 0 ∗ outw d i arg7 j) : sProp 𝕄)
      ⊢ iprop((leaving d i arg7 IX XX T4 T5 T6 mo sW j -∗ wpT d i (k ⟨⟩) Q)
          -∗ wpT d i (Prog.lift (.enqueueDma mo (.here dst) (.dma sW) w1 w2 a1) >>= k) Q) := by
  unfold leaving outw dnr
  iintro ⟨Hm, Hs, ⟨%Z, Hr⟩⟩ Hk
  iapply (wp_copy d i rfl hd (by decide)) $$ [Hm Hr Hs]
  · isplitl [Hm]; · iexact Hm
    isplitl [Hr]; · iexact Hr
    iexact Hs
  iintro HF
  iapply Hk
  iapply (Transfers.Flight_mono countersEmb (tile d i) (sm := .dma sW) (ι := (none : HIx 1)) (D := iprop(owns (tile d i) (outRow arg7 (rowOf i j)) fullShare Y ∗ owns (tile d i) mo fullShare Y)) (by
    iintro ⟨Hr, Hm⟩
    isplitl [Hr]
    · iexists Y; isplitr; · ipureintro; exact hY
      iexact Hr
    · iexists Y; iexact Hm))
  iexact HF

end Slot

end Cert.Proof
-- ==== Proof.Trip.lean ====
/-
  A trip of a tile's loop: two rows, one slot each. The state between trips, at an even row number.
-/
module

public import proofs.«01_k».proof.Proof.Slot

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

section Trip

variable [FloatOps F] (d : Dev nD) (i : grid1.Coords) (O : CellTallies nD τ sig (HIx 1)) (W : Waits sig (HIx 1))

theorem wpT_pure {α : Type} (a : α) (Q : α → sProp 𝕄) : Q a ⊢ wpT d i (Pure.pure a) Q := by
  unfold wpT
  rw [wp_pure]
  iintro H
  imodintro
  iexact H

theorem put_two (Φ : ℕ → sProp 𝕄) (n : ℕ) (hn : n = 0 ∨ 2 ≤ n) :
    iprop((if 0 < n then Φ (n - 2) else emp) ∗ (if 0 < n then Φ (n - 1) else emp) ∗ bigSep (Finset.range (n - 2)) Φ) ⊢ bigSep (Finset.range n) Φ := by
  rcases hn with rfl | hn
  · simp only [lt_irrefl, if_false]
    iintro ⟨-, -, H⟩
    iexact H
  · rw [if_pos (by omega), if_pos (by omega), show n = n - 2 + 1 + 1 by omega]
    rw [show n - 2 + 1 + 1 - 2 = n - 2 by omega, show n - 2 + 1 + 1 - 1 = n - 2 + 1 by omega]
    iintro ⟨H0, H1, H⟩
    iapply (put_one Φ (n - 2 + 1))
    isplitl [H1]; · iexact H1
    iapply (put_one Φ (n - 2))
    isplitl [H0]; · iexact H0
    iexact H

theorem cond1 (t : Fin k1_t1_loop.trips) : k1_cond1 t = 1#1 ↔ 0 < 2 * t.val := by revert t; decide
theorem cond2 (t : Fin k1_t1_loop.trips) : k1_cond2 t = 1#1 ↔ 2 * t.val + 2 < 32 := by revert t; decide
theorem cond3 (t : Fin k1_t1_loop.trips) : k1_cond3 t = 1#1 ↔ 0 < 2 * t.val := by revert t; decide
theorem cond4 (t : Fin k1_t1_loop.trips) : k1_cond4 t = 1#1 ↔ 2 * t.val + 3 < 32 := by revert t; decide
theorem cond5 (t : Fin k1_t1_loop.trips) : k1_cond5 t = 1#1 ↔ 0 < 2 * t.val := by revert t; decide

variable (arg2 : Memref sig .scVector .hbm S1024x384 .f32) (harg2 : arg2.IsWhole) (arg3 : Memref sig .scVector .hbm S1024x3x2x100 .i32) (harg3 : arg3.IsWhole) (arg4 : Memref sig .scVector .hbm S1000x128 .f32) (harg4 : arg4.IsWhole) (arg5 : Memref sig .scVector .hbm S100000x128 .f32) (harg5 : arg5.IsWhole) (arg6 : Memref sig .scVector .hbm S100000x128 .f32) (harg6 : arg6.IsWhole) (arg7 : Memref sig .scVector .hbm S1024x256 .f32) (harg7 : arg7.IsWhole) (arg8 : Memref sig .scVector .vmem S3x2x100 .i32) (harg8 : arg8.IsWhole) (arg9 : Memref sig .scVector .vmem S3x2x100 .i32) (harg9 : arg9.IsWhole) (arg10 : Memref sig .scVector .vmem S384 .f32) (harg10 : arg10.IsWhole) (arg11 : Memref sig .scVector .vmem S384 .f32) (harg11 : arg11.IsWhole) (arg12 : Memref sig .scVector .vmem S600x128 .f32) (harg12 : arg12.IsWhole) (arg13 : Memref sig .scVector .vmem S256 .f32) (harg13 : arg13.IsWhole) (arg14 : Memref sig .scVector .vmem S256 .f32) (harg14 : arg14.IsWhole) (arg15 : DmaSems sig S_) (arg16 : DmaSems sig S_) (arg17 : DmaSems sig S_) (arg18 : DmaSems sig S_) (arg19 : DmaSems sig S_) (arg20 : DmaSems sig S_) (arg21 : DmaSems sig S_)
variable (IX : ℕ → Vec F S3x2x100 .i32) (XX : ℕ → Vec F S384 .f32) (T4 : Vec F S1000x128 .f32) (T5 T6 : Vec F S100000x128 .f32) (q : PosShare TreeShare)

/-- The state when rows `0 … n - 1` have been worked. -/
def rowsInv (n : ℕ) : sProp 𝕄 :=
  iprop(((∃ R : Vec F S600x128 .f32, owns (tile d i) arg12 fullShare R) ∗ Tabs d i arg4 arg5 arg6 q T4 T5 T6 ∗ semVal (tile d i, .dma arg15.sem) 0)
    ∗ (if n < 32 then (if 0 < n then flying d i arg2 arg3 IX XX arg8 arg10 arg16.sem arg18.sem n else landed d i arg2 arg3 IX XX arg8 arg10 arg16.sem arg18.sem n)
        else idle d i arg8 arg10 arg16.sem arg18.sem)
    ∗ (if n + 1 < 32 then flying d i arg2 arg3 IX XX arg9 arg11 arg17.sem arg19.sem (n + 1) else idle d i arg9 arg11 arg17.sem arg19.sem)
    ∗ bigSep (Finset.Ico (n + 2) 32) (inp d i arg2 arg3 IX XX) ∗ bigSep (Finset.range n) (inp d i arg2 arg3 IX XX)
    ∗ (if 0 < n then leaving d i arg7 IX XX T4 T5 T6 arg13 arg20.sem (n - 2) else quiet d i arg13 arg20.sem)
    ∗ (if 0 < n then leaving d i arg7 IX XX T4 T5 T6 arg14 arg21.sem (n - 1) else quiet d i arg14 arg21.sem)
    ∗ bigSep (Finset.Ico n 32) (outw d i arg7) ∗ bigSep (Finset.range (n - 2)) (dnr d i arg7 IX XX T4 T5 T6)
    ∗ Ow (tile d i) O W)

/-- The same state after two more rows. -/
theorem rowsInv_next (n : ℕ) : rowsInv d i O W arg2 arg3 arg4 arg5 arg6 arg7 arg8 arg9 arg10 arg11 arg12 arg13 arg14 arg15 arg16 arg17 arg18 arg19 arg20 arg21 IX XX T4 T5 T6 q (n + 2)
    = iprop(((∃ R : Vec F S600x128 .f32, owns (tile d i) arg12 fullShare R) ∗ Tabs d i arg4 arg5 arg6 q T4 T5 T6 ∗ semVal (tile d i, .dma arg15.sem) 0)
    ∗ (if n + 2 < 32 then flying d i arg2 arg3 IX XX arg8 arg10 arg16.sem arg18.sem (n + 2) else idle d i arg8 arg10 arg16.sem arg18.sem)
    ∗ (if n + 3 < 32 then flying d i arg2 arg3 IX XX arg9 arg11 arg17.sem arg19.sem (n + 3) else idle d i arg9 arg11 arg17.sem arg19.sem)
    ∗ bigSep (Finset.Ico (n + 4) 32) (inp d i arg2 arg3 IX XX) ∗ bigSep (Finset.range (n + 2)) (inp d i arg2 arg3 IX XX)
    ∗ leaving d i arg7 IX XX T4 T5 T6 arg13 arg20.sem n
    ∗ leaving d i arg7 IX XX T4 T5 T6 arg14 arg21.sem (n + 1)
    ∗ bigSep (Finset.Ico (n + 2) 32) (outw d i arg7) ∗ bigSep (Finset.range n) (dnr d i arg7 IX XX T4 T5 T6)
    ∗ Ow (tile d i) O W) := by
  unfold rowsInv
  rw [if_pos (show 0 < n + 2 by omega), if_pos (show 0 < n + 2 by omega), if_pos (show 0 < n + 2 by omega)]
  rfl

set_option maxHeartbeats 400000 in
set_option maxRecDepth 65536 in
/-- A trip: rows `2 t` and `2 t + 1`. -/
theorem trip (hI : ∀ j, j < 32 → InRange (IX j)) (v3 : BitVec 32) (t : Fin k1_t1_loop.trips) (acc : Unit) :
    rowsInv d i O W arg2 arg3 arg4 arg5 arg6 arg7 arg8 arg9 arg10 arg11 arg12 arg13 arg14 arg15 arg16 arg17 arg18 arg19 arg20 arg21 IX XX T4 T5 T6 q (2 * t.val)
      ⊢ wpT d i (k1_t1_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 lanes v3 t acc) fun _ => rowsInv d i O W arg2 arg3 arg4 arg5 arg6 arg7 arg8 arg9 arg10 arg11 arg12 arg13 arg14 arg15 arg16 arg17 arg18 arg19 arg20 arg21 IX XX T4 T5 T6 q (2 * t.val + 2) := by
  have ht : t.val < 16 := t.isLt
  simp only [k1_t1_body, k1_part14_eq_skeleton, k1_part14_skel, k1_part7_eq_skeleton, k1_part7_skel, k1_part8_eq_skeleton, k1_part8_skel, k1_part9_eq_skeleton, k1_part9_skel, k1_part10_eq_skeleton, k1_part10_skel, k1_part11_eq_skeleton, k1_part11_skel, k1_part12_eq_skeleton, k1_part12_skel, k1_part13_eq_skeleton, k1_part13_skel, bind_assoc, pure_bind, when2_eq (thr := tile d i), when1_eq (thr := tile d i)]
  simp only [rowsInv_next]
  unfold rowsInv
  rw [if_pos (show 2 * t.val < 32 by omega), if_pos (show 2 * t.val + 1 < 32 by omega)]
  iintro ⟨⟨HR, HT, HG⟩, HS0, HS1, HN, HI, HW0, HW1, HU, HD, HO⟩
  ihave HN' := (take_if (inp d i arg2 arg3 IX XX) (2 * t.val + 2) 32) $$ HN
  icases HN' with ⟨HN0, HN⟩
  ihave HN' := (take_if (inp d i arg2 arg3 IX XX) (2 * t.val + 3) 32) $$ HN
  icases HN' with ⟨HN1, HN⟩
  ihave HU' := (take_one (outw d i arg7) (2 * t.val) 32 (by omega)) $$ HU
  icases HU' with ⟨HU0, HU⟩
  ihave HU' := (take_one (outw d i arg7) (2 * t.val + 1) 32 (by omega)) $$ HU
  icases HU' with ⟨HU1, HU⟩
  iapply (land_if d i O W arg2 arg3 IX XX arg8 arg10 arg16.sem arg18.sem (2 * t.val) (cond1 t)) $$ [HS0 HO]
  · isplitl [HS0]; · iexact HS0
    iexact HO
  unfold landed
  iintro ⟨⟨Ha, Hx, HI0, HsI, HsX⟩, HO⟩
  iapply (six_wp d i O W arg15.sem arg4 arg5 arg6 arg12 arg8 q (IX (2 * t.val)) (hI _ (by omega)) T4 T5 T6) $$ [HR Ha HT HG HO]
  · isplitl [HR]; · iexact HR
    isplitl [Ha]; · iexact Ha
    isplitl [HT]; · iexact HT
    isplitl [HG]; · iexact HG
    iexact HO
  iintro ⟨HR, Ha, HT, HG, HO⟩
  iapply (loads_wp d i arg10 (XX (2 * t.val))) $$ Hx
  iintro Hx
  iapply (fetch_if d i arg2 arg3 IX XX arg8 arg10 arg16.sem arg18.sem (2 * t.val + 2) (cond2 t)
    (fun h => idxRow_eq arg3 _ (by rw [k1_off7_eq, rowOf_val i _ ((cond2 t).1 h)]; rfl) _)
    (fun h => x2Row_eq arg2 _ (by rw [k1_off8_eq, rowOf_val i _ ((cond2 t).1 h)]; rfl) _)) $$ [Ha Hx HsI HsX HN0]
  · isplitr [HN0]
    · unfold idle
      isplitl [Ha]; · iexists _; iexact Ha
      isplitl [Hx]; · iexists _; iexact Hx
      isplitl [HsI]; · iexact HsI
      iexact HsX
    · iexact HN0
  iintro HS0
  iapply (left_if d i O W arg7 IX XX T4 T5 T6 arg13 arg20.sem (2 * t.val - 2) (cond3 t)) $$ [HW0 HO]
  · isplitl [HW0]; · iexact HW0
    iexact HO
  unfold quiet
  iintro ⟨⟨Hg, Hs⟩, HD0, HO⟩
  iapply (wpT_bind d i _ _)
  isplitl [HR Hg]
  · iapply (t2_loop d i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 _ (XX (2 * t.val)) v3 t _ _ _ _)
    isplitl [HR]; · iexact HR
    iexact Hg
  unfold actInv
  iintro %u ⟨HR, ⟨%g, %hg, Hg⟩⟩
  iapply (leave_wp d i arg7 IX XX T4 T5 T6 arg13 arg20.sem (2 * t.val) (outRow_eq arg7 _ ((k1_off18_eq i t 0).trans (by rw [rowOf_val i _ (by omega)]; rfl)) _) (Y := g) (fun a => hg a (by have := a.isLt; omega))) $$ [Hg Hs HU0]
  · isplitl [Hg]; · iexact Hg
    isplitl [Hs]; · iexact Hs
    iexact HU0
  iintro HW0
  iapply (land_wp d i O W arg2 arg3 IX XX arg9 arg11 arg17.sem arg19.sem (2 * t.val + 1)) $$ [HS1 HO]
  · isplitl [HS1]; · iexact HS1
    iexact HO
  unfold landed
  iintro ⟨⟨Ha, Hx, HI1, HsI, HsX⟩, HO⟩
  iapply (six_wp d i O W arg15.sem arg4 arg5 arg6 arg12 arg9 q (IX (2 * t.val + 1)) (hI _ (by omega)) T4 T5 T6) $$ [HR Ha HT HG HO]
  · isplitl [HR]; · iexists _; iexact HR
    isplitl [Ha]; · iexact Ha
    isplitl [HT]; · iexact HT
    isplitl [HG]; · iexact HG
    iexact HO
  iintro ⟨HR, Ha, HT, HG, HO⟩
  iapply (loads_wp d i arg11 (XX (2 * t.val + 1))) $$ Hx
  iintro Hx
  iapply (fetch_if d i arg2 arg3 IX XX arg9 arg11 arg17.sem arg19.sem (2 * t.val + 3) (cond4 t)
    (fun h => idxRow_eq arg3 _ (by rw [k1_off21_eq, rowOf_val i _ ((cond4 t).1 h)]; rfl) _)
    (fun h => x2Row_eq arg2 _ (by rw [k1_off22_eq, rowOf_val i _ ((cond4 t).1 h)]; rfl) _)) $$ [Ha Hx HsI HsX HN1]
  · isplitr [HN1]
    · unfold idle
      isplitl [Ha]; · iexists _; iexact Ha
      isplitl [Hx]; · iexists _; iexact Hx
      isplitl [HsI]; · iexact HsI
      iexact HsX
    · iexact HN1
  iintro HS1
  iapply (left_if d i O W arg7 IX XX T4 T5 T6 arg14 arg21.sem (2 * t.val - 1) (cond5 t)) $$ [HW1 HO]
  · isplitl [HW1]; · iexact HW1
    iexact HO
  unfold quiet
  iintro ⟨⟨Hg, Hs⟩, HD1, HO⟩
  iapply (wpT_bind d i _ _)
  isplitl [HR Hg]
  · iapply (t2_loop d i arg2 harg2 arg3 harg3 arg4 harg4 arg5 harg5 arg6 harg6 arg7 harg7 arg8 harg8 arg9 harg9 arg10 harg10 arg11 harg11 arg12 harg12 arg14 harg14 arg13 harg13 arg15 arg16 arg17 arg18 arg19 arg20 arg21 _ (XX (2 * t.val + 1)) v3 t 0#32 0#1 0#1 0#32)
    isplitl [HR]; · iexact HR
    iexact Hg
  unfold actInv
  iintro %u ⟨HR, ⟨%g, %hg, Hg⟩⟩
  iapply (leave_wp d i arg7 IX XX T4 T5 T6 arg14 arg21.sem (2 * t.val + 1) (outRow_eq arg7 _ ((k1_off18_eq i t 1).trans (by rw [rowOf_val i _ (by omega)]; rfl)) _) (Y := g) (fun a => hg a (by have := a.isLt; omega))) $$ [Hg Hs HU1]
  · isplitl [Hg]; · iexact Hg
    isplitl [Hs]; · iexact Hs
    iexact HU1
  iintro HW1
  iapply (wpT_pure d i _ _)
  isplitl [HR HT HG]
  · isplitl [HR]; · iexists _; iexact HR
    isplitl [HT]; · iexact HT
    iexact HG
  isplitl [HS0]; · iexact HS0
  isplitl [HS1]; · iexact HS1
  isplitl [HN]; · iexact HN
  isplitl [HI0 HI1 HI]
  · iapply (put_one (inp d i arg2 arg3 IX XX) (2 * t.val + 1))
    isplitl [HI1]; · iexact HI1
    iapply (put_one (inp d i arg2 arg3 IX XX) (2 * t.val))
    isplitl [HI0]; · iexact HI0
    iexact HI
  isplitl [HW0]; · iexact HW0
  isplitl [HW1]; · iexact HW1
  isplitl [HU]; · iexact HU
  isplitl [HD0 HD1 HD]
  · iapply (put_two (dnr d i arg7 IX XX T4 T5 T6) (2 * t.val) (by omega))
    isplitl [HD0]; · iexact HD0
    isplitl [HD1]; · iexact HD1
    iexact HD
  iexact HO

end Trip

end Cert.Proof
-- ==== Proof.Body.lean ====
/-
  A tile's whole program: the first two rows fetched, sixteen trips, the last two rows' scores waited for.
-/
module

public import proofs.«01_k».proof.Proof.Trip

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

section Body

variable [FloatOps F] (d : Dev nD) (i : grid1.Coords) (O : CellTallies nD τ sig (HIx 1)) (W : Waits sig (HIx 1))
variable (arg2 : Memref sig .scVector .hbm S1024x384 .f32) (harg2 : arg2.IsWhole) (arg3 : Memref sig .scVector .hbm S1024x3x2x100 .i32) (harg3 : arg3.IsWhole) (arg4 : Memref sig .scVector .hbm S1000x128 .f32) (harg4 : arg4.IsWhole) (arg5 : Memref sig .scVector .hbm S100000x128 .f32) (harg5 : arg5.IsWhole) (arg6 : Memref sig .scVector .hbm S100000x128 .f32) (harg6 : arg6.IsWhole) (arg7 : Memref sig .scVector .hbm S1024x256 .f32) (harg7 : arg7.IsWhole) (arg8 : Memref sig .scVector .vmem S3x2x100 .i32) (harg8 : arg8.IsWhole) (arg9 : Memref sig .scVector .vmem S3x2x100 .i32) (harg9 : arg9.IsWhole) (arg10 : Memref sig .scVector .vmem S384 .f32) (harg10 : arg10.IsWhole) (arg11 : Memref sig .scVector .vmem S384 .f32) (harg11 : arg11.IsWhole) (arg12 : Memref sig .scVector .vmem S600x128 .f32) (harg12 : arg12.IsWhole) (arg13 : Memref sig .scVector .vmem S256 .f32) (harg13 : arg13.IsWhole) (arg14 : Memref sig .scVector .vmem S256 .f32) (harg14 : arg14.IsWhole) (arg15 : DmaSems sig S_) (arg16 : DmaSems sig S_) (arg17 : DmaSems sig S_) (arg18 : DmaSems sig S_) (arg19 : DmaSems sig S_) (arg20 : DmaSems sig S_) (arg21 : DmaSems sig S_)
variable (IX : ℕ → Vec F S3x2x100 .i32) (XX : ℕ → Vec F S384 .f32) (T4 : Vec F S1000x128 .f32) (T5 T6 : Vec F S100000x128 .f32) (q : PosShare TreeShare)

theorem rowsInv_zero : iprop(((∃ R : Vec F S600x128 .f32, owns (tile d i) arg12 fullShare R) ∗ Tabs d i arg4 arg5 arg6 q T4 T5 T6 ∗ semVal (tile d i, .dma arg15.sem) 0)
    ∗ landed d i arg2 arg3 IX XX arg8 arg10 arg16.sem arg18.sem 0
    ∗ flying d i arg2 arg3 IX XX arg9 arg11 arg17.sem arg19.sem 1
    ∗ bigSep (Finset.Ico 2 32) (inp d i arg2 arg3 IX XX)
    ∗ quiet d i arg13 arg20.sem ∗ quiet d i arg14 arg21.sem
    ∗ bigSep (Finset.Ico 0 32) (outw d i arg7) ∗ Ow (tile d i) O W)
    ⊢ rowsInv d i O W arg2 arg3 arg4 arg5 arg6 arg7 arg8 arg9 arg10 arg11 arg12 arg13 arg14 arg15 arg16 arg17 arg18 arg19 arg20 arg21 IX XX T4 T5 T6 q 0 := by
  unfold rowsInv
  rw [if_pos (show 0 < 32 by omega), if_neg (show ¬ 0 < 0 by omega), if_pos (show 0 + 1 < 32 by omega), if_neg (show ¬ 0 < 0 by omega), if_neg (show ¬ 0 < 0 by omega),
    show (0 : ℕ) - 2 = 0 from rfl, Finset.range_zero, BI.bigSep_empty, BI.bigSep_empty]
  iintro ⟨HG, HS0, HS1, HN, HW0, HW1, HU, HO⟩
  isplitl [HG]; · iexact HG
  isplitl [HS0]; · iexact HS0
  isplitl [HS1]; · iexact HS1
  isplitl [HN]; · iexact HN
  isplitr; · iempintro
  isplitl [HW0]; · iexact HW0
  isplitl [HW1]; · iexact HW1
  isplitl [HU]; · iexact HU
  isplitr; · iempintro
  iexact HO

theorem rowsInv_end : rowsInv d i O W arg2 arg3 arg4 arg5 arg6 arg7 arg8 arg9 arg10 arg11 arg12 arg13 arg14 arg15 arg16 arg17 arg18 arg19 arg20 arg21 IX XX T4 T5 T6 q 32
    ⊢ iprop(((∃ R : Vec F S600x128 .f32, owns (tile d i) arg12 fullShare R) ∗ Tabs d i arg4 arg5 arg6 q T4 T5 T6 ∗ semVal (tile d i, .dma arg15.sem) 0)
    ∗ idle d i arg8 arg10 arg16.sem arg18.sem ∗ idle d i arg9 arg11 arg17.sem arg19.sem
    ∗ bigSep (Finset.range 32) (inp d i arg2 arg3 IX XX)
    ∗ leaving d i arg7 IX XX T4 T5 T6 arg13 arg20.sem 30 ∗ leaving d i arg7 IX XX T4 T5 T6 arg14 arg21.sem 31
    ∗ bigSep (Finset.range 30) (dnr d i arg7 IX XX T4 T5 T6) ∗ Ow (tile d i) O W) := by
  unfold rowsInv
  rw [if_neg (show ¬ 32 < 32 by omega), if_neg (show ¬ 32 + 1 < 32 by omega), if_pos (show 0 < 32 by omega), if_pos (show 0 < 32 by omega)]
  iintro ⟨HG, HS0, HS1, -, HI, HW0, HW1, -, HD, HO⟩
  isplitl [HG]; · iexact HG
  isplitl [HS0]; · iexact HS0
  isplitl [HS1]; · iexact HS1
  isplitl [HI]; · iexact HI
  isplitl [HW0]; · iexact HW0
  isplitl [HW1]; · iexact HW1
  isplitl [HD]; · iexact HD
  iexact HO

/-- What a tile's own memory and its rows are before and after. -/
def TileRes (rows : sProp 𝕄) : sProp 𝕄 :=
  iprop(((∃ R : Vec F S600x128 .f32, owns (tile d i) arg12 fullShare R) ∗ Tabs d i arg4 arg5 arg6 q T4 T5 T6 ∗ semVal (tile d i, .dma arg15.sem) 0)
    ∗ idle d i arg8 arg10 arg16.sem arg18.sem ∗ idle d i arg9 arg11 arg17.sem arg19.sem
    ∗ quiet d i arg13 arg20.sem ∗ quiet d i arg14 arg21.sem
    ∗ rows ∗ Ow (tile d i) O W)

set_option maxHeartbeats 1000000 in
set_option maxRecDepth 65536 in
/-- The tile's program reads its 32 rows and writes their scores. -/
theorem body_wp (hI : ∀ j, j < 32 → InRange (IX j)) :
    TileRes d i O W arg4 arg5 arg6 arg8 arg9 arg10 arg11 arg12 arg13 arg14 arg15 arg16 arg17 arg18 arg19 arg20 arg21 T4 T5 T6 q
        iprop(bigSep (Finset.Ico 0 32) (inp d i arg2 arg3 IX XX) ∗ bigSep (Finset.Ico 0 32) (outw d i arg7))
      ⊢ wpT d i (cc1__score_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21) fun _ =>
        TileRes d i O W arg4 arg5 arg6 arg8 arg9 arg10 arg11 arg12 arg13 arg14 arg15 arg16 arg17 arg18 arg19 arg20 arg21 T4 T5 T6 q
          iprop(bigSep (Finset.range 32) (inp d i arg2 arg3 IX XX) ∗ bigSep (Finset.range 32) (dnr d i arg7 IX XX T4 T5 T6)) := by
  simp only [cc1__score_body_eq_skeleton, cc1__score_body_skel, k1_part15_eq_skeleton, k1_part15_skel, bind_assoc, pure_bind]
  unfold TileRes
  iintro ⟨HG, HS0, HS1, HW0, HW1, ⟨HN, HU⟩, HO⟩
  ihave HN' := (take_one (inp d i arg2 arg3 IX XX) 0 32 (by omega)) $$ HN
  icases HN' with ⟨HN0, HN⟩
  ihave HN' := (take_one (inp d i arg2 arg3 IX XX) 1 32 (by omega)) $$ HN
  icases HN' with ⟨HN1, HN⟩
  iapply (fetch_wp d i arg2 arg3 IX XX arg8 arg10 arg16.sem arg18.sem 0
    (idxRow_eq arg3 _ ((k1_off1_eq i).trans (by rw [rowOf_val i _ (by omega)]; rfl)) _)
    (x2Row_eq arg2 _ ((k1_off2_eq i).trans (by rw [rowOf_val i _ (by omega)]; rfl)) _)) $$ [HS0 HN0]
  · isplitl [HS0]; · iexact HS0
    iexact HN0
  iintro HS0
  iapply (land_wp d i O W arg2 arg3 IX XX arg8 arg10 arg16.sem arg18.sem 0) $$ [HS0 HO]
  · isplitl [HS0]; · iexact HS0
    iexact HO
  iintro ⟨HS0, HO⟩
  iapply (fetch_wp d i arg2 arg3 IX XX arg9 arg11 arg17.sem arg19.sem 1
    (idxRow_eq arg3 _ ((k1_off3_eq i).trans (by rw [rowOf_val i _ (by omega)])) _)
    (x2Row_eq arg2 _ ((k1_off4_eq i).trans (by rw [rowOf_val i _ (by omega)])) _)) $$ [HS1 HN1]
  · isplitl [HS1]; · iexact HS1
    iexact HN1
  iintro HS1
  iapply (wpT_bind d i _ _ (R := fun _ => rowsInv d i O W arg2 arg3 arg4 arg5 arg6 arg7 arg8 arg9 arg10 arg11 arg12 arg13 arg14 arg15 arg16 arg17 arg18 arg19 arg20 arg21 IX XX T4 T5 T6 q 32))
  isplitl [HG HS0 HS1 HN HW0 HW1 HU HO]
  · iapply (Scf.wp_for frame _ _ k1_t1_loop.lb k1_t1_loop.ub k1_t1_loop.st k1_t1_ok (⟨⟩ : Unit) _ (fun k _ => rowsInv d i O W arg2 arg3 arg4 arg5 arg6 arg7 arg8 arg9 arg10 arg11 arg12 arg13 arg14 arg15 arg16 arg17 arg18 arg19 arg20 arg21 IX XX T4 T5 T6 q (2 * k))
      (fun k acc => trip d i O W arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 IX XX T4 T5 T6 q hI _ k acc))
    isplitl [HG HS0 HS1 HN HW0 HW1 HU HO]
    · iapply (rowsInv_zero d i O W arg2 arg3 arg4 arg5 arg6 arg7 arg8 arg9 arg10 arg11 arg12 arg13 arg14 arg15 arg16 arg17 arg18 arg19 arg20 arg21 IX XX T4 T5 T6 q)
      isplitl [HG]; · iexact HG
      isplitl [HS0]; · iexact HS0
      isplitl [HS1]; · iexact HS1
      isplitl [HN]; · iexact HN
      isplitl [HW0]; · iexact HW0
      isplitl [HW1]; · iexact HW1
      isplitl [HU]; · iexact HU
      iexact HO
    iintro %acc HI
    have ht : 2 * k1_t1_loop.trips = 32 := by decide
    ihave HI' := (Entails.of_eq (congrArg (rowsInv d i O W arg2 arg3 arg4 arg5 arg6 arg7 arg8 arg9 arg10 arg11 arg12 arg13 arg14 arg15 arg16 arg17 arg18 arg19 arg20 arg21 IX XX T4 T5 T6 q) ht)) $$ HI
    iexact HI'
  iintro %u HR
  ihave HR' := (rowsInv_end d i O W arg2 arg3 arg4 arg5 arg6 arg7 arg8 arg9 arg10 arg11 arg12 arg13 arg14 arg15 arg16 arg17 arg18 arg19 arg20 arg21 IX XX T4 T5 T6 q) $$ HR
  icases HR' with ⟨HG, HS0, HS1, HI, HW0, HW1, HD, HO⟩
  iapply (left_wp d i O W arg7 IX XX T4 T5 T6 arg13 arg20.sem 30) $$ [HW0 HO]
  · isplitl [HW0]; · iexact HW0
    iexact HO
  iintro ⟨HW0, HD0, HO⟩
  iapply (left_wp d i O W arg7 IX XX T4 T5 T6 arg14 arg21.sem 31) $$ [HW1 HO]
  · isplitl [HW1]; · iexact HW1
    iexact HO
  iintro ⟨HW1, HD1, HO⟩
  iapply (wpT_pure d i _ _)
  isplitl [HG]; · iexact HG
  isplitl [HS0]; · iexact HS0
  isplitl [HS1]; · iexact HS1
  isplitl [HW0]; · iexact HW0
  isplitl [HW1]; · iexact HW1
  isplitr [HO]
  · isplitl [HI]; · iexact HI
    iapply (put_one (dnr d i arg7 IX XX T4 T5 T6) 31)
    isplitl [HD1]; · iexact HD1
    iapply (put_one (dnr d i arg7 IX XX T4 T5 T6) 30)
    isplitl [HD0]; · iexact HD0
    iexact HD
  · iexact HO

end Body

end Cert.Proof
-- ==== Proof.Pay.lean ====
/-
  What the call hands each tile and gets back, and a tile's obligation met by its program.
-/
module

public import proofs.«01_k».proof.Proof.Body

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

section Pay

variable [FloatOps F]

/-- The coordinates of a tile. -/
def at' (c : Fin 2) (s : Fin 16) : grid1.Coords :=
  fun | 0 => c | 1 => s | ⟨_ + 2, h⟩ => absurd h (Nat.not_lt.2 (Nat.le_add_left _ _))

/-- A tile's share of the tables: a sixteenth piece of its core's half. -/
abbrev tq (i : grid1.Coords) : PosShare TreeShare :=
  pieceOf (pieceOf fullShare 2 (by omega) (i 0)) 16 (by omega) (i 1)

variable (IDX : Dev nD → Vec F S1024x3x2x100 .i32) (X2 : Dev nD → Vec F S1024x384 .f32)
variable (T4 : Dev nD → Vec F S1000x128 .f32) (T5 T6 : Dev nD → Vec F S100000x128 .f32)

/-- Row `j` of a tile's list buffers. -/
def rowIX (d : Dev nD) (i : grid1.Coords) (j : ℕ) : Vec F S3x2x100 .i32 := fun x => IDX d (ix4 (rowOf i j) (x 0) (x 1) (x 2))
/-- Row `j` of a tile's vectors. -/
def rowXX (d : Dev nD) (i : grid1.Coords) (j : ℕ) : Vec F S384 .f32 := fun x => X2 d (ix2 (rowOf i j) (x 0))

/-- A tile's share of the three tables. -/
def TAB (d : Dev nD) (i : grid1.Coords) : sProp 𝕄 :=
  Tabs d i (Memref.whole main_arg9_scv) (Memref.whole main_arg10_scv) (Memref.whole main_arg11_scv) (tq i) (T4 d) (T5 d) (T6 d)
/-- A tile's rows of words and vectors. -/
def INP (s : Finset ℕ) (d : Dev nD) (i : grid1.Coords) : sProp 𝕄 :=
  bigSep s (inp d i (Memref.whole main_v2_scv) (Memref.whole main_v7_scv) (rowIX IDX d i) (rowXX X2 d i))
/-- A tile's rows of scores, of any content. -/
def OUT (d : Dev nD) (i : grid1.Coords) : sProp 𝕄 := bigSep (Finset.Ico 0 32) (outw (F := F) d i (Memref.whole main_v8_scv))
/-- A tile's rows of scores, written. -/
def DNE (d : Dev nD) (i : grid1.Coords) : sProp 𝕄 :=
  bigSep (Finset.range 32) (dnr d i (Memref.whole main_v8_scv) (rowIX IDX d i) (rowXX X2 d i) (T4 d) (T5 d) (T6 d))

/-- What a tile is handed. -/
def GO (d : Dev nD) (i : grid1.Coords) : sProp 𝕄 := iprop(TAB T4 T5 T6 d i ∗ INP IDX X2 (Finset.Ico 0 32) d i ∗ OUT d i)
/-- What a tile brings back. -/
def TD (d : Dev nD) (i : grid1.Coords) : sProp 𝕄 := iprop(TAB T4 T5 T6 d i ∗ INP IDX X2 (Finset.range 32) d i ∗ DNE IDX X2 T4 T5 T6 d i)

instance GO_storable (d : Dev nD) (i : grid1.Coords) : BI.Storable (upEmb : UEmb _ 𝕄) (GO IDX X2 T4 T5 T6 d i) := by
  unfold GO TAB INP OUT Tabs; unfold inp outw; infer_instance
instance TD_storable (d : Dev nD) (i : grid1.Coords) : BI.Storable (upEmb : UEmb _ 𝕄) (TD IDX X2 T4 T5 T6 d i) := by
  unfold TD TAB INP DNE Tabs; unfold inp dnr; infer_instance

/-- What a core is handed: what its sixteen tiles are. -/
def CGO (d : Dev nD) (c : Fin 2) : sProp 𝕄 := bigSep Finset.univ fun i : Fin 16 => GO IDX X2 T4 T5 T6 d (at' c i)
/-- What a core brings back. -/
def CTD (d : Dev nD) (c : Fin 2) : sProp 𝕄 := bigSep Finset.univ fun i : Fin 16 => TD IDX X2 T4 T5 T6 d (at' c i)

instance CGO_storable (d : Dev nD) (c : Fin 2) : BI.Storable (upEmb : UEmb _ 𝕄) (CGO IDX X2 T4 T5 T6 d c) := by
  have h := fun i : Fin 16 => GO_storable IDX X2 T4 T5 T6 d (at' c i)
  unfold CGO; exact inferInstance
instance CTD_storable (d : Dev nD) (c : Fin 2) : BI.Storable (upEmb : UEmb _ 𝕄) (CTD IDX X2 T4 T5 T6 d c) := by
  have h := fun i : Fin 16 => TD_storable IDX X2 T4 T5 T6 d (at' c i)
  unfold CTD; exact inferInstance

attribute [local irreducible] GO TD CGO CTD

/-- The one call: a core takes what its sixteen tiles take. -/
def P : (K (F := F)).Pay (nD := nD) (Val := Elt F) (Name := ℕ) (U := UU) where
  st := fun q d c => match q with | 0 => CGO IDX X2 T4 T5 T6 d (Fin.cast nCore_zero c)
  dn := fun q d c => match q with | 0 => CTD IDX X2 T4 T5 T6 d (Fin.cast nCore_zero c)
  go := fun q d c i => match q with | 0 => GO IDX X2 T4 T5 T6 d (at' (Fin.cast nCore_zero c) (Fin.cast nSub_zero i))
  td := fun q d c i => match q with | 0 => TD IDX X2 T4 T5 T6 d (at' (Fin.cast nCore_zero c) (Fin.cast nSub_zero i))
  x := fun _ _ => iprop(emp)

instance P_storable : (P IDX X2 T4 T5 T6).IsStorable where
  st q d c := match q with | 0 => CGO_storable IDX X2 T4 T5 T6 d (Fin.cast nCore_zero c)
  dn q d c := match q with | 0 => CTD_storable IDX X2 T4 T5 T6 d (Fin.cast nCore_zero c)
  go q d c i := match q with | 0 => GO_storable IDX X2 T4 T5 T6 d (at' (Fin.cast nCore_zero c) (Fin.cast nSub_zero i))
  td q d c i := match q with | 0 => TD_storable IDX X2 T4 T5 T6 d (at' (Fin.cast nCore_zero c) (Fin.cast nSub_zero i))

theorem tasks_eq (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P IDX X2 T4 T5 T6) 0 := by
  intro d c
  show CGO IDX X2 T4 T5 T6 d (Fin.cast nCore_zero c) ⊢ |={Set.univ}=> iprop(
      (bigSep Finset.univ fun i : Fin ((K (F := F)).nSub 0) => GO IDX X2 T4 T5 T6 d (at' (Fin.cast nCore_zero c) (Fin.cast nSub_zero i)))
      ∗ ((bigSep Finset.univ fun i : Fin ((K (F := F)).nSub 0) => TD IDX X2 T4 T5 T6 d (at' (Fin.cast nCore_zero c) (Fin.cast nSub_zero i)))
          -∗ CTD IDX X2 T4 T5 T6 d (Fin.cast nCore_zero c)))
  unfold CGO CTD
  iintro H; imodintro
  isplitl [H]
  · iapply (Entails.of_eq (tasks_eq (fun i => GO IDX X2 T4 T5 T6 d (at' (Fin.cast nCore_zero c) i))).symm)
    iexact H
  iintro H
  iapply (Entails.of_eq (tasks_eq (fun i => TD IDX X2 T4 T5 T6 d (at' (Fin.cast nCore_zero c) i))))
  iexact H

/-! ## A tile's own memory -/

variable (d : Dev nD) (i : grid1.Coords)

/-- The tile's seven transfer counters. -/
def semCells : Finset (GSem nD τ sig) :=
  (({cc1_scratch7.sem, cc1_scratch8.sem, cc1_scratch9.sem, cc1_scratch10.sem, cc1_scratch11.sem, cc1_scratch12.sem, cc1_scratch13.sem} : Finset (DmaSem sig))).map
    ⟨fun s => (tile d i, SemLoc.dma s), fun a b h => by simpa using h⟩

/-- The tile's seven buffers. -/
def bufRefs : Finset (DevRef τ sig) :=
  (({cc1_scratch0, cc1_scratch1, cc1_scratch2, cc1_scratch3, cc1_scratch4, cc1_scratch5, cc1_scratch6} : Finset (Ref sig .scVector))).map ⟨(tile d i).2.devRef, Proc.devRef_injective _⟩

theorem ownSems0_tile :
    (ownSems0 (tile d i) : sProp 𝕄)
      = iprop((semVal (tile d i, .dma cc1_scratch7.sem) 0 ∗ semVal (tile d i, .dma cc1_scratch8.sem) 0 ∗ semVal (tile d i, .dma cc1_scratch9.sem) 0 ∗ semVal (tile d i, .dma cc1_scratch10.sem) 0 ∗ semVal (tile d i, .dma cc1_scratch11.sem) 0 ∗ semVal (tile d i, .dma cc1_scratch12.sem) 0 ∗ semVal (tile d i, .dma cc1_scratch13.sem) 0)
          ∗ bigSep (ownCells (tile d i) \ semCells d i) fun g => semVal g 0) := by
  have h : semCells d i ⊆ ownCells (tile d i) := by
    intro g hg
    obtain ⟨s, hs, rfl⟩ := Finset.mem_map.mp hg
    refine mem_ownCells.mpr ⟨rfl, ?_⟩
    clear hg
    revert s
    show ∀ s ∈ ({cc1_scratch7.sem, cc1_scratch8.sem, cc1_scratch9.sem, cc1_scratch10.sem, cc1_scratch11.sem, cc1_scratch12.sem, cc1_scratch13.sem} : Finset (DmaSem sig)), (SemLoc.dma s : SemLoc sig).isScoped .scVector = true
    decide
  unfold SparseCore.Cfg.ownSems0
  rw [BI.bigSep_sdiff_split h, semCells, BI.bigSep_map]
  congr 1
  rw [SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

theorem ownBufs_tile :
    (ownBufs (tile d i) : sProp 𝕄)
      = iprop(((∃ f, (tile d i).loc cc1_scratch0 ↦{fullShare} f) ∗ (∃ f, (tile d i).loc cc1_scratch1 ↦{fullShare} f) ∗ (∃ f, (tile d i).loc cc1_scratch2 ↦{fullShare} f) ∗ (∃ f, (tile d i).loc cc1_scratch3 ↦{fullShare} f) ∗ (∃ f, (tile d i).loc cc1_scratch4 ↦{fullShare} f) ∗ (∃ f, (tile d i).loc cc1_scratch5 ↦{fullShare} f) ∗ (∃ f, (tile d i).loc cc1_scratch6 ↦{fullShare} f))
          ∗ bigSep (ownRefs (tile d i).2 \ bufRefs d i) fun b => iprop(∃ f, ((d, b) : Loc nD τ sig) ↦{fullShare} f)) := by
  have h : bufRefs d i ⊆ ownRefs (tile d i).2 := by
    intro g hg
    obtain ⟨s, hs, rfl⟩ := Finset.mem_map.mp hg
    refine SparseCore.Cfg.mem_ownRefs_of_owner ?_
    simp only [Finset.mem_insert, Finset.mem_singleton] at hs
    rcases hs with rfl | rfl | rfl | rfl | rfl | rfl | rfl <;> rfl
  unfold SparseCore.Cfg.ownBufs
  rw [BI.bigSep_sdiff_split h, bufRefs, BI.bigSep_map]
  congr 1
  rw [SparseCore.bigSep_insert' (show (cc1_scratch0 : Ref sig .scVector) ∉ ({cc1_scratch1, cc1_scratch2, cc1_scratch3, cc1_scratch4, cc1_scratch5, cc1_scratch6} : Finset (Ref sig .scVector)) by decide), SparseCore.bigSep_insert' (show (cc1_scratch1 : Ref sig .scVector) ∉ ({cc1_scratch2, cc1_scratch3, cc1_scratch4, cc1_scratch5, cc1_scratch6} : Finset (Ref sig .scVector)) by decide), SparseCore.bigSep_insert' (show (cc1_scratch2 : Ref sig .scVector) ∉ ({cc1_scratch3, cc1_scratch4, cc1_scratch5, cc1_scratch6} : Finset (Ref sig .scVector)) by decide), SparseCore.bigSep_insert' (show (cc1_scratch3 : Ref sig .scVector) ∉ ({cc1_scratch4, cc1_scratch5, cc1_scratch6} : Finset (Ref sig .scVector)) by decide), SparseCore.bigSep_insert' (show (cc1_scratch4 : Ref sig .scVector) ∉ ({cc1_scratch5, cc1_scratch6} : Finset (Ref sig .scVector)) by decide), SparseCore.bigSep_insert' (show (cc1_scratch5 : Ref sig .scVector) ∉ ({cc1_scratch6} : Finset (Ref sig .scVector)) by decide), bigSep_singleton]
  rfl

theorem own_whole (b : Ref sig (tile d i).2.kind) :
    (iprop(∃ f, (tile d i).loc b ↦{fullShare} f) : sProp 𝕄) ⊢ iprop(∃ Y : b.ty.Contents (Elt F), owns (tile d i) (Memref.whole b) fullShare Y) := by
  iintro ⟨%f, H⟩
  iexists f
  iapply (Entails.of_eq (owns_whole (tile d i) b fullShare f).symm)
  iexact H

theorem whole_own (b : Ref sig (tile d i).2.kind) :
    (iprop(∃ Y : b.ty.Contents (Elt F), owns (tile d i) (Memref.whole b) fullShare Y) : sProp 𝕄) ⊢ iprop(∃ f, (tile d i).loc b ↦{fullShare} f) := by
  iintro ⟨%f, H⟩
  iexists f
  iapply (Entails.of_eq (owns_whole (tile d i) b fullShare f))
  iexact H

/-- What follows from a program's end state, under what is kept aside. -/
theorem wand_wp {α : Type} (p : Prog (TpuEff nD τ sig (Elt F) Λ₀ (tile d i).2) α) {Q R : α → sProp 𝕄} :
    iprop(wpT d i p Q ∗ (∀ x, Q x -∗ R x)) ⊢ wpT d i p R := by
  have h : wpT d i p R = wpT d i (p >>= Pure.pure) R := by rw [bind_pure]
  rw [h]
  iintro ⟨H, Hk⟩
  iapply (wpT_bind d i p Pure.pure (R := Q))
  isplitl [H]; · iexact H
  iintro %x HQ
  iapply (wpT_pure d i)
  iapply Hk; iexact HQ

/-- The tile's obligation: from its own memory and what it is handed, to what it brings back. -/
theorem tile_run (O : CellTallies nD τ sig (HIx 1)) (W : Waits sig (HIx 1)) (hO : ∀ g, O g none = 0)
    (hI : ∀ j, j < 32 → InRange (rowIX IDX d i j)) :
    iprop(levAts (K (F := F)).L (K (F := F)).lev ∗ emp ∗ GO IDX X2 T4 T5 T6 d i
        ∗ scopedBufs (tile d i) ∗ scopedSems0 (tile d i) ∗ owes (tile d i) O W)
      ⊢ wpT d i (cc1__score_body (F := F) i (Memref.whole main_v2_scv) (Memref.isWhole_whole _) (Memref.whole main_v7_scv) (Memref.isWhole_whole _) (Memref.whole main_arg9_scv) (Memref.isWhole_whole _) (Memref.whole main_arg10_scv) (Memref.isWhole_whole _) (Memref.whole main_arg11_scv) (Memref.isWhole_whole _) (Memref.whole main_v8_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scratch11 cc1_scratch12 cc1_scratch13)
          fun _ => iprop(TD IDX X2 T4 T5 T6 d i ∗ scopedBufs (tile d i) ∗ scopedSems0 (tile d i)
            ∗ ∃ W' : Waits sig (HIx 1), ⌜∀ p ∈ W', p ∈ W ∨ p.2 = none⌝ ∗ owes (tile d i) O W') := by
  rw [(K (F := F)).scopedBufs_V facts d _ _, SparseCore.Cfg.scopedSems0_V (Val := Elt F) d _ _, ownSems0_tile, ownBufs_tile]
  unfold GO TD TAB INP OUT DNE
  iintro ⟨#Hlv, -, ⟨HT, HN, HU⟩, ⟨⟨B0, B1, B2, B3, B4, B5, B6⟩, Hbufs⟩, ⟨⟨S0, S1, S2, S3, S4, S5, S6⟩, Hsems⟩, HO⟩
  ihave Hmw := (show levAts (K (F := F)).L (K (F := F)).lev ⊢ Transfers.MayWaits (tile d i) (none : HIx 1) O from
    (K (F := F)).mayWaits_none (thr := tile d i) hO) $$ Hlv
  ihave B0 := (own_whole (F := F) d i cc1_scratch0) $$ B0
  ihave B1 := (own_whole (F := F) d i cc1_scratch1) $$ B1
  ihave B2 := (own_whole (F := F) d i cc1_scratch2) $$ B2
  ihave B3 := (own_whole (F := F) d i cc1_scratch3) $$ B3
  ihave B4 := (own_whole (F := F) d i cc1_scratch4) $$ B4
  ihave B5 := (own_whole (F := F) d i cc1_scratch5) $$ B5
  ihave B6 := (own_whole (F := F) d i cc1_scratch6) $$ B6
  iapply (wand_wp d i)
  isplitl [HT HN HU B0 B1 B2 B3 B4 B5 B6 S0 S1 S2 S3 S4 S5 S6 HO]
  · iapply (body_wp d i O W (Memref.whole main_v2_scv) (Memref.isWhole_whole _) (Memref.whole main_v7_scv) (Memref.isWhole_whole _) (Memref.whole main_arg9_scv) (Memref.isWhole_whole _) (Memref.whole main_arg10_scv) (Memref.isWhole_whole _) (Memref.whole main_arg11_scv) (Memref.isWhole_whole _) (Memref.whole main_v8_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scratch11 cc1_scratch12 cc1_scratch13 (rowIX IDX d i) (rowXX X2 d i) (T4 d) (T5 d) (T6 d) (tq i) hI)
    unfold TileRes idle quiet Ow
    isplitl [B4 HT S0]
    · isplitl [B4]; · iexact B4
      isplitl [HT]; · iexact HT
      iexact S0
    isplitl [B0 B2 S1 S3]
    · isplitl [B0]; · iexact B0
      isplitl [B2]; · iexact B2
      isplitl [S1]; · iexact S1
      iexact S3
    isplitl [B1 B3 S2 S4]
    · isplitl [B1]; · iexact B1
      isplitl [B3]; · iexact B3
      isplitl [S2]; · iexact S2
      iexact S4
    isplitl [B5 S5]
    · isplitl [B5]; · iexact B5
      iexact S5
    isplitl [B6 S6]
    · isplitl [B6]; · iexact B6
      iexact S6
    isplitl [HN HU]
    · isplitl [HN]; · iexact HN
      iexact HU
    isplitr; · iexact Hmw
    iexists W
    isplitr; · ipureintro; exact fun p hp => Or.inl hp
    iexact HO
  iintro %x
  unfold TileRes idle quiet Ow
  iintro ⟨⟨B4, HT, S0⟩, ⟨B0, B2, S1, S3⟩, ⟨B1, B3, S2, S4⟩, ⟨B5, S5⟩, ⟨B6, S6⟩, ⟨HN, HD⟩, -, HO⟩
  ihave B0 := (whole_own (F := F) d i cc1_scratch0) $$ B0
  ihave B1 := (whole_own (F := F) d i cc1_scratch1) $$ B1
  ihave B2 := (whole_own (F := F) d i cc1_scratch2) $$ B2
  ihave B3 := (whole_own (F := F) d i cc1_scratch3) $$ B3
  ihave B4 := (whole_own (F := F) d i cc1_scratch4) $$ B4
  ihave B5 := (whole_own (F := F) d i cc1_scratch5) $$ B5
  ihave B6 := (whole_own (F := F) d i cc1_scratch6) $$ B6
  isplitl [HT HN HD]
  · isplitl [HT]; · iexact HT
    isplitl [HN]; · iexact HN
    iexact HD
  isplitl [B0 B1 B2 B3 B4 B5 B6 Hbufs]
  · isplitr [Hbufs]
    · isplitl [B0]; · iexact B0
      isplitl [B1]; · iexact B1
      isplitl [B2]; · iexact B2
      isplitl [B3]; · iexact B3
      isplitl [B4]; · iexact B4
      isplitl [B5]; · iexact B5
      iexact B6
    iexact Hbufs
  isplitl [S0 S1 S2 S3 S4 S5 S6 Hsems]
  · isplitr [Hsems]
    · isplitl [S0]; · iexact S0
      isplitl [S1]; · iexact S1
      isplitl [S2]; · iexact S2
      isplitl [S3]; · iexact S3
      isplitl [S4]; · iexact S4
      isplitl [S5]; · iexact S5
      iexact S6
    iexact Hsems
  iexact HO

/-- What a tile runs. -/
theorem defs₀_tile (c : Fin τ.nSC) (s : Fin τ.nSub) :
    defs₀ (F := F) (.scVector c s) 1 ()
      = SparseCore.onTile hcore1 hsub1 (fun c s => cc1__score_body (at' c s) (Memref.whole main_v2_scv) (Memref.isWhole_whole _) (Memref.whole main_v7_scv) (Memref.isWhole_whole _) (Memref.whole main_arg9_scv) (Memref.isWhole_whole _) (Memref.whole main_arg10_scv) (Memref.isWhole_whole _) (Memref.whole main_arg11_scv) (Memref.isWhole_whole _) (Memref.whole main_v8_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scratch11 cc1_scratch12 cc1_scratch13) ⟨⟩ c s := rfl

theorem obl_post {thr : Thread nD τ} {A B C : sProp 𝕄} {O : CellTallies nD τ sig (HIx 1)} {W : Waits sig (HIx 1)} {q : Fin 1} :
    iprop(A ∗ B ∗ C ∗ ∃ W' : Waits sig (HIx 1), ⌜∀ p ∈ W', p ∈ W ∨ p.2 = none⌝ ∗ owes thr O W')
      ⊢ iprop(A ∗ B ∗ C ∗ ∃ W' : Waits sig (HIx 1), ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hI : ∀ d i j, j < 32 → InRange (rowIX IDX d i j)) : (K (F := F)).TileObl (D (F := F)) 𝒱 (P IDX X2 T4 T5 T6) v₀ 0 := by
  intro d c i O W hO _ _
  simp only [show (P IDX X2 T4 T5 T6).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_run IDX X2 T4 T5 T6 d (at' ⟨_, hci.1⟩ ⟨_, hci.2⟩) O W hO (hI d _)).trans (wp_mono frame _ _ fun _ => obl_post)

end Pay

end Cert.Proof

end
-- ==== Proof.Split.lean ====
/-
  The arrays of the call dealt out to the tiles row by row, and put together again from what the tiles bring back.
-/
module

public import proofs.«01_k».proof.Proof.Pay

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The rows of an array -/

abbrev rcIdx (r : Fin 1024) : Rect S1024x3x2x100 := Rect.unit (s := S1024x3x2x100) ![r.val, 0, 0, 0] S1x3x2x100.size (by
  intro k; have := r.isLt; fin_cases k <;> simp [S1024x3x2x100, S1x3x2x100] <;> omega)
abbrev rcVec (r : Fin 1024) : Rect S1024x384 := Rect.unit (s := S1024x384) ![r.val, 0] S1x384.size (by
  intro k; have := r.isLt; fin_cases k <;> simp [S1024x384, S1x384] <;> omega)
abbrev rcOut (r : Fin 1024) : Rect S1024x256 := Rect.unit (s := S1024x256) ![r.val, 0] S1x256.size (by
  intro k; have := r.isLt; fin_cases k <;> simp [S1024x256, S1x256] <;> omega)

theorem mem_rcIdx (r : Fin 1024) (x : S1024x3x2x100.Idx) : x ∈ (rcIdx r).set ↔ (x 0).val = r.val := by
  rw [Rect.mem_set_unit]
  constructor
  · intro h
    have h0 := h 0
    change r.val ≤ (x 0).val ∧ (x 0).val < r.val + 1 at h0
    omega
  · intro h k
    match k with
    | ⟨0, _⟩ => exact ⟨by show r.val ≤ (x 0).val; omega, by show (x 0).val < r.val + 1; omega⟩
    | ⟨1, _⟩ => exact ⟨Nat.zero_le _, by show (x 1).val < 0 + 3; have : (x 1).val < 3 := (x 1).isLt; omega⟩
    | ⟨2, _⟩ => exact ⟨Nat.zero_le _, by show (x 2).val < 0 + 2; have : (x 2).val < 2 := (x 2).isLt; omega⟩
    | ⟨3, _⟩ => exact ⟨Nat.zero_le _, by show (x 3).val < 0 + 100; have : (x 3).val < 100 := (x 3).isLt; omega⟩

theorem mem_rcVec (r : Fin 1024) (x : S1024x384.Idx) : x ∈ (rcVec r).set ↔ (x 0).val = r.val := by
  rw [Rect.mem_set_unit]
  constructor
  · intro h
    have h0 := h 0
    change r.val ≤ (x 0).val ∧ (x 0).val < r.val + 1 at h0
    omega
  · intro h k
    match k with
    | ⟨0, _⟩ => exact ⟨by show r.val ≤ (x 0).val; omega, by show (x 0).val < r.val + 1; omega⟩
    | ⟨1, _⟩ => exact ⟨Nat.zero_le _, by show (x 1).val < 0 + 384; have : (x 1).val < 384 := (x 1).isLt; omega⟩

theorem mem_rcOut (r : Fin 1024) (x : S1024x256.Idx) : x ∈ (rcOut r).set ↔ (x 0).val = r.val := by
  rw [Rect.mem_set_unit]
  constructor
  · intro h
    have h0 := h 0
    change r.val ≤ (x 0).val ∧ (x 0).val < r.val + 1 at h0
    omega
  · intro h k
    match k with
    | ⟨0, _⟩ => exact ⟨by show r.val ≤ (x 0).val; omega, by show (x 0).val < r.val + 1; omega⟩
    | ⟨1, _⟩ => exact ⟨Nat.zero_le _, by show (x 1).val < 0 + 256; have : (x 1).val < 256 := (x 1).isLt; omega⟩

/-- Sets of indices told apart by a number below 1024 are disjoint, -/
theorem rows_disj {s : Shape} (R : Fin 1024 → Finset s.Idx) (f : s.Idx → ℕ) (h : ∀ r x, x ∈ R r ↔ f x = r.val) (t t' : Fin 1024) (ht : t ≠ t') :
    Disjoint (R t) (R t') := by
  rw [Finset.disjoint_left]
  intro x hx hx'
  exact ht (Fin.ext (((h t x).1 hx).symm.trans ((h t' x).1 hx')))

/-- and together they are all the indices. -/
theorem rows_cov {s : Shape} (R : Fin 1024 → Finset s.Idx) (f : s.Idx → ℕ) (h : ∀ r x, x ∈ R r ↔ f x = r.val) (hf : ∀ x, f x < 1024) :
    (Finset.univ : Finset (Fin 1024)).biUnion R = Finset.univ := by
  ext x
  simp only [Finset.mem_biUnion, Finset.mem_univ, true_and, iff_true]
  exact ⟨⟨f x, hf x⟩, (h _ x).2 rfl⟩

/-- The batch row of a tile's row, over all tiles. -/
def rowEquiv : Fin 2 × Fin 16 × Fin 32 ≃ Fin 1024 where
  toFun p := ⟨64 * p.2.1.val + 32 * p.1.val + p.2.2.val, by omega⟩
  invFun r := (⟨r.val % 64 / 32, by omega⟩, ⟨r.val / 64, by omega⟩, ⟨r.val % 32, by omega⟩)
  left_inv p := by
    obtain ⟨c, s, j⟩ := p
    refine Prod.ext (Fin.ext ?_) (Prod.ext (Fin.ext ?_) (Fin.ext ?_))
    · show (64 * s.val + 32 * c.val + j.val) % 64 / 32 = c.val; omega
    · show (64 * s.val + 32 * c.val + j.val) / 64 = s.val; omega
    · show (64 * s.val + 32 * c.val + j.val) % 32 = j.val; omega
  right_inv r := Fin.ext (by show 64 * (r.val / 64) + 32 * (r.val % 64 / 32) + r.val % 32 = r.val; omega)

theorem rowEquiv_eq (c : Fin 2) (s : Fin 16) (j : Fin 32) : rowEquiv (c, s, j) = rowOf (at' c s) j.val :=
  Fin.ext (rowOf_val (at' c s) j.val j.isLt).symm

theorem bigSep_range32 {M : Type} [URA M] (Φ : ℕ → sProp M) : bigSep (Finset.range 32) Φ = bigSep Finset.univ fun j : Fin 32 => Φ j.val := by
  have h : Finset.range 32 = (Finset.univ : Finset (Fin 32)).map Fin.valEmbedding := by decide
  rw [h, BI.bigSep_map]; rfl

/-- Something of every batch row, dealt out to the tiles. -/
theorem rows_deal {M : Type} [URA M] (Φ : Fin 1024 → sProp M) :
    bigSep Finset.univ Φ = bigSep Finset.univ fun c : Fin 2 => bigSep Finset.univ fun s : Fin 16 => bigSep (Finset.range 32) fun j => Φ (rowOf (at' c s) j) := by
  rw [BI.bigSep_univ_equiv rowEquiv, BI.bigSep_univ_prod]
  refine bigSep_congr fun c _ => ?_
  rw [BI.bigSep_univ_prod]
  refine bigSep_congr fun s _ => ?_
  rw [bigSep_range32]
  exact bigSep_congr fun j _ => congrArg Φ (rowEquiv_eq c s j)

section Arrays

variable [FloatOps F] [∀ e, Nonempty (Elt F e)]
variable (IDX : Dev nD → Vec F S1024x3x2x100 .i32) (X2 : Dev nD → Vec F S1024x384 .f32)
variable (T4 : Dev nD → Vec F S1000x128 .f32) (T5 T6 : Dev nD → Vec F S100000x128 .f32) (d : Dev nD)

/-- Batch row `r` of the lists. -/
def bIX (r : Fin 1024) : Vec F S3x2x100 .i32 := fun x => IDX d (ix4 r (x 0) (x 1) (x 2))
/-- Batch row `r` of the vectors. -/
def bXX (r : Fin 1024) : Vec F S384 .f32 := fun x => X2 d (ix2 r (x 0))

/-- The tile whose naming of the shared arrays is used. -/
abbrev tile₀ : Thread nD τ := tile d (at' 0 0)

theorem idx_word : ∀ (r : Fin 1024) (x : S1x3x2x100.Idx) (y : S3x2x100.Idx), (S1x3x2x100.rowMajor x).val = (S3x2x100.rowMajor y).val →
      IDX d ((rcIdx r).emb x) = bIX IDX d r y := by
  intro r x y h
  rw [Shape.rowMajor_val_four, Shape.rowMajor_val_three] at h
  have h0 : (x 0).val < 1 := (x 0).isLt
  have h1 : (x 1).val < 3 := (x 1).isLt
  have h2 : (x 2).val < 2 := (x 2).isLt
  have h3 : (x 3).val < 100 := (x 3).isLt
  have g0 : (y 0).val < 3 := (y 0).isLt
  have g1 : (y 1).val < 2 := (y 1).isLt
  have g2 : (y 2).val < 100 := (y 2).isLt
  change (((x 0).val * 3 + (x 1).val) * 2 + (x 2).val) * 100 + (x 3).val = ((y 0).val * 2 + (y 1).val) * 100 + (y 2).val at h
  unfold bIX
  congr 1
  funext a
  match a with
  | ⟨0, _⟩ => exact Fin.ext (by show r.val + 1 * (x 0).val = r.val; omega)
  | ⟨1, _⟩ => exact Fin.ext (by show 0 + 1 * (x 1).val = (y 0).val; omega)
  | ⟨2, _⟩ => exact Fin.ext (by show 0 + 1 * (x 2).val = (y 1).val; omega)
  | ⟨3, _⟩ => exact Fin.ext (by show 0 + 1 * (x 3).val = (y 2).val; omega)

theorem idx_rows_of (m : Memref sig .scVector .hbm S1024x3x2x100 .i32) : (owns (tile₀ d) m fullShare (IDX d) : sProp 𝕄)
    ⊣⊢ bigSep Finset.univ fun r : Fin 1024 => owns (tile₀ d) (idxRow m r) fullShare (bIX IDX d r) := by
  have hd := rows_disj (fun r => (rcIdx r).set) (fun x => (x 0).val) mem_rcIdx
  have hc := rows_cov (fun r => (rcIdx r).set) (fun x => (x 0).val) mem_rcIdx (fun x => (x 0).isLt)
  constructor
  · refine (owns_rects (tile₀ d) m fullShare rcIdx (fun _ _ => rfl) hd hc (IDX d)).trans (bigSep_mono fun r _ => ?_)
    exact (owns_squeeze (tile₀ d) (m.slice (rcIdx r) (fun _ => rfl)) squeezes_S1x3x2x100_S3x2x100 fullShare _ _ (idx_word IDX d r)).1
  · refine BI.Entails.trans (bigSep_mono fun r _ => ?_) (owns_of_rects (tile₀ d) m fullShare rcIdx (fun _ _ => rfl) hd hc (IDX d))
    exact (owns_squeeze (tile₀ d) (m.slice (rcIdx r) (fun _ => rfl)) squeezes_S1x3x2x100_S3x2x100 fullShare _ _ (idx_word IDX d r)).2

theorem idx_rows : (d.tc.loc main_v7 ↦{fullShare} IDX d : sProp 𝕄)
    = bigSep Finset.univ fun r : Fin 1024 => owns (tile₀ d) (idxRow (Memref.whole main_v7_scv) r) fullShare (bIX IDX d r) := by
  have h := idx_rows_of IDX d (Memref.whole main_v7_scv)
  exact (owns_whole (tile₀ d) main_v7_scv fullShare (IDX d)).symm.trans (h.1.antisymm h.2)

theorem vec_word : ∀ (r : Fin 1024) (x : S1x384.Idx) (y : S384.Idx), (S1x384.rowMajor x).val = (S384.rowMajor y).val →
      X2 d ((rcVec r).emb x) = bXX X2 d r y := by
  intro r x y h
  rw [Shape.rowMajor_val_two, Shape.rowMajor_val_one] at h
  have h0 : (x 0).val < 1 := (x 0).isLt
  change (x 0).val * 384 + (x 1).val = (y 0).val at h
  unfold bXX
  congr 1
  funext a
  match a with
  | ⟨0, _⟩ => exact Fin.ext (by show r.val + 1 * (x 0).val = r.val; omega)
  | ⟨1, _⟩ => exact Fin.ext (by show 0 + 1 * (x 1).val = (y 0).val; omega)

theorem vec_rows_of (m : Memref sig .scVector .hbm S1024x384 .f32) : (owns (tile₀ d) m fullShare (X2 d) : sProp 𝕄)
    ⊣⊢ bigSep Finset.univ fun r : Fin 1024 => owns (tile₀ d) (x2Row m r) fullShare (bXX X2 d r) := by
  have hd := rows_disj (fun r => (rcVec r).set) (fun x => (x 0).val) mem_rcVec
  have hc := rows_cov (fun r => (rcVec r).set) (fun x => (x 0).val) mem_rcVec (fun x => (x 0).isLt)
  constructor
  · refine (owns_rects (tile₀ d) m fullShare rcVec (fun _ _ => rfl) hd hc (X2 d)).trans (bigSep_mono fun r _ => ?_)
    exact (owns_squeeze (tile₀ d) (m.slice (rcVec r) (fun _ => rfl)) squeezes_S1x384_S384 fullShare _ _ (vec_word X2 d r)).1
  · refine BI.Entails.trans (bigSep_mono fun r _ => ?_) (owns_of_rects (tile₀ d) m fullShare rcVec (fun _ _ => rfl) hd hc (X2 d))
    exact (owns_squeeze (tile₀ d) (m.slice (rcVec r) (fun _ => rfl)) squeezes_S1x384_S384 fullShare _ _ (vec_word X2 d r)).2

theorem vec_rows : (d.tc.loc main_v2 ↦{fullShare} X2 d : sProp 𝕄)
    = bigSep Finset.univ fun r : Fin 1024 => owns (tile₀ d) (x2Row (Memref.whole main_v2_scv) r) fullShare (bXX X2 d r) := by
  have h := vec_rows_of X2 d (Memref.whole main_v2_scv)
  exact (owns_whole (tile₀ d) main_v2_scv fullShare (X2 d)).symm.trans (h.1.antisymm h.2)

theorem out_word (g : Vec F S1024x256 .f32) : ∀ (r : Fin 1024) (x : S1x256.Idx) (y : S256.Idx), (S1x256.rowMajor x).val = (S256.rowMajor y).val →
      g ((rcOut r).emb x) = g (ix2 r (y 0)) := by
  intro r x y h
  rw [Shape.rowMajor_val_two, Shape.rowMajor_val_one] at h
  have h0 : (x 0).val < 1 := (x 0).isLt
  change (x 0).val * 256 + (x 1).val = (y 0).val at h
  congr 1
  funext a
  match a with
  | ⟨0, _⟩ => exact Fin.ext (by show r.val + 1 * (x 0).val = r.val; omega)
  | ⟨1, _⟩ => exact Fin.ext (by show 0 + 1 * (x 1).val = (y 0).val; omega)

theorem out_rows_of (m : Memref sig .scVector .hbm S1024x256 .f32) (g : Vec F S1024x256 .f32) : (owns (tile₀ d) m fullShare (g) : sProp 𝕄)
    ⊣⊢ bigSep Finset.univ fun r : Fin 1024 => owns (tile₀ d) (outRow m r) fullShare ((fun x => g (ix2 r (x 0)))) := by
  have hd := rows_disj (fun r => (rcOut r).set) (fun x => (x 0).val) mem_rcOut
  have hc := rows_cov (fun r => (rcOut r).set) (fun x => (x 0).val) mem_rcOut (fun x => (x 0).isLt)
  constructor
  · refine (owns_rects (tile₀ d) m fullShare rcOut (fun _ _ => rfl) hd hc (g)).trans (bigSep_mono fun r _ => ?_)
    exact (owns_squeeze (tile₀ d) (m.slice (rcOut r) (fun _ => rfl)) squeezes_S1x256_S256 fullShare _ _ (out_word g r)).1
  · refine BI.Entails.trans (bigSep_mono fun r _ => ?_) (owns_of_rects (tile₀ d) m fullShare rcOut (fun _ _ => rfl) hd hc (g))
    exact (owns_squeeze (tile₀ d) (m.slice (rcOut r) (fun _ => rfl)) squeezes_S1x256_S256 fullShare _ _ (out_word g r)).2

theorem out_rows (g : Vec F S1024x256 .f32) : (d.tc.loc main_v8 ↦{fullShare} g : sProp 𝕄)
    = bigSep Finset.univ fun r : Fin 1024 => owns (tile₀ d) (outRow (Memref.whole main_v8_scv) r) fullShare (fun x => g (ix2 r (x 0))) := by
  have h := out_rows_of (F := F) d (Memref.whole main_v8_scv) g
  exact (owns_whole (tile₀ d) main_v8_scv fullShare (g)).symm.trans (h.1.antisymm h.2)

/-! ## Tables in shares -/

theorem deal_share {ℓ : Loc nD τ sig} (f : Buf (Elt F) ℓ) : (ℓ ↦{fullShare} f : sProp 𝕄)
    = bigSep Finset.univ fun c : Fin 2 => bigSep Finset.univ fun s : Fin 16 => ℓ ↦{tq (at' c s)} f := by
  rw [pointsTo_piecesOf Finset.univ f (show 0 < 2 by omega) fullShare]
  refine bigSep_congr fun c _ => ?_
  rw [pointsTo_piecesOf Finset.univ f (show 0 < 16 by omega)]
  rfl

/-- A memref cut at its whole extent is owned as the memref is. -/
theorem owns_cut_all (c : Thread nD τ) {sp : Space} {s : Shape} {e : EltTy} (m : Memref sig c.2.kind sp s e) {off : Fin s.rank → ℕ}
    (h : off = fun _ => 0) (inb : ∀ a, off a + s.size a ≤ s.size a) (q : PosShare TreeShare) (X : s.Idx → Elt F e) :
    (owns c (m.slice (Rect.unit off s.size inb) (fun _ => rfl)) q X : sProp 𝕄) = owns c m q X := by
  subst h
  have hset : (m.slice (Rect.unit (fun _ => 0) s.size inb) (fun _ => rfl)).view.set = m.view.set := by
    show (m.view.slice (Rect.whole s)).set = _
    rw [View.set_slice, Rect.set_whole]; rfl
  have hread (f : m.view.ty.Contents (Elt F)) :
      (m.slice (Rect.unit (fun _ => 0) s.size inb) (fun _ => rfl)).view.read (Elt F) f = m.view.read (Elt F) f := by
    funext j
    show m.view.read (Elt F) f ((Rect.whole s).emb j) = _
    congr 1
    funext a
    exact Fin.ext (by show 0 + 1 * (j a).val = (j a).val; omega)
  have h₁ : (owns c (m.slice (Rect.unit (fun _ => 0) s.size inb) (fun _ => rfl)) q X : sProp 𝕄) ⊢ owns c m q X := by
    unfold owns
    iintro ⟨%f, %hf, H⟩
    iexists f
    isplitr
    · ipureintro; rw [← hf, hread]
    · rw [← hset]; iexact H
  have h₂ : (owns c m q X : sProp 𝕄) ⊢ owns c (m.slice (Rect.unit (fun _ => 0) s.size inb) (fun _ => rfl)) q X := by
    unfold owns
    iintro ⟨%f, %hf, H⟩
    iexists f
    isplitr
    · ipureintro; rw [← hf]; exact hread f
    · rw [hset]; iexact H
  exact BI.equiv_iff.mp ⟨h₁, h₂⟩

theorem off00 : (![0, 0] : Fin 2 → ℕ) = fun _ => 0 := by funext a; match a with | 0 => rfl | 1 => rfl

theorem tab4_pt (i : grid1.Coords) (q : PosShare TreeShare) (X : Vec F S1000x128 .f32) :
    (owns (tile d i) (tabA (Memref.whole main_arg9_scv)) q X : sProp 𝕄) = (d.tc.loc main_arg9 ↦{q} X) :=
  (owns_cut_all (tile d i) (Memref.whole main_arg9_scv) off00 _ q X).trans (owns_whole (tile d i) main_arg9_scv q X)
theorem tab5_pt (i : grid1.Coords) (q : PosShare TreeShare) (X : Vec F S100000x128 .f32) :
    (owns (tile d i) (tabB (Memref.whole main_arg10_scv)) q X : sProp 𝕄) = (d.tc.loc main_arg10 ↦{q} X) :=
  (owns_cut_all (tile d i) (Memref.whole main_arg10_scv) off00 _ q X).trans (owns_whole (tile d i) main_arg10_scv q X)
theorem tab6_pt (i : grid1.Coords) (q : PosShare TreeShare) (X : Vec F S100000x128 .f32) :
    (owns (tile d i) (tabB (Memref.whole main_arg11_scv)) q X : sProp 𝕄) = (d.tc.loc main_arg11 ↦{q} X) :=
  (owns_cut_all (tile d i) (Memref.whole main_arg11_scv) off00 _ q X).trans (owns_whole (tile d i) main_arg11_scv q X)

/-! ## The arrays, as the tiles' parts -/

/-- Something of every tile. -/
abbrev tiles (Φ : grid1.Coords → sProp 𝕄) : sProp 𝕄 := bigSep Finset.univ fun c : Fin 2 => bigSep Finset.univ fun s : Fin 16 => Φ (at' c s)

theorem tiles_sep (Φ Ψ : grid1.Coords → sProp 𝕄) : tiles (F := F) (fun i => iprop(Φ i ∗ Ψ i)) = iprop(tiles Φ ∗ tiles Ψ) := by
  unfold tiles
  rw [← bigSep_sep']
  exact bigSep_congr fun c _ => bigSep_sep' _ _ _

theorem tiles_congr {Φ Ψ : grid1.Coords → sProp 𝕄} (h : ∀ i, Φ i = Ψ i) : tiles (F := F) Φ = tiles Ψ := by
  rw [funext h]

theorem tab_deal : iprop((d.tc.loc main_arg9 ↦{fullShare} T4 d) ∗ (d.tc.loc main_arg10 ↦{fullShare} T5 d) ∗ (d.tc.loc main_arg11 ↦{fullShare} T6 d))
    = (tiles (TAB T4 T5 T6 d) : sProp 𝕄) := by
  have h : ∀ i, TAB T4 T5 T6 d i = (iprop((d.tc.loc main_arg9 ↦{tq i} T4 d) ∗ (d.tc.loc main_arg10 ↦{tq i} T5 d) ∗ (d.tc.loc main_arg11 ↦{tq i} T6 d)) : sProp 𝕄) := fun i => by
    unfold TAB Tabs
    rw [tab4_pt, tab5_pt, tab6_pt]
  have h4 := deal_share (F := F) (ℓ := d.tc.loc main_arg9) (T4 d)
  have h5 := deal_share (F := F) (ℓ := d.tc.loc main_arg10) (T5 d)
  have h6 := deal_share (F := F) (ℓ := d.tc.loc main_arg11) (T6 d)
  rw [tiles_congr h, tiles_sep, tiles_sep, h4, h5, h6]

theorem inp_deal : iprop((d.tc.loc main_v7 ↦{fullShare} IDX d) ∗ (d.tc.loc main_v2 ↦{fullShare} X2 d))
    = (tiles (INP IDX X2 (Finset.range 32) d) : sProp 𝕄) := by
  rw [idx_rows, vec_rows, ← bigSep_sep', rows_deal]
  rfl

/-- What a batch row's scores are to be. -/
def sc (r : Fin 1024) (a : Fin 200) : F .f32 := score (gath (bIX IDX d r) (T4 d) (T5 d) (T6 d)) (bXX X2 d r) a

theorem out_deal (g : Vec F S1024x256 .f32) : (d.tc.loc main_v8 ↦{fullShare} g : sProp 𝕄) ⊢ tiles (OUT (F := F) d) := by
  rw [out_rows, rows_deal, Finset.range_eq_Ico]
  refine bigSep_mono fun c _ => bigSep_mono fun s _ => bigSep_mono fun j _ => ?_
  exact exists_intro (Φ := fun Y : Vec F S256 .f32 => owns (tile d (at' c s)) (outRow (Memref.whole main_v8_scv) (rowOf (at' c s) j)) fullShare Y)
    (fun x => g (ix2 (rowOf (at' c s) j) (x 0)))

theorem dne_join : (tiles (DNE IDX X2 T4 T5 T6 d) : sProp 𝕄)
    ⊢ ∃ g : Vec F S1024x256 .f32, ⌜∀ (r : Fin 1024) (a : Fin 200), g (ix2 r ⟨a.val, by omega⟩) = sc IDX X2 T4 T5 T6 d r a⌝ ∗ (d.tc.loc main_v8 ↦{fullShare} g) := by
  have h : (tiles (DNE IDX X2 T4 T5 T6 d) : sProp 𝕄) = bigSep Finset.univ fun r : Fin 1024 => iprop(∃ Y : Vec F S256 .f32,
      ⌜∀ a : Fin 200, Y (ix1 ⟨a.val, by omega⟩) = sc IDX X2 T4 T5 T6 d r a⌝ ∗ owns (tile₀ d) (outRow (Memref.whole main_v8_scv) r) fullShare Y) := by
    rw [rows_deal]; rfl
  rw [h]
  refine (Idealize.SL.BI.bigSep_exists_pi _ _).trans ?_
  iintro ⟨%Y, H⟩
  ihave H' := (bigSep_pure_sep _ _ _) $$ H
  icases H' with ⟨%hY, H⟩
  iexists fun x => Y (x 0) (ix1 (x 1))
  isplitr
  · ipureintro
    intro r a
    exact hY r (Finset.mem_univ _) a
  iapply (Entails.of_eq (out_rows d (fun x => Y (x 0) (ix1 (x 1)))).symm)
  iapply (Entails.of_eq (bigSep_congr fun r _ => congrArg (owns (tile₀ d) (outRow (Memref.whole main_v8_scv) r) fullShare) (funext fun x => congrArg (Y r) (eq_ix1 x).symm)).symm)
  iexact H

/-- The arrays of the call are what the two cores are handed. -/
theorem call_deal (g : Vec F S1024x256 .f32) :
    (iprop(((d.tc.loc main_arg9 ↦{fullShare} T4 d) ∗ (d.tc.loc main_arg10 ↦{fullShare} T5 d) ∗ (d.tc.loc main_arg11 ↦{fullShare} T6 d))
        ∗ ((d.tc.loc main_v7 ↦{fullShare} IDX d) ∗ (d.tc.loc main_v2 ↦{fullShare} X2 d)) ∗ (d.tc.loc main_v8 ↦{fullShare} g)) : sProp 𝕄)
      ⊢ bigSep Finset.univ fun c : Fin 2 => CGO IDX X2 T4 T5 T6 d c := by
  have h : (bigSep Finset.univ fun c : Fin 2 => CGO IDX X2 T4 T5 T6 d c : sProp 𝕄)
      = iprop(tiles (TAB T4 T5 T6 d) ∗ tiles (INP IDX X2 (Finset.range 32) d) ∗ tiles (OUT (F := F) d)) := by
    rw [← tiles_sep, ← tiles_sep]
    unfold CGO GO
    rw [← Finset.range_eq_Ico]
  rw [h, ← tab_deal, ← inp_deal]
  iintro ⟨H1, H2, H3⟩
  isplitl [H1]; · iexact H1
  isplitl [H2]; · iexact H2
  iapply (out_deal d g); iexact H3

/-- What the two cores bring back is the arrays, the scores among them. -/
theorem call_join :
    (bigSep Finset.univ fun c : Fin 2 => CTD IDX X2 T4 T5 T6 d c : sProp 𝕄)
      ⊢ ∃ g : Vec F S1024x256 .f32, ⌜∀ (r : Fin 1024) (a : Fin 200), g (ix2 r ⟨a.val, by omega⟩) = sc IDX X2 T4 T5 T6 d r a⌝
        ∗ ((d.tc.loc main_arg9 ↦{fullShare} T4 d) ∗ (d.tc.loc main_arg10 ↦{fullShare} T5 d) ∗ (d.tc.loc main_arg11 ↦{fullShare} T6 d))
        ∗ ((d.tc.loc main_v7 ↦{fullShare} IDX d) ∗ (d.tc.loc main_v2 ↦{fullShare} X2 d)) ∗ (d.tc.loc main_v8 ↦{fullShare} g) := by
  have h : (bigSep Finset.univ fun c : Fin 2 => CTD IDX X2 T4 T5 T6 d c : sProp 𝕄)
      = iprop(tiles (TAB T4 T5 T6 d) ∗ tiles (INP IDX X2 (Finset.range 32) d) ∗ tiles (DNE IDX X2 T4 T5 T6 d)) := by
    rw [← tiles_sep, ← tiles_sep]
    rfl
  rw [h, ← tab_deal, ← inp_deal]
  iintro ⟨H1, H2, H3⟩
  ihave H := (dne_join IDX X2 T4 T5 T6 d) $$ H3
  icases H with ⟨%g, %hg, H3⟩
  iexists g
  isplitr; · ipureintro; exact hg
  isplitl [H1]; · iexact H1
  isplitl [H2]; · iexact H2
  iexact H3

end Arrays

end Cert.Proof
-- ==== Proof.Tc.lean ====
/-
  What the two TensorCore regions share: the store of a whole buffer, the state they run in, the bound on the recorded waits.
-/
module

public import proofs.«01_k».proof.Proof.Pay
public import Idealize.ShloMosaic.Lib.Pipeline.FrameTail
public import Idealize.ShloMosaic.Lib.Pipeline.Value
public import Idealize.ShloMosaic.Lib.Pipeline.ValueKit.Geometry
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

open Idealize.ShloMosaic.TcCoe
open Idealize.ShloMosaic.Pipeline (Dat Cfg Window BodyObligation cellOf)

theorem off2 : (![0, 0] : Fin 2 → Nat) = fun _ => 0 := funext fun a => by fin_cases a <;> rfl

section Store

variable {nD : Nat} {τ : Topo} {sig : RefSig} {Ix : Type} [DecidableEq Ix] {Val : EltTy → Type} {Name : Type} [DecidableEq Name]
variable {U : Type} [URA U] {Lvl : Type} [Preorder Lvl] {Λ : Labels} {defs : Defs nD τ sig Val Λ}
variable (𝒱 : Variants) (c : Thread nD τ) (bd : Option 𝒱.V) {α : Type} {Q : α → sProp (MT nD τ sig Ix Val Name U Lvl)}

/-- A store over the whole of an owned buffer leaves it owned at what was stored. -/
theorem wp_store_all {cs : CoreSpace} {s : Shape} {e : EltTy} {m : Memref sig c.2.kind cs s e} {off : Fin s.rank → Nat} (hz : off = fun _ => 0)
    {inb : ∀ a, off a + s.size a ≤ s.size a} {w : s.Idx → Val e} {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {X : s.Idx → Val e} :
    (owns c m fullShare X : sProp (MT nD τ sig Ix Val Name U Lvl))
      ⊢ iprop((owns c m fullShare w -∗ wp frame (wpE defs 𝒱 c bd) Set.univ (k ⟨⟩) Q)
        -∗ wp frame (wpE defs 𝒱 c bd) Set.univ (Prog.lift (.store m (Rect.unit off s.size inb) w Finset.univ hx hm) >>= k) Q) := by
  subst hz
  iintro H Hk
  unfold owns
  icases H with ⟨%f, %hf, H⟩
  iapply (wp_store (defs := defs) 𝒱 c bd Set.univ (m := m) (r := Rect.whole s) (w := w) (Mk := Finset.univ) (hx := hx) (hm := hm) (k := k) (f := f) (S := m.view.set)
    (by rw [← set_access_whole]; exact View.setOn_subset_set _ _)) $$ H
  iintro H
  iapply Hk
  iexists ((m.access (Rect.whole s)).write Val f w Finset.univ)
  isplitr; · ipureintro; exact read_write_access_whole m f w
  iexact H

end Store

section Regions

variable [FloatOps F]

/-- The waits the host's thread may have recorded before call `n`. -/
def Below (d : Dev nD) (n : ℕ) : Set (SemLoc sig × HIx 1) := {p | (K (F := F)).lev (T d, p.1) p.2 ≤ 8 * n}

omit [FloatOps F] in
/-- What the host owes at a call is never at a kernel's own index. -/
theorem Otc_none (d : Dev nD) (n : ℕ) (g : GSem nD τ sig) : (K (F := F)).Otc d n g none = 0 := by
  by_contra h
  have h1 := SparseCore.Cfg.lev_of_Otc_pos (K := K (F := F)) (Nat.pos_of_ne_zero h)
  rw [SparseCore.Cfg.lev_none] at h1
  omega

/-- The thread's state around a region: what it owes, its recorded waits bounded. -/
def HO (d : Dev nD) (n : ℕ) : sProp 𝕄 := iprop(∃ W, ⌜(K (F := F)).WBelow (T d) W (8 * n)⌝ ∗ owes (T d) ((K (F := F)).Otc d n) W)

/-- The proof data of a pipeline another region runs. -/
def otherDat [∀ e, Nonempty (Elt F e)] {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

abbrev adm0 : (p : Fin 2) → (pcfgs (F := F) p).Adm := fun p => (cfgs p).toPCfg_adm

end Regions

end Cert.Proof

end
-- ==== Proof.Mlp.lean ====
/-
  The first TensorCore region, the two-layer map: its body run, its proof data, the region over the thread's state.
-/
module

public import proofs.«01_k».proof.Proof.Tc

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

open Idealize.ShloMosaic.TcCoe
open Idealize.ShloMosaic.Pipeline (Dat Cfg Window BodyObligation cellOf)

section Mlp

variable [FloatOps F]

/-! ## The body -/

/-- The map's program, from its five inputs owned and its output owned, leaves the output at the map of the inputs. -/
theorem mlp_wp (c : Dev nD) {m0 : Memref sig .tc .vmem S1024x128 .f32} {h0 : m0.IsWhole} {m1 : Memref sig .tc .vmem S384x128 .f32} {h1 : m1.IsWhole}
    {m2 : Memref sig .tc .vmem S1x384 .f32} {h2 : m2.IsWhole} {m3 : Memref sig .tc .vmem S384x384 .f32} {h3 : m3.IsWhole}
    {m4 : Memref sig .tc .vmem S1x384 .f32} {h4 : m4.IsWhole} {m5 : Memref sig .tc .vmem S1024x384 .f32} {h5 : m5.IsWhole}
    (X0 : Vec F S1024x128 .f32) (X1 : Vec F S384x128 .f32) (X2 : Vec F S1x384 .f32) (X3 : Vec F S384x384 .f32) (X4 : Vec F S1x384 .f32)
    (X5 : Vec F S1024x384 .f32) (Q : PUnit → sProp 𝕄) :
    iprop(owns (c : Thread nD τ) m0 fullShare X0 ∗ owns (c : Thread nD τ) m1 fullShare X1 ∗ owns (c : Thread nD τ) m2 fullShare X2
        ∗ owns (c : Thread nD τ) m3 fullShare X3 ∗ owns (c : Thread nD τ) m4 fullShare X4 ∗ owns (c : Thread nD τ) m5 fullShare X5
        ∗ (iprop(owns (c : Thread nD τ) m0 fullShare X0 ∗ owns (c : Thread nD τ) m1 fullShare X1 ∗ owns (c : Thread nD τ) m2 fullShare X2
          ∗ owns (c : Thread nD τ) m3 fullShare X3 ∗ owns (c : Thread nD τ) m4 fullShare X4 ∗ owns (c : Thread nD τ) m5 fullShare (k0_pay1 X0 X1 X2 X3 X4)) -∗ Q ⟨⟩))
      ⊢ wp frame (wpE (defs₀ (F := F)) 𝒱₀ (c : Thread nD τ) none) Set.univ (cc0__mlp_body m0 h0 m1 h1 m2 h2 m3 h3 m4 h4 m5 h5) Q := by
  rw [cc0__mlp_body_eq_skeleton]
  unfold cc0__mlp_body_skel
  iintro ⟨H0, H1, H2, H3, H4, H5, Hk⟩
  iapply (wp_load_owns 𝒱₀ (c : Thread nD τ) none (X := X0)) $$ H0
  iintro H0
  iapply (wp_load_owns 𝒱₀ (c : Thread nD τ) none (X := X1)) $$ H1
  iintro H1
  iapply (wp_load_owns 𝒱₀ (c : Thread nD τ) none (X := X2)) $$ H2
  iintro H2
  iapply (wp_load_owns 𝒱₀ (c : Thread nD τ) none (X := X3)) $$ H3
  iintro H3
  iapply (wp_load_owns 𝒱₀ (c : Thread nD τ) none (X := X4)) $$ H4
  iintro H4
  iapply (wp_load_owns 𝒱₀ (c : Thread nD τ) none (X := X5)) $$ H5
  iintro H5
  iapply (wp_store_all 𝒱₀ (c : Thread nD τ) none (X := X5) off2) $$ H5
  iintro H5
  sl_step
  iapply Hk
  isplitl [H0]; · iexact H0
  isplitl [H1]; · iexact H1
  isplitl [H2]; · iexact H2
  isplitl [H3]; · iexact H3
  isplitl [H4]; · iexact H4
  rw [View.ld_unit_zero off2, View.ld_unit_zero off2, View.ld_unit_zero off2, View.ld_unit_zero off2, View.ld_unit_zero off2]
  iexact H5

/-! ## The proof data -/

variable (Vl : Dev nD → Valuation τ sig (Elt F))

/-- The map of the entry contents. -/
def mlpOf (c : Dev nD) : Vec F S1024x384 .f32 :=
  k0_pay1 (Vl c main_arg0) (Vl c main_arg5) (Vl c main_v0) (Vl c main_arg7) (Vl c main_v1)

/-- The first region's proof data, entered at the contents `Vl`. -/
def dat0 (c : Dev nD) : Dat τ (Elt F) (HIx 1) ℕ UU ℕ cfg0 c where
  A w := Vl c (Pipeline.arrRef spec0 w)
  after w _ := match w with
    | ⟨0, _⟩ => Vl c main_arg0
    | ⟨1, _⟩ => Vl c main_arg5
    | ⟨2, _⟩ => Vl c main_v0
    | ⟨3, _⟩ => Vl c main_arg7
    | ⟨4, _⟩ => Vl c main_v1
    | ⟨5, _⟩ => mlpOf Vl c
  Φ _ := Pipeline.scopedRest spec0 c
  q _ := fullShare
  owed _ := (K (F := F)).Otc c 0
  recorded _ := Below (F := F) c 0

theorem before0_0 (c : Dev nD) (d) : (dat0 Vl c).before 0 t0_0 d = Vl c main_arg0 := by
  unfold Dat.before
  rw [if_pos (by decide)]
  funext y
  show ((cfg0.win 0).blk t0_0).view.read (Elt F) (Vl c main_arg0) y = Vl c main_arg0 y
  have e : win0_0.index t0_0 = ![0, 0] := by decide +kernel
  blk_simp
  congr 1
  blk_ext [e]
theorem before0_1 (c : Dev nD) (d) : (dat0 Vl c).before 1 t0_0 d = Vl c main_arg5 := by
  unfold Dat.before
  rw [if_pos (by decide)]
  funext y
  show ((cfg0.win 1).blk t0_0).view.read (Elt F) (Vl c main_arg5) y = Vl c main_arg5 y
  have e : win0_1.index t0_0 = ![0, 0] := by decide +kernel
  blk_simp
  congr 1
  blk_ext [e]
theorem before0_2 (c : Dev nD) (d) : (dat0 Vl c).before 2 t0_0 d = Vl c main_v0 := by
  unfold Dat.before
  rw [if_pos (by decide)]
  funext y
  show ((cfg0.win 2).blk t0_0).view.read (Elt F) (Vl c main_v0) y = Vl c main_v0 y
  have e : win0_2.index t0_0 = ![0, 0] := by decide +kernel
  blk_simp
  congr 1
  blk_ext [e]
theorem before0_3 (c : Dev nD) (d) : (dat0 Vl c).before 3 t0_0 d = Vl c main_arg7 := by
  unfold Dat.before
  rw [if_pos (by decide)]
  funext y
  show ((cfg0.win 3).blk t0_0).view.read (Elt F) (Vl c main_arg7) y = Vl c main_arg7 y
  have e : win0_3.index t0_0 = ![0, 0] := by decide +kernel
  blk_simp
  congr 1
  blk_ext [e]
theorem before0_4 (c : Dev nD) (d) : (dat0 Vl c).before 4 t0_0 d = Vl c main_v1 := by
  unfold Dat.before
  rw [if_pos (by decide)]
  funext y
  show ((cfg0.win 4).blk t0_0).view.read (Elt F) (Vl c main_v1) y = Vl c main_v1 y
  have e : win0_4.index t0_0 = ![0, 0] := by decide +kernel
  blk_simp
  congr 1
  blk_ext [e]

theorem obligation0 (c : Dev nD) : BodyObligation (dat0 Vl c) (defs₀ (F := F)) 𝒱₀ (none : HIx 1) Set.univ := fun t => by
  obtain rfl := fin_N0 t
  rw [bigSep_W0, bigSep_W0]
  rw [show (dat0 Vl c).Φ t0_0.castSucc = Pipeline.scopedRest spec0 c from rfl, show (dat0 Vl c).Φ t0_0.succ = Pipeline.scopedRest spec0 c from rfl,
    show (dat0 Vl c).owesAt (none : HIx 1) t0_0.succ = (dat0 Vl c).owesAt none t0_0.castSucc from rfl]
  dsimp only
  simp only [before0_0, before0_1, before0_2, before0_3, before0_4]
  iintro ⟨HΦ, Howes, ⟨%d0, H0⟩, ⟨%d1, H1⟩, ⟨%d2, H2⟩, ⟨%d3, H3⟩, ⟨%d4, H4⟩, ⟨%d5, H5⟩⟩
  iapply (mlp_wp (h0 := hstage0_0 0) (h1 := hstage0_1 0) (h2 := hstage0_2 0) (h3 := hstage0_3 0) (h4 := hstage0_4 0) (h5 := hstage0_5 0) c (Vl c main_arg0) (Vl c main_arg5) (Vl c main_v0) (Vl c main_arg7) (Vl c main_v1) _ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

/-- The region's result. -/
theorem final0 (c : Dev nD) : (dat0 Vl c).arrAt 5 cfg0.N = mlpOf Vl c := by
  refine (dat0 Vl c).arrAt_eq_of_covers 5 _ (by decide +kernel) fun t hf y => ?_
  obtain rfl := fin_N0 t
  blk_simp
  show mlpOf Vl c y = _
  congr 1
  have e : win0_5.index t0_0 = ![0, 0] := by decide +kernel
  blk_ext [e]

/-! ## The region -/

/-- The proof data of both pipelines, the first's of use here. -/
def dats0 [∀ e, Nonempty (Elt F e)] : (p : Fin 2) → (c : Dev nD) → Dat τ (Elt F) (HIx 1) ℕ UU ℕ (Pipeline.pin (pcfgs (F := F)) adm0 p) c
  | ⟨0, _⟩ => fun c => dat0 Vl c
  | ⟨1, _⟩ => fun c => otherDat c

/-- The contents after the region. -/
def after0 (c : Dev nD) : Valuation τ sig (Elt F) := Pipeline.afterRegion (dat0 Vl c) (Vl c)

theorem after0_out (c : Dev nD) : after0 Vl c main_v2 = mlpOf Vl c :=
  (Pipeline.afterRegion_arr (dat0 Vl c) (Vl c) winFacts0.arr_inj 5).trans (final0 Vl c)

theorem after0_in (c : Dev nD) (w : Fin cfg0.W) (hw : (cfg0.win w).isOut = false) :
    after0 Vl c (Pipeline.arrRef cfg0.spec w) = Vl c (Pipeline.arrRef cfg0.spec w) :=
  (Pipeline.afterRegion_arr (dat0 Vl c) (Vl c) winFacts0.arr_inj w).trans ((dat0 Vl c).arrAt_in w hw _)

theorem after0_ne (c : Dev nD) {b : Ref sig .tc} (hb : ∀ w, b ≠ Pipeline.arrRef cfg0.spec w) : after0 Vl c b = Vl c b :=
  Pipeline.afterRegion_of_not_arr (dat0 Vl c) (Vl c) hb

set_option backward.isDefEq.respectTransparency.types false in
/-- The first region, entered at any contents of the host's buffers and left at those with its result in place. -/
def reg0 [∀ e, Nonempty (Elt F e)] (R : Dev nD → sProp 𝕄) :
    Pipeline.RegionSeg (pcfgs (F := F)) adm0 (dats0 Vl) (none : HIx 1) defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (obligation0 Vl c).loose
  hwaits c := Pipeline.cellsWaits_intro _ _ _ _ c fun w s t => (K (F := F)).mayWait_none _ (Otc_none c 0)
  pre c := iprop(StableHlo.held (c : Thread nD τ) (Pipeline.ucRefs τ sig) (Vl c) ∗ R c ∗ HO (F := F) c 0)
  post c := iprop(StableHlo.held (c : Thread nD τ) (Pipeline.ucRefs τ sig) (after0 Vl c) ∗ R c ∗ HO (F := F) c 0)
  X _ := BI.emp
  Y _ := BI.emp
  Z c := iprop(Pipeline.unscopedRest spec0 c (fun b => Vl c b) ∗ R c)
  hentry c := by
    rw [Pipeline.ownSems0_none, ← Pipeline.unscopedBufs_held]
    have hsplit := Pipeline.arrays_of_unscopedBufs (p := 0) (pcfgs (F := F)) adm0 (dats0 Vl) launch0.win launch0.arr_whole c
      ((dats0 Vl 0 c).share_full fun _ => rfl) (fun b => Vl c b) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold HO Pipeline.Dat.owesAt Pipeline.owesWithin
      icases HO with ⟨%W, %hW, HO⟩
      iexists W
      isplitr
      · ipureintro; exact fun p hp => Or.inl (hW p hp)
      iexact HO
    isplitr; · iempintro
    isplitl [Hrest] <;> iassumption
  hin c := by
    rw [show (dats0 Vl 0 c).Φ 0 = Pipeline.scopedRest spec0 c from rfl]
    iintro ⟨-, -, Hr⟩; iexact Hr
  hout c := by
    rw [Pipeline.ownSems0_none, show (dats0 Vl 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm0 (Ix := HIx 1) (Name := ℕ) (U := UU) (Lvl := ℕ) launch0.win launch0.arr_whole c
      (dats0 Vl) ((dats0 Vl 0 c).share_full fun _ => rfl) (fun b => Vl c b) (fun b => after0 Vl c b) ((dats0 Vl 0 c).arrAt · cfg0.N)
      (fun w => (Pipeline.afterRegion_arr (dat0 Vl c) (Vl c) winFacts0.arr_inj w).symm)
      (fun b hb => after0_ne Vl c fun w h => hb (h ▸ Finset.mem_image.mpr ⟨w, Finset.mem_univ _, rfl⟩))
    rw [← Pipeline.unscopedBufs_held]
    iintro ⟨Ha, HO, -, Hrest, HR⟩
    imodintro
    isplitl [Ha Hrest]
    · iapply hjoin; isplitl [Ha] <;> iassumption
    isplitl [HR]; · iexact HR
    unfold HO Pipeline.Dat.owesAt Pipeline.owesWithin
    icases HO with ⟨%W, %hW, HO⟩
    iexists W
    isplitr
    · ipureintro
      intro p hp
      rcases hW hp with h | ⟨w, s, rfl⟩
      · exact h
      · exact Nat.zero_le _
    iexact HO

end Mlp

end Cert.Proof

end
-- ==== Proof.Smx.lean ====
/-
  The second TensorCore region, the softmax and its entropy: its body run, its proof data, the region over the thread's state.
-/
module

public import proofs.«01_k».proof.Proof.Tc

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

open Idealize.ShloMosaic.TcCoe
open Idealize.ShloMosaic.Pipeline (Dat Cfg Window BodyObligation cellOf)

section Smx

variable [FloatOps F]

/-! ## The body -/

/-- The part of the scores the body loads: the columns that hold one. -/
abbrev cols (X : Vec F S1024x256 .f32) : Vec F S1024x200 .f32 :=
  View.ld X (Rect.unit (s := S1024x256) ![0, 0] S1024x200.size inb_S1024x256_S1024x200_0_0)

/-- The program, from its two inputs owned and its outputs owned, leaves the outputs at the softmax of the inputs and its entropy. -/
theorem smx_wp (c : Dev nD) {m0 : Memref sig .tc .vmem S1024x256 .f32} {h0 : m0.IsWhole} {m1 : Memref sig .tc .vmem S1024x200 .f32} {h1 : m1.IsWhole}
    {m2 : Memref sig .tc .vmem S1024x200 .f32} {h2 : m2.IsWhole} {m3 : Memref sig .tc .vmem S1024x1 .f32} {h3 : m3.IsWhole}
    (X0 : Vec F S1024x256 .f32) (X1 X2 : Vec F S1024x200 .f32) (X3 : Vec F S1024x1 .f32) (Q : PUnit → sProp 𝕄) :
    iprop(owns (c : Thread nD τ) m0 fullShare X0 ∗ owns (c : Thread nD τ) m1 fullShare X1 ∗ owns (c : Thread nD τ) m2 fullShare X2
        ∗ owns (c : Thread nD τ) m3 fullShare X3
        ∗ (iprop(owns (c : Thread nD τ) m0 fullShare X0 ∗ owns (c : Thread nD τ) m1 fullShare X1
          ∗ owns (c : Thread nD τ) m2 fullShare (k2_pay1 (cols X0) X1) ∗ owns (c : Thread nD τ) m3 fullShare (k2_pay2 (cols X0) X1)) -∗ Q ⟨⟩))
      ⊢ wp frame (wpE (defs₀ (F := F)) 𝒱₀ (c : Thread nD τ) none) Set.univ (cc2__smx_body m0 h0 m1 h1 m2 h2 m3 h3) Q := by
  rw [cc2__smx_body_eq_skeleton]
  unfold cc2__smx_body_skel
  iintro ⟨H0, H1, H2, H3, Hk⟩
  iapply (wp_load_owns 𝒱₀ (c : Thread nD τ) none (X := X0)) $$ H0
  iintro H0
  iapply (wp_load_owns 𝒱₀ (c : Thread nD τ) none (X := X1)) $$ H1
  iintro H1
  iapply (wp_load_owns 𝒱₀ (c : Thread nD τ) none (X := X2)) $$ H2
  iintro H2
  iapply (wp_store_all 𝒱₀ (c : Thread nD τ) none (X := X2) off2) $$ H2
  iintro H2
  iapply (wp_load_owns 𝒱₀ (c : Thread nD τ) none (X := X3)) $$ H3
  iintro H3
  iapply (wp_store_all 𝒱₀ (c : Thread nD τ) none (X := X3) off2) $$ H3
  iintro H3
  sl_step
  iapply Hk
  isplitl [H0]; · iexact H0
  isplitl [H1]; · iexact H1
  rw [View.ld_unit_zero off2]
  isplitl [H2]; · iexact H2
  iexact H3

/-! ## The proof data -/

variable (Vl : Dev nD → Valuation τ sig (Elt F))

/-- The softmax of the entry contents, and its entropy. -/
def smxOf (c : Dev nD) : Vec F S1024x200 .f32 := k2_pay1 (cols (Vl c main_v8)) (Vl c main_arg4)
def entOf (c : Dev nD) : Vec F S1024x1 .f32 := k2_pay2 (cols (Vl c main_v8)) (Vl c main_arg4)

/-- The second region's proof data, entered at the contents `Vl`. -/
def dat2 (c : Dev nD) : Dat τ (Elt F) (HIx 1) ℕ UU ℕ cfg2 c where
  A w := Vl c (Pipeline.arrRef spec2 w)
  after w _ := match w with
    | ⟨0, _⟩ => Vl c main_v8
    | ⟨1, _⟩ => Vl c main_arg4
    | ⟨2, _⟩ => smxOf Vl c
    | ⟨3, _⟩ => entOf Vl c
  Φ _ := Pipeline.scopedRest spec2 c
  q _ := fullShare
  owed _ := (K (F := F)).Otc c 1
  recorded _ := Below (F := F) c 1

theorem before2_0 (c : Dev nD) (d) : (dat2 Vl c).before 0 t2_0 d = Vl c main_v8 := by
  unfold Dat.before
  rw [if_pos (by decide)]
  funext y
  show ((cfg2.win 0).blk t2_0).view.read (Elt F) (Vl c main_v8) y = Vl c main_v8 y
  have e : win2_0.index t2_0 = ![0, 0] := by decide +kernel
  blk_simp
  congr 1
  blk_ext [e]
theorem before2_1 (c : Dev nD) (d) : (dat2 Vl c).before 1 t2_0 d = Vl c main_arg4 := by
  unfold Dat.before
  rw [if_pos (by decide)]
  funext y
  show ((cfg2.win 1).blk t2_0).view.read (Elt F) (Vl c main_arg4) y = Vl c main_arg4 y
  have e : win2_1.index t2_0 = ![0, 0] := by decide +kernel
  blk_simp
  congr 1
  blk_ext [e]

theorem obligation2 (c : Dev nD) : BodyObligation (dat2 Vl c) (defs₀ (F := F)) 𝒱₀ (none : HIx 1) Set.univ := fun t => by
  obtain rfl := fin_N2 t
  rw [bigSep_W2, bigSep_W2]
  rw [show (dat2 Vl c).Φ t2_0.castSucc = Pipeline.scopedRest spec2 c from rfl, show (dat2 Vl c).Φ t2_0.succ = Pipeline.scopedRest spec2 c from rfl,
    show (dat2 Vl c).owesAt (none : HIx 1) t2_0.succ = (dat2 Vl c).owesAt none t2_0.castSucc from rfl]
  dsimp only
  simp only [before2_0, before2_1]
  iintro ⟨HΦ, Howes, ⟨%d0, H0⟩, ⟨%d1, H1⟩, ⟨%d2, H2⟩, ⟨%d3, H3⟩⟩
  iapply (smx_wp (h0 := hstage2_0 0) (h1 := hstage2_1 0) (h2 := hstage2_2 0) (h3 := hstage2_3 0) c (Vl c main_v8) (Vl c main_arg4) _ _ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-- The region's two results. -/
theorem final2 (c : Dev nD) : (dat2 Vl c).arrAt 2 cfg2.N = smxOf Vl c := by
  refine (dat2 Vl c).arrAt_eq_of_covers 2 _ (by decide +kernel) fun t hf y => ?_
  obtain rfl := fin_N2 t
  blk_simp
  show smxOf Vl c y = _
  congr 1
  have e : win2_2.index t2_0 = ![0, 0] := by decide +kernel
  blk_ext [e]
theorem final2' (c : Dev nD) : (dat2 Vl c).arrAt 3 cfg2.N = entOf Vl c := by
  refine (dat2 Vl c).arrAt_eq_of_covers 3 _ (by decide +kernel) fun t hf y => ?_
  obtain rfl := fin_N2 t
  blk_simp
  show entOf Vl c y = _
  congr 1
  have e : win2_3.index t2_0 = ![0, 0] := by decide +kernel
  blk_ext [e]

/-! ## The region -/

/-- The proof data of both pipelines, the second's of use here. -/
def dats2 [∀ e, Nonempty (Elt F e)] : (p : Fin 2) → (c : Dev nD) → Dat τ (Elt F) (HIx 1) ℕ UU ℕ (Pipeline.pin (pcfgs (F := F)) adm0 p) c
  | ⟨0, _⟩ => fun c => otherDat c
  | ⟨1, _⟩ => fun c => dat2 Vl c

/-- The contents after the region. -/
def after2 (c : Dev nD) : Valuation τ sig (Elt F) := Pipeline.afterRegion (dat2 Vl c) (Vl c)

theorem after2_out (c : Dev nD) : after2 Vl c main_v9_0 = smxOf Vl c :=
  (Pipeline.afterRegion_arr (dat2 Vl c) (Vl c) winFacts2.arr_inj 2).trans (final2 Vl c)

theorem after2_out' (c : Dev nD) : after2 Vl c main_v9_1 = entOf Vl c :=
  (Pipeline.afterRegion_arr (dat2 Vl c) (Vl c) winFacts2.arr_inj 3).trans (final2' Vl c)

theorem after2_in (c : Dev nD) (w : Fin cfg2.W) (hw : (cfg2.win w).isOut = false) :
    after2 Vl c (Pipeline.arrRef cfg2.spec w) = Vl c (Pipeline.arrRef cfg2.spec w) :=
  (Pipeline.afterRegion_arr (dat2 Vl c) (Vl c) winFacts2.arr_inj w).trans ((dat2 Vl c).arrAt_in w hw _)

theorem after2_ne (c : Dev nD) {b : Ref sig .tc} (hb : ∀ w, b ≠ Pipeline.arrRef cfg2.spec w) : after2 Vl c b = Vl c b :=
  Pipeline.afterRegion_of_not_arr (dat2 Vl c) (Vl c) hb

set_option backward.isDefEq.respectTransparency.types false in
/-- The second region, entered at any contents of the host's buffers and left at those with its two results in place. -/
def reg2 [∀ e, Nonempty (Elt F e)] (R : Dev nD → sProp 𝕄) :
    Pipeline.RegionSeg (pcfgs (F := F)) adm0 (dats2 Vl) (none : HIx 1) defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (obligation2 Vl c).loose
  hwaits c := Pipeline.cellsWaits_intro _ _ _ _ c fun w s t => (K (F := F)).mayWait_none _ (Otc_none c 1)
  pre c := iprop(StableHlo.held (c : Thread nD τ) (Pipeline.ucRefs τ sig) (Vl c) ∗ R c ∗ HO (F := F) c 1)
  post c := iprop(StableHlo.held (c : Thread nD τ) (Pipeline.ucRefs τ sig) (after2 Vl c) ∗ R c ∗ HO (F := F) c 1)
  X _ := BI.emp
  Y _ := BI.emp
  Z c := iprop(Pipeline.unscopedRest spec2 c (fun b => Vl c b) ∗ R c)
  hentry c := by
    rw [Pipeline.ownSems0_none, ← Pipeline.unscopedBufs_held]
    have hsplit := Pipeline.arrays_of_unscopedBufs (p := 1) (pcfgs (F := F)) adm0 (dats2 Vl) launch2.win launch2.arr_whole c
      ((dats2 Vl 1 c).share_full fun _ => rfl) (fun b => Vl c b) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold HO Pipeline.Dat.owesAt Pipeline.owesWithin
      icases HO with ⟨%W, %hW, HO⟩
      iexists W
      isplitr
      · ipureintro; exact fun p hp => Or.inl (hW p hp)
      iexact HO
    isplitr; · iempintro
    isplitl [Hrest] <;> iassumption
  hin c := by
    rw [show (dats2 Vl 1 c).Φ 0 = Pipeline.scopedRest spec2 c from rfl]
    iintro ⟨-, -, Hr⟩; iexact Hr
  hout c := by
    rw [Pipeline.ownSems0_none, show (dats2 Vl 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm0 (Ix := HIx 1) (Name := ℕ) (U := UU) (Lvl := ℕ) launch2.win launch2.arr_whole c
      (dats2 Vl) ((dats2 Vl 1 c).share_full fun _ => rfl) (fun b => Vl c b) (fun b => after2 Vl c b) ((dats2 Vl 1 c).arrAt · cfg2.N)
      (fun w => (Pipeline.afterRegion_arr (dat2 Vl c) (Vl c) winFacts2.arr_inj w).symm)
      (fun b hb => after2_ne Vl c fun w h => hb (h ▸ Finset.mem_image.mpr ⟨w, Finset.mem_univ _, rfl⟩))
    rw [← Pipeline.unscopedBufs_held]
    iintro ⟨Ha, HO, -, Hrest, HR⟩
    imodintro
    isplitl [Ha Hrest]
    · iapply hjoin; isplitl [Ha] <;> iassumption
    isplitl [HR]; · iexact HR
    unfold HO Pipeline.Dat.owesAt Pipeline.owesWithin
    icases HO with ⟨%W, %hW, HO⟩
    iexists W
    isplitr
    · ipureintro
      intro p hp
      rcases hW hp with h | ⟨w, s, rfl⟩
      · exact h
      · exact Nat.zero_le _
    iexact HO

end Smx

end Cert.Proof

end
-- ==== Proof.Run.lean ====
/-
  The whole program: the host's operations, the two TensorCore regions and the SparseCore call in turn on the TensorCore,
  and the program's run with what its results hold.
-/
module

public import proofs.«01_k».proof.Proof.Split
public import proofs.«01_k».proof.Proof.Mlp
public import proofs.«01_k».proof.Proof.Smx

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

open Idealize.ShloMosaic.TcCoe

/-! ## The launch's ghost state -/

/-- The handshakes' rounds, in the machine's algebra; -/
def EH : Emb UH 𝕄 := (Emb.inl : Emb UH (UH × UP)).trans embL
/-- the pipelines' rounds. -/
def EP : Emb UP 𝕄 := (Emb.inr : Emb UP (UH × UP)).trans embL

instance EH_lands : (EH (F := F)).LandsIn (upEmb : UEmb _ 𝕄) := by unfold EH embL; infer_instance
instance EP_lands : (EP (F := F)).LandsIn (upEmb : UEmb _ 𝕄) := by unfold EP embL; infer_instance

theorem phinj : Function.Injective (Pipeline.cellOf (nD := nD) (τ := τ) (Pipeline.pin (pcfgs (F := F)) adm0)) := cellOf_inj

/-- A region's ghost state on a core. -/
def GH (p : Fin 2) (d : Dev nD) : sProp 𝕄 :=
  iprop(Pipeline.cellsGhost (Pipeline.pin (pcfgs (F := F)) adm0) EP p d ∗ Pipeline.toksInit (Pipeline.pin (pcfgs (F := F)) adm0) EP p d)

def u₀ : UU := ((initOf (K (F := F)).hsCells (K (F := F)).hsToks,
  initOf (Pipeline.cells (Pipeline.pin (pcfgs (F := F)) adm0) phinj) (Pipeline.launchToks (Pipeline.pin (pcfgs (F := F)) adm0) phinj)), 1)

theorem bigSep_fin2 {M : Type} [URA M] (Φ : Fin 2 → sProp M) : bigSep Finset.univ Φ = iprop(Φ 0 ∗ Φ 1) :=
  BI.bigSep_univ_eq_bigSepL [0, 1] (by decide) (by decide) Φ

section Launch

variable [FloatOps F]

theorem hu₀ (P : (K (F := F)).Pay (nD := nD) (Val := Elt F) (Name := ℕ) (U := UU)) (hx : ∀ q thr, P.x q thr = iprop(emp)) : (ownU (u₀ (F := F)) : sProp 𝕄)
    ⊢ |={Set.univ}=> iprop(BI.own (EH (initOf (K (F := F)).hsCells (K (F := F)).hsToks)) ∗ (bigSep Finset.univ fun d : Dev nD => iprop(GH (F := F) 0 d ∗ GH (F := F) 1 d))
        ∗ bigSep Finset.univ fun thr : Thread nD τ => bigSep Finset.univ fun q : Fin 1 => P.x q thr) := by
  unfold u₀
  iintro Hu
  ihave H := (ownU_pair _ _) $$ Hu
  icases H with ⟨H, -⟩
  ihave H' := (show BI.own (embL (initOf (K (F := F)).hsCells (K (F := F)).hsToks, initOf (Pipeline.cells (Pipeline.pin (pcfgs (F := F)) adm0) phinj) (Pipeline.launchToks (Pipeline.pin (pcfgs (F := F)) adm0) phinj)))
      ⊢ (iprop(BI.own (EH (initOf (K (F := F)).hsCells (K (F := F)).hsToks)) ∗ BI.own (EP (initOf (Pipeline.cells (Pipeline.pin (pcfgs (F := F)) adm0) phinj) (Pipeline.launchToks (Pipeline.pin (pcfgs (F := F)) adm0) phinj)))) : sProp 𝕄)
      from own_pair_emb _ _ _) $$ H
  icases H' with ⟨HH, HP⟩
  imod (Pipeline.fund_ghost (Pipeline.pin (pcfgs (F := F)) adm0) EP phinj) $$ HP with ⟨Hg, Ht⟩
  imodintro
  isplitl [HH]; · iexact HH
  isplitl [Hg Ht]
  · have h : (bigSep Finset.univ fun d : Dev nD => iprop(GH (F := F) 0 d ∗ GH (F := F) 1 d) : sProp 𝕄)
        = iprop((bigSep Finset.univ fun c : Dev nD => bigSep Finset.univ fun p => Pipeline.cellsGhost (Pipeline.pin (pcfgs (F := F)) adm0) EP p c)
          ∗ (bigSep Finset.univ fun c : Dev nD => bigSep Finset.univ fun p => Pipeline.toksInit (Pipeline.pin (pcfgs (F := F)) adm0) EP p c)) := by
      rw [← bigSep_sep']
      refine bigSep_congr fun d _ => ?_
      rw [← bigSep_sep', bigSep_fin2]; rfl
    iapply (Entails.of_eq h.symm)
    isplitl [Hg] <;> iassumption
  rw [show (bigSep Finset.univ fun thr : Thread nD τ => bigSep Finset.univ fun q : Fin 1 => P.x q thr) = bigSep Finset.univ fun _ => iprop(emp) from
    bigSep_congr fun _ _ => (bigSep_univ_of_subsingleton (0 : Fin 1)).trans (hx _ _)]
  iapply (Entails.of_eq (bigSep_emp_const (Finset.univ : Finset (Thread nD τ)) : (bigSep Finset.univ fun _ : Thread nD τ => iprop(emp) : sProp 𝕄) = iprop(emp)).symm)
  iempintro

/-! ## The steps of @main -/

variable [∀ e, Nonempty (Elt F e)]

/-- A weakest precondition on the TensorCore. -/
abbrev wpM (d : Dev nD) {α : Type} (p : Prog (TpuEff nD τ sig (Elt F) (SparseCore.Sig (Pipeline.Sig Λ₀ (Fin 2) fun p => (pcfgs (F := F) p).Adm) 1) .tc) α) (Q : α → sProp 𝕄) : sProp 𝕄 :=
  wp frame (wpE ((K (F := F)).defs (D (F := F))) 𝒱 (T d) none) Set.univ p Q

/-- The host's buffers of a device at contents `Vl`. -/
abbrev hb (d : Dev nD) (Vl : Valuation τ sig (Elt F)) : sProp 𝕄 := StableHlo.held (d.tc : Thread nD τ) (Pipeline.ucRefs τ sig) Vl

theorem line (d : Dev nD) (ops : List (HloOp τ sig (Elt F))) (hS : ∀ op ∈ ops, op.bufs ⊆ StableHlo.tcRefs τ sig) (hf : ∀ op ∈ ops, op.fresh = ∅)
    (Vl : Valuation τ sig (Elt F)) :
    iprop(boundary (T d) ∗ hb d Vl) ⊢ wpM d (StableHlo.seq ops) fun _ => iprop(boundary (T d) ∗ hb d (StableHlo.after ops Vl)) := by
  have h : wpM (F := F) d (StableHlo.seq ops) = wpM d (StableHlo.seq ops >>= Pure.pure) := by rw [bind_pure]
  rw [h]
  iintro H
  iapply (StableHlo.wp_seq 𝒱 none Set.univ d (Pipeline.ucRefs τ sig) Pure.pure ops (fun op h => Pipeline.sub_ucRefs op (hS op h)) hf Vl) $$ H
  iintro H
  rw [wp_pure]; imodintro; iexact H

theorem enter0 (d : Dev nD) (Q : PUnit → sProp 𝕄) :
    wp frame (wpE (D (F := F)) 𝒱 (T d) none) Set.univ (Prog.lift (.customCall (Pipeline.entry 0) ())) Q
      ⊢ wpM d (Prog.lift (.customCall (SparseCore.inner (Pipeline.entry 0)) ())) Q :=
  (K (F := F)).wp_liftProg (D (F := F)) 𝒱 (T d) Set.univ none (Prog.lift (.customCall (Pipeline.entry 0) ())) Q

theorem enter2 (d : Dev nD) (Q : PUnit → sProp 𝕄) :
    wp frame (wpE (D (F := F)) 𝒱 (T d) none) Set.univ (Prog.lift (.customCall (Pipeline.entry 1) ())) Q
      ⊢ wpM d (Prog.lift (.customCall (SparseCore.inner (Pipeline.entry 1)) ())) Q :=
  (K (F := F)).wp_liftProg (D (F := F)) 𝒱 (T d) Set.univ none (Prog.lift (.customCall (Pipeline.entry 1) ())) Q

theorem region0 (Vl : Dev nD → Valuation τ sig (Elt F)) (d : Dev nD) :
    iprop(levAts (K (F := F)).L (K (F := F)).lev ∗ boundary (T d) ∗ hb d (Vl d) ∗ HO d 0 ∗ GH 0 d)
      ⊢ wpM d (Prog.lift (.customCall (SparseCore.inner (Pipeline.entry 0)) ())) fun _ => iprop(boundary (T d) ∗ hb d (after0 Vl d) ∗ HO d 0) := by
  have h := (reg0 Vl (fun _ => iprop(emp))).wp (pcfgs (F := F)) adm0 (dats0 Vl) none phinj EP defs₀ 𝒱₀ (K (F := F)).L (K (F := F)).lev d none (fun _ h => nomatch h)
    Pure.pure (fun _ => iprop(boundary (T d) ∗ hb d (after0 Vl d) ∗ HO d 0))
  iintro ⟨#Hl, Hb, Hh, HO, HG⟩
  iapply (enter0 d _)
  iapply h
  isplitr
  · iintro ⟨Hb, H⟩
    icases (show (reg0 Vl (fun _ => iprop(emp))).post d ⊢ iprop(hb d (after0 Vl d) ∗ emp ∗ HO d 0) from .rfl) $$ H with ⟨Hh, -, HO⟩
    rw [wp_pure]; imodintro
    isplitl [Hb]; · iexact Hb
    isplitl [Hh] <;> iassumption
  isplitl [Hb]; · iexact Hb
  isplitl [Hh HO]
  · iapply (show iprop(hb d (Vl d) ∗ emp ∗ HO d 0) ⊢ (reg0 Vl (fun _ => iprop(emp))).pre d from .rfl)
    isplitl [Hh]; · iexact Hh
    isplitr; · iempintro
    iexact HO
  isplitr; · iexact Hl
  iapply (show GH 0 d ⊢ iprop(Pipeline.cellsGhost (Pipeline.pin (pcfgs (F := F)) adm0) EP 0 d ∗ Pipeline.toksInit (Pipeline.pin (pcfgs (F := F)) adm0) EP 0 d) from .rfl)
  iexact HG

theorem region2 (Vl : Dev nD → Valuation τ sig (Elt F)) (d : Dev nD) :
    iprop(levAts (K (F := F)).L (K (F := F)).lev ∗ boundary (T d) ∗ hb d (Vl d) ∗ HO d 1 ∗ GH 1 d)
      ⊢ wpM d (Prog.lift (.customCall (SparseCore.inner (Pipeline.entry 1)) ())) fun _ => iprop(boundary (T d) ∗ hb d (after2 Vl d) ∗ HO d 1) := by
  have h := (reg2 Vl (fun _ => iprop(emp))).wp (pcfgs (F := F)) adm0 (dats2 Vl) none phinj EP defs₀ 𝒱₀ (K (F := F)).L (K (F := F)).lev d none (fun _ h => nomatch h)
    Pure.pure (fun _ => iprop(boundary (T d) ∗ hb d (after2 Vl d) ∗ HO d 1))
  iintro ⟨#Hl, Hb, Hh, HO, HG⟩
  iapply (enter2 d _)
  iapply h
  isplitr
  · iintro ⟨Hb, H⟩
    icases (show (reg2 Vl (fun _ => iprop(emp))).post d ⊢ iprop(hb d (after2 Vl d) ∗ emp ∗ HO d 1) from .rfl) $$ H with ⟨Hh, -, HO⟩
    rw [wp_pure]; imodintro
    isplitl [Hb]; · iexact Hb
    isplitl [Hh] <;> iassumption
  isplitl [Hb]; · iexact Hb
  isplitl [Hh HO]
  · iapply (show iprop(hb d (Vl d) ∗ emp ∗ HO d 1) ⊢ (reg2 Vl (fun _ => iprop(emp))).pre d from .rfl)
    isplitl [Hh]; · iexact Hh
    isplitr; · iempintro
    iexact HO
  isplitr; · iexact Hl
  iapply (show GH 1 d ⊢ iprop(Pipeline.cellsGhost (Pipeline.pin (pcfgs (F := F)) adm0) EP 1 d ∗ Pipeline.toksInit (Pipeline.pin (pcfgs (F := F)) adm0) EP 1 d) from .rfl)
  iexact HG

end Launch

end Cert.Proof
-- ==== Proof.Main.lean ====
/-
  The program's run: @main on the TensorCore from the launch memory, and what the memory holds at the end.
-/
module

public import proofs.«01_k».proof.Proof.Run

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

open Idealize.ShloMosaic.TcCoe

section Main

variable [FloatOps F]

/-! ## The host's operations -/

/-- Before the first region: the two biases as rows. -/
def ops0 : List (HloOp τ sig (Elt F)) :=
  [StableHlo.reshape main_arg6 main_v0 (rfl : (.f32 : EltTy) = .f32) shapeCasts_S384_S1x384,
   StableHlo.reshape main_arg8 main_v1 (rfl : (.f32 : EltTy) = .f32) shapeCasts_S384_S1x384]

/-- Before the call: the three columns of words side by side. -/
def ops1 : List (HloOp τ sig (Elt F)) :=
  [StableHlo.unary main_arg1 main_v3 (broadcastInDim S1024x1x200 ![0, 2] bcast_S1024x200_S1024x1x200_0_2 : (⟨S1024x200, .i32⟩ : BufTy).Contents (Elt F) → (⟨S1024x1x200, .i32⟩ : BufTy).Contents (Elt F)),
   StableHlo.unary main_arg2 main_v4 (broadcastInDim S1024x1x200 ![0, 2] bcast_S1024x200_S1024x1x200_0_2 : (⟨S1024x200, .i32⟩ : BufTy).Contents (Elt F) → (⟨S1024x1x200, .i32⟩ : BufTy).Contents (Elt F)),
   StableHlo.unary main_arg3 main_v5 (broadcastInDim S1024x1x200 ![0, 2] bcast_S1024x200_S1024x1x200_0_2 : (⟨S1024x200, .i32⟩ : BufTy).Contents (Elt F) → (⟨S1024x1x200, .i32⟩ : BufTy).Contents (Elt F)),
   StableHlo.nary ![main_v3, main_v4, main_v5] main_v6 (fun u => (concatenate S1024x3x200 1 [⟨S1024x1x200, (u 0 : (⟨S1024x1x200, .i32⟩ : BufTy).Contents (Elt F))⟩, ⟨S1024x1x200, (u 1 : (⟨S1024x1x200, .i32⟩ : BufTy).Contents (Elt F))⟩, ⟨S1024x1x200, (u 2 : (⟨S1024x1x200, .i32⟩ : BufTy).Contents (Elt F))⟩] concatenates_S1024x1x200_S1024x1x200_S1024x1x200_S1024x3x200_d1 : (⟨S1024x3x200, .i32⟩ : BufTy).Contents (Elt F))),
   StableHlo.reshape main_v6 main_v7 (rfl : (.i32 : EltTy) = .i32) shapeCasts_S1024x3x200_S1024x3x2x100]

/-- After the second region: the second result as a vector. -/
def ops2 : List (HloOp τ sig (Elt F)) :=
  [StableHlo.reshape main_v9_1 main_v10 (rfl : (.f32 : EltTy) = .f32) shapeCasts_S1024x1_S1024]

theorem main_eq (d : Dev nD) : main (F := F) d
    = StableHlo.seq ops0 >>= fun _ => Prog.lift (.customCall (SparseCore.inner (Pipeline.entry 0)) ()) >>= fun _ =>
      StableHlo.seq ops1 >>= fun _ => (K (F := F)).run d 0 >>= fun _ =>
      Prog.lift (.customCall (SparseCore.inner (Pipeline.entry 1)) ()) >>= fun _ => StableHlo.seq ops2 := by
  simp only [ops0, ops1, ops2, StableHlo.seq, bind_assoc, pure_bind]
  rfl

theorem ops0_sub : ∀ op ∈ (ops0 : List (HloOp τ sig (Elt F))), op.bufs ⊆ StableHlo.tcRefs τ sig :=
  List.forall_iff_forall_mem.1 (show (ops0 : List (HloOp τ sig (Elt F))).Forall fun op => op.bufs ⊆ StableHlo.tcRefs τ sig from
    ⟨StableHlo.reshape_bufs_sub .., StableHlo.reshape_bufs_sub ..⟩)
theorem ops1_sub : ∀ op ∈ (ops1 : List (HloOp τ sig (Elt F))), op.bufs ⊆ StableHlo.tcRefs τ sig :=
  List.forall_iff_forall_mem.1 (show (ops1 : List (HloOp τ sig (Elt F))).Forall fun op => op.bufs ⊆ StableHlo.tcRefs τ sig from
    ⟨StableHlo.unary_bufs_sub .., StableHlo.unary_bufs_sub .., StableHlo.unary_bufs_sub .., StableHlo.nary_bufs_sub .., StableHlo.reshape_bufs_sub ..⟩)
theorem ops2_sub : ∀ op ∈ (ops2 : List (HloOp τ sig (Elt F))), op.bufs ⊆ StableHlo.tcRefs τ sig :=
  List.forall_iff_forall_mem.1 (show (ops2 : List (HloOp τ sig (Elt F))).Forall fun op => op.bufs ⊆ StableHlo.tcRefs τ sig from
    StableHlo.reshape_bufs_sub ..)
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h

/-! ## The host's buffers after each step -/

section Vals

theorem after0_keep (Vl : Dev nD → Valuation τ sig (Elt F)) (c : Dev nD) (b : Ref sig .tc) (hb : b ≠ main_v2) : after0 Vl c b = Vl c b := by
  by_cases h : ∀ w, b ≠ Pipeline.arrRef cfg0.spec w
  · exact after0_ne Vl c h
  · obtain ⟨w, hw⟩ := not_forall.1 h
    obtain rfl := not_not.1 hw
    match w with
    | ⟨0, _⟩ => exact after0_in Vl c 0 rfl
    | ⟨1, _⟩ => exact after0_in Vl c 1 rfl
    | ⟨2, _⟩ => exact after0_in Vl c 2 rfl
    | ⟨3, _⟩ => exact after0_in Vl c 3 rfl
    | ⟨4, _⟩ => exact after0_in Vl c 4 rfl
    | ⟨5, _⟩ => exact absurd rfl hb

theorem after2_keep (Vl : Dev nD → Valuation τ sig (Elt F)) (c : Dev nD) (b : Ref sig .tc) (hb : b ≠ main_v9_0) (hb' : b ≠ main_v9_1) : after2 Vl c b = Vl c b := by
  by_cases h : ∀ w, b ≠ Pipeline.arrRef cfg2.spec w
  · exact after2_ne Vl c h
  · obtain ⟨w, hw⟩ := not_forall.1 h
    obtain rfl := not_not.1 hw
    match w with
    | ⟨0, _⟩ => exact after2_in Vl c 0 rfl
    | ⟨1, _⟩ => exact after2_in Vl c 1 rfl
    | ⟨2, _⟩ => exact absurd rfl hb
    | ⟨3, _⟩ => exact absurd rfl hb'

theorem ops0_keep (Vl : Valuation τ sig (Elt F)) (b : Ref sig .tc) (hb : b ∉ [main_v0, main_v1]) : StableHlo.after ops0 Vl b = Vl b :=
  StableHlo.after_of_writes_sub ops0 Vl (StableHlo.forall_writes_sub_of_map rfl) hb
theorem ops1_keep (Vl : Valuation τ sig (Elt F)) (b : Ref sig .tc) (hb : b ∉ [main_v3, main_v4, main_v5, main_v6, main_v7]) : StableHlo.after ops1 Vl b = Vl b :=
  StableHlo.after_of_writes_sub ops1 Vl (StableHlo.forall_writes_sub_of_map rfl) hb
theorem ops2_keep (Vl : Valuation τ sig (Elt F)) (b : Ref sig .tc) (hb : b ∉ [main_v10]) : StableHlo.after ops2 Vl b = Vl b :=
  StableHlo.after_of_writes_sub ops2 Vl (StableHlo.forall_writes_sub_of_map rfl) hb

variable (m : (ℓ : Loc nD τ sig) → Buf (Elt F) ℓ)

def W1 (d : Dev nD) : Valuation τ sig (Elt F) := StableHlo.after ops0 (StableHlo.launchContents m d)
def W2 (d : Dev nD) : Valuation τ sig (Elt F) := after0 (W1 m) d
def W3 (d : Dev nD) : Valuation τ sig (Elt F) := StableHlo.after ops1 (W2 m d)
def W4 (g : Vec F S1024x256 .f32) (d : Dev nD) : Valuation τ sig (Elt F) := Function.update (W3 m d) (Proc.devRef .tc main_v8) g
def W5 (g : Vec F S1024x256 .f32) (d : Dev nD) : Valuation τ sig (Elt F) := after2 (W4 m g) d
def W6 (g : Vec F S1024x256 .f32) (d : Dev nD) : Valuation τ sig (Elt F) := StableHlo.after ops2 (W5 m g d)

theorem W4_v8 (g : Vec F S1024x256 .f32) (d : Dev nD) : W4 m g d main_v8 = g := Function.update_self ..
theorem W4_keep (g : Vec F S1024x256 .f32) (d : Dev nD) (b : Ref sig .tc) (hb : b ≠ main_v8) : W4 m g d b = W3 m d b :=
  Function.update_of_ne (StableHlo.devRef_ne_of_ne hb) ..

/-- A buffer nothing writes ends as it was. -/
theorem W6_arg (g : Vec F S1024x256 .f32) (d : Dev nD) (b : Ref sig .tc)
    (hb : b ∉ [main_v0, main_v1, main_v2, main_v3, main_v4, main_v5, main_v6, main_v7, main_v8, main_v9_0, main_v9_1, main_v10]) :
    W6 m g d b = m ((d.tc : Thread nD τ).loc b) := by
  simp only [List.mem_cons, List.not_mem_nil, or_false, not_or] at hb
  obtain ⟨h0, h1, h2, h3, h4, h5, h6, h7, h8, h9, h9', h10⟩ := hb
  rw [W6, ops2_keep _ b (by simpa using h10), W5, after2_keep _ d b h9 h9', W4_keep _ _ _ b h8, W3, ops1_keep _ b (by simp [h3, h4, h5, h6, h7]), W2,
    after0_keep _ d b h2, W1, ops0_keep _ b (by simp [h0, h1])]

/-- A buffer written neither by the host nor by the first region is, at the call, as it was at launch. -/
theorem W3_arg (d : Dev nD) (b : Ref sig .tc)
    (hb : b ∉ [main_v0, main_v1, main_v2, main_v3, main_v4, main_v5, main_v6, main_v7]) : W3 m d b = m ((d.tc : Thread nD τ).loc b) := by
  simp only [List.mem_cons, List.not_mem_nil, or_false, not_or] at hb
  obtain ⟨h0, h1, h2, h3, h4, h5, h6, h7⟩ := hb
  rw [W3, ops1_keep _ b (by simp [h3, h4, h5, h6, h7]), W2, after0_keep _ d b h2, W1, ops0_keep _ b (by simp [h0, h1])]

/-- The words, vectors and tables the call works on. -/
abbrev IDXm (d : Dev nD) : Vec F S1024x3x2x100 .i32 := W3 m d main_v7
abbrev X2m (d : Dev nD) : Vec F S1024x384 .f32 := W3 m d main_v2
abbrev T4m (d : Dev nD) : Vec F S1000x128 .f32 := W3 m d main_arg9
abbrev T5m (d : Dev nD) : Vec F S100000x128 .f32 := W3 m d main_arg10
abbrev T6m (d : Dev nD) : Vec F S100000x128 .f32 := W3 m d main_arg11
abbrev Pm : (K (F := F)).Pay (nD := nD) (Val := Elt F) (Name := ℕ) (U := UU) := P (IDXm m) (X2m m) (T4m m) (T5m m) (T6m m)

/-- The scores the call leaves. -/
def Scores (d : Dev nD) (g : Vec F S1024x256 .f32) : Prop :=
  ∀ (r : Fin 1024) (a : Fin 200), g (ix2 r ⟨a.val, by omega⟩) = sc (IDXm m) (X2m m) (T4m m) (T5m m) (T6m m) d r a

/-! ## The call -/

variable [∀ e, Nonempty (Elt F e)]

/-- The call's six arrays. -/
def six : Finset (DevRef τ sig) :=
  ({main_arg9, main_arg10, main_arg11, main_v7, main_v2, main_v8} : Finset (Ref sig .tc)).map ⟨Proc.devRef (τ := τ) .tc, Proc.devRef_injective _⟩

theorem six_sub : six ⊆ Pipeline.ucRefs τ sig := by
  intro x hx
  obtain ⟨b, hb, rfl⟩ := Finset.mem_map.1 hx
  clear hx
  exact Pipeline.devRef_mem_ucRefs ((by decide : ∀ b ∈ ({main_arg9, main_arg10, main_arg11, main_v7, main_v2, main_v8} : Finset (Ref sig .tc)), b.isScoped = false) b hb)

/-- The six arrays holding these contents. -/
def sixAt (d : Dev nD) (t4 : Vec F S1000x128 .f32) (t5 t6 : Vec F S100000x128 .f32) (iv : Vec F S1024x3x2x100 .i32) (x : Vec F S1024x384 .f32) (g : Vec F S1024x256 .f32) : sProp 𝕄 :=
  iprop(((d.tc.loc main_arg9 ↦{fullShare} t4) ∗ (d.tc.loc main_arg10 ↦{fullShare} t5) ∗ (d.tc.loc main_arg11 ↦{fullShare} t6))
    ∗ ((d.tc.loc main_v7 ↦{fullShare} iv) ∗ (d.tc.loc main_v2 ↦{fullShare} x)) ∗ (d.tc.loc main_v8 ↦{fullShare} g))

theorem regroup (p1 p2 p3 p4 p5 p6 : sProp 𝕄) : (iprop(p1 ∗ p2 ∗ p3 ∗ p4 ∗ p5 ∗ p6) : sProp 𝕄) = iprop((p1 ∗ p2 ∗ p3) ∗ (p4 ∗ p5) ∗ p6) := by
  have h₁ : (iprop(p1 ∗ p2 ∗ p3 ∗ p4 ∗ p5 ∗ p6) : sProp 𝕄) ⊢ iprop((p1 ∗ p2 ∗ p3) ∗ (p4 ∗ p5) ∗ p6) := by
    iintro ⟨H1, H2, H3, H4, H5, H6⟩
    isplitl [H1 H2 H3]
    · isplitl [H1]; · iexact H1
      isplitl [H2]; · iexact H2
      iexact H3
    isplitl [H4 H5]
    · isplitl [H4]; · iexact H4
      iexact H5
    iexact H6
  have h₂ : (iprop((p1 ∗ p2 ∗ p3) ∗ (p4 ∗ p5) ∗ p6) : sProp 𝕄) ⊢ iprop(p1 ∗ p2 ∗ p3 ∗ p4 ∗ p5 ∗ p6) := by
    iintro ⟨⟨H1, H2, H3⟩, ⟨H4, H5⟩, H6⟩
    isplitl [H1]; · iexact H1
    isplitl [H2]; · iexact H2
    isplitl [H3]; · iexact H3
    isplitl [H4]; · iexact H4
    isplitl [H5]; · iexact H5
    iexact H6
  exact BI.equiv_iff.mp ⟨h₁, h₂⟩

theorem six_eq (d : Dev nD) (Vl : Valuation τ sig (Elt F)) : (hb d Vl : sProp 𝕄)
    = iprop(sixAt d (Vl main_arg9) (Vl main_arg10) (Vl main_arg11) (Vl main_v7) (Vl main_v2) (Vl main_v8)
      ∗ StableHlo.held (d.tc : Thread nD τ) (Pipeline.ucRefs τ sig \ six) Vl) := by
  rw [hb, StableHlo.held_sub_split _ six_sub]
  congr 1
  unfold StableHlo.held six
  rw [BI.bigSep_map, SparseCore.bigSep_insert' (by decide), SparseCore.bigSep_insert' (by decide), SparseCore.bigSep_insert' (by decide), SparseCore.bigSep_insert' (by decide), SparseCore.bigSep_insert' (by decide), bigSep_singleton]
  exact regroup ..

theorem six_eq' (d : Dev nD) (g : Vec F S1024x256 .f32) : (hb d (W4 m g d) : sProp 𝕄)
    = iprop(sixAt d (T4m m d) (T5m m d) (T6m m d) (IDXm m d) (X2m m d) g
      ∗ StableHlo.held (d.tc : Thread nD τ) (Pipeline.ucRefs τ sig \ six) (W3 m d)) := by
  have hr : (StableHlo.held (d.tc : Thread nD τ) (Pipeline.ucRefs τ sig \ six) (W4 m g d) : sProp 𝕄)
      = StableHlo.held (d.tc : Thread nD τ) (Pipeline.ucRefs τ sig \ six) (W3 m d) :=
    StableHlo.held_congr _ fun b hb => Function.update_of_ne (by rintro rfl; exact (Finset.mem_sdiff.1 hb).2 (Finset.mem_map_of_mem _ (by decide))) ..
  rw [six_eq, hr, W4_v8, W4_keep _ _ _ main_arg9 (by decide), W4_keep _ _ _ main_arg10 (by decide), W4_keep _ _ _ main_arg11 (by decide), W4_keep _ _ _ main_v7 (by decide), W4_keep _ _ _ main_v2 (by decide)]

theorem cores_eq (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

section Abs

attribute [local irreducible] CGO CTD

variable (IDX : Dev nD → Vec F S1024x3x2x100 .i32) (X2 : Dev nD → Vec F S1024x384 .f32)
variable (T4 : Dev nD → Vec F S1000x128 .f32) (T5 T6 : Dev nD → Vec F S100000x128 .f32) (d : Dev nD)

theorem st_eq : (bigSep Finset.univ fun c : Fin ((K (F := F)).nCore 0) => (P IDX X2 T4 T5 T6).st 0 d c) = bigSep Finset.univ fun c : Fin 2 => CGO IDX X2 T4 T5 T6 d c :=
  cores_eq fun c => CGO IDX X2 T4 T5 T6 d c
theorem dn_eq : (bigSep Finset.univ fun c : Fin ((K (F := F)).nCore 0) => (P IDX X2 T4 T5 T6).dn 0 d c) = bigSep Finset.univ fun c : Fin 2 => CTD IDX X2 T4 T5 T6 d c :=
  cores_eq fun c => CTD IDX X2 T4 T5 T6 d c

/-- The call: the six arrays in, the same with the scores in the result. -/
theorem call_abs (κ : GSem nD τ sig → ℕ) (g₀ : Vec F S1024x256 .f32) :
    iprop((K (F := F)).ctx EH (P IDX X2 T4 T5 T6) κ ∗ (K (F := F)).tcSt EH d 0 ∗ sixAt d (T4 d) (T5 d) (T6 d) (IDX d) (X2 d) g₀)
      ⊢ wpM d ((K (F := F)).run d 0) fun _ => iprop((K (F := F)).tcSt EH d 1
        ∗ ∃ g : Vec F S1024x256 .f32, ⌜∀ (r : Fin 1024) (a : Fin 200), g (ix2 r ⟨a.val, by omega⟩) = sc IDX X2 T4 T5 T6 d r a⌝ ∗ sixAt d (T4 d) (T5 d) (T6 d) (IDX d) (X2 d) g) := by
  unfold sixAt
  iintro ⟨#Hctx, Hst, H⟩
  iapply ((K (F := F)).wp_run (D (F := F)) 𝒱 (EH := EH) (P := P IDX X2 T4 T5 T6) κ d 0)
  isplitr; · iexact Hctx
  isplitl [Hst]; · iexact Hst
  isplitl [H]
  · iapply (Entails.of_eq (st_eq IDX X2 T4 T5 T6 d).symm)
    iapply (call_deal IDX X2 T4 T5 T6 d g₀)
    iexact H
  iintro ⟨Hst, Hdn⟩
  ihave Hdn' := (Entails.of_eq (dn_eq IDX X2 T4 T5 T6 d)) $$ Hdn
  ihave H := (call_join IDX X2 T4 T5 T6 d) $$ Hdn'
  icases H with ⟨%g, %hg, H⟩
  isplitl [Hst]; · iexact Hst
  iexists g
  isplitr; · ipureintro; exact hg
  iexact H

end Abs

theorem assoc4 (A B C R : sProp 𝕄) : iprop(A ∗ B ∗ C ∗ R) ⊢ (iprop((A ∗ B ∗ C) ∗ R) : sProp 𝕄) := by
  iintro ⟨HA, HB, HC, HR⟩
  isplitr [HR]
  · isplitl [HA]; · iexact HA
    isplitl [HB]; · iexact HB
    iexact HC
  iexact HR

theorem call_step (κ : GSem nD τ sig → ℕ) (d : Dev nD) :
    iprop((K (F := F)).ctx EH (Pm m) κ ∗ (K (F := F)).tcSt EH d 0 ∗ hb d (W3 m d))
      ⊢ wpM d ((K (F := F)).run d 0) fun _ => iprop((K (F := F)).tcSt EH d 1 ∗ ∃ g : Vec F S1024x256 .f32, ⌜Scores m d g⌝ ∗ hb d (W4 m g d)) := by
  rw [six_eq]
  have h := call_abs (IDXm m) (X2m m) (T4m m) (T5m m) (T6m m) d κ (W3 m d main_v8)
  have h' : iprop(iprop((K (F := F)).ctx EH (Pm m) κ ∗ (K (F := F)).tcSt EH d 0 ∗ sixAt d (T4m m d) (T5m m d) (T6m m d) (IDXm m d) (X2m m d) (W3 m d main_v8))
        ∗ StableHlo.held (d.tc : Thread nD τ) (Pipeline.ucRefs τ sig \ six) (W3 m d))
      ⊢ wpM d ((K (F := F)).run d 0) fun _ => iprop(iprop((K (F := F)).tcSt EH d 1
        ∗ ∃ g : Vec F S1024x256 .f32, ⌜Scores m d g⌝ ∗ sixAt d (T4m m d) (T5m m d) (T6m m d) (IDXm m d) (X2m m d) g)
          ∗ StableHlo.held (d.tc : Thread nD τ) (Pipeline.ucRefs τ sig \ six) (W3 m d)) :=
    (sep_mono_left h).trans (wp_frame_r frame _ _)
  refine BI.Entails.trans (assoc4 _ _ _ _) (h'.trans (wp_mono frame _ _ fun _ => ?_))
  iintro ⟨⟨Hst, %g, %hg, H⟩, Hrest⟩
  isplitl [Hst]; · iexact Hst
  iexists g
  isplitr; · ipureintro; exact hg
  iapply (Entails.of_eq (six_eq' m d g).symm)
  isplitl [H]; · iexact H
  iexact Hrest

/-! ## The host program -/

/-- One step of the host, then the rest. -/
theorem step {d : Dev nD} {p : Prog (TpuEff nD τ sig (Elt F) (SparseCore.Sig (Pipeline.Sig Λ₀ (Fin 2) fun p => (pcfgs (F := F) p).Adm) 1) .tc) PUnit} {k : Prog (TpuEff nD τ sig (Elt F) (SparseCore.Sig (Pipeline.Sig Λ₀ (Fin 2) fun p => (pcfgs (F := F) p).Adm) 1) .tc) PUnit} {A B R : sProp 𝕄} {Q : PUnit → sProp 𝕄}
    (h : A ⊢ wpM d p fun _ => B) (h' : iprop(B ∗ R) ⊢ wpM d k Q) : iprop(A ∗ R) ⊢ wpM d (p >>= fun _ => k) Q :=
  (sep_mono_left h).trans ((wp_frame_r frame _ _).trans ((wp_mono frame _ _ fun _ => h').trans (Entails.of_eq (wp_bind ..).symm)))

/-- What the TensorCore holds between calls, its owed units apart. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_eq (d : Dev nD) (n : ℕ) : (K (F := F)).tcSt EH d n = (iprop(HO d n ∗ tcRest d n) : sProp 𝕄) := rfl

/-- What the host ends holding: its buffers, the scores in the call's result those of the rows' words. -/
abbrev FIN (d : Dev nD) : sProp 𝕄 := iprop(∃ g : Vec F S1024x256 .f32, ⌜Scores m d g⌝ ∗ hb d (W6 m g d))

variable (ρ : Dev nD → PrngReg)

/-- The host program on a device's TensorCore. -/
theorem hmain (κ : GSem nD τ sig → ℕ) (d : Dev nD) :
    iprop((K (F := F)).ctx EH (Pm m) κ ∗ (K (F := F)).tcSt EH d 0 ∗ (K (F := F)).tcRes m ρ d ∗ GH 0 d ∗ GH 1 d)
      ⊢ wp frame (wpE ((K (F := F)).defs (D (F := F))) 𝒱 (T d) none) Set.univ (main d)
          fun _ => iprop((K (F := F)).tcSt EH d 1 ∗ FIN m d ∗ (K (F := F)).tcEnd d) := by
  have e0 : (unscopedBufs d (fun b => m ((SparseCore.T d).loc b)) : sProp 𝕄) = hb d (StableHlo.launchContents m d) :=
    Pipeline.unscopedBufs_held d (StableHlo.launchContents m d)
  unfold SparseCore.Cfg.tcRes SparseCore.Cfg.tcEnd
  rw [main_eq, e0]
  have s1 := line d ops0 ops0_sub ops0_fresh (StableHlo.launchContents m d)
  have s2 := region0 (W1 m) d
  have s3 := line d ops1 ops1_sub ops1_fresh (W2 m d)
  have s4 := call_step m κ d
  iintro ⟨#Hctx, Hst, ⟨Hb, Hh, Hts, -⟩, HG0, HG1⟩
  iapply (step s1 (R := iprop((K (F := F)).ctx EH (Pm m) κ ∗ (K (F := F)).tcSt EH d 0 ∗ (K (F := F)).tcSems0 d ∗ GH 0 d ∗ GH 1 d)) ?_)
  rotate_left
  · isplitl [Hb Hh]
    · isplitl [Hb]; · iexact Hb
      iexact Hh
    isplitr; · iexact Hctx
    isplitl [Hst]; · iexact Hst
    isplitl [Hts]; · iexact Hts
    isplitl [HG0]; · iexact HG0
    iexact HG1
  clear s1 e0
  iintro ⟨⟨Hb, Hh⟩, #Hctx, Hst, Hts, HG0, HG1⟩
  ihave Hst' := (Entails.of_eq (tcSt_eq d 0)) $$ Hst
  icases Hst' with ⟨HO, Hr⟩
  iapply (step s2 (R := iprop((K (F := F)).ctx EH (Pm m) κ ∗ tcRest d 0 ∗ (K (F := F)).tcSems0 d ∗ GH 1 d)) ?_)
  rotate_left
  · isplitl [Hb Hh HO HG0]
    · isplitr; · iapply (SparseCore.Cfg.ctx_levAts κ); iexact Hctx
      isplitl [Hb]; · iexact Hb
      isplitl [Hh]; · iexact Hh
      isplitl [HO]; · iexact HO
      iexact HG0
    isplitr; · iexact Hctx
    isplitl [Hr]; · iexact Hr
    isplitl [Hts]; · iexact Hts
    iexact HG1
  clear s2
  iintro ⟨⟨Hb, Hh, HO⟩, #Hctx, Hr, Hts, HG1⟩
  iapply (step s3 (R := iprop((K (F := F)).ctx EH (Pm m) κ ∗ HO d 0 ∗ tcRest d 0 ∗ (K (F := F)).tcSems0 d ∗ GH 1 d)) ?_)
  rotate_left
  · isplitl [Hb Hh]
    · isplitl [Hb]; · iexact Hb
      iexact Hh
    isplitr; · iexact Hctx
    isplitl [HO]; · iexact HO
    isplitl [Hr]; · iexact Hr
    isplitl [Hts]; · iexact Hts
    iexact HG1
  clear s3
  iintro ⟨⟨Hb, Hh⟩, #Hctx, HO, Hr, Hts, HG1⟩
  iapply (step s4 (R := iprop((K (F := F)).ctx EH (Pm m) κ ∗ boundary (T d) ∗ (K (F := F)).tcSems0 d ∗ GH 1 d)) ?_)
  rotate_left
  · isplitl [Hh HO Hr]
    · isplitr; · iexact Hctx
      isplitl [HO Hr]
      · iapply (Entails.of_eq (tcSt_eq d 0).symm)
        isplitl [HO]; · iexact HO
        iexact Hr
      iexact Hh
    isplitr; · iexact Hctx
    isplitl [Hb]; · iexact Hb
    isplitl [Hts]; · iexact Hts
    iexact HG1
  clear s4
  iintro ⟨⟨Hst, %g, %hg, Hh⟩, #Hctx, Hb, Hts, HG1⟩
  ihave Hst' := (Entails.of_eq (tcSt_eq d 1)) $$ Hst
  icases Hst' with ⟨HO, Hr⟩
  iapply (step (region2 (W4 m g) d) (R := iprop(tcRest d 1 ∗ (K (F := F)).tcSems0 d)) ?_)
  rotate_left
  · isplitl [Hb Hh HO HG1]
    · isplitr; · iapply (SparseCore.Cfg.ctx_levAts κ); iexact Hctx
      isplitl [Hb]; · iexact Hb
      isplitl [Hh]; · iexact Hh
      isplitl [HO]; · iexact HO
      iexact HG1
    isplitl [Hr]; · iexact Hr
    iexact Hts
  have s6 := line d ops2 ops2_sub ops2_fresh (W5 m g d)
  have s6' : iprop(iprop(boundary (T d) ∗ hb d (W5 m g d)) ∗ iprop(HO d 1 ∗ tcRest d 1 ∗ (K (F := F)).tcSems0 d))
      ⊢ wpM d (StableHlo.seq ops2) fun _ => iprop((K (F := F)).tcSt EH d 1 ∗ FIN m d ∗ boundary (T d) ∗ (K (F := F)).tcSems0 d) := by
    refine (sep_mono_left s6).trans ((wp_frame_r frame _ _).trans (wp_mono frame _ _ fun _ => ?_))
    iintro ⟨⟨Hb, Hh⟩, HO, Hr, Hts⟩
    isplitl [HO Hr]
    · iapply (Entails.of_eq (tcSt_eq d 1).symm)
      isplitl [HO]; · iexact HO
      iexact Hr
    isplitl [Hh]
    · iexists g
      isplitr; · ipureintro; exact hg
      iexact Hh
    isplitl [Hb]; · iexact Hb
    iexact Hts
  iintro ⟨⟨Hb, Hh, HO⟩, Hr, Hts⟩
  iapply s6'
  isplitl [Hb Hh]
  · isplitl [Hb]; · iexact Hb
    iexact Hh
  isplitl [HO]; · iexact HO
  isplitl [Hr]; · iexact Hr
  iexact Hts

/-- What a final memory says: the host's buffers hold the last contents, for some scores of the rows' words. -/
def fq (d : Dev nD) (s' : Phys nD τ sig (Elt F)) : Prop :=
  ∃ g : Vec F S1024x256 .f32, Scores m d g ∧ ∀ b ∈ Pipeline.ucRefs τ sig, s'.mem.mem (d, b) = W6 m g d b

theorem hfin (d : Dev nD) (s' : Phys nD τ sig (Elt F)) : iprop(FIN m d ∗ SI s') ⊢ (⌜fq m d s'⌝ : sProp 𝕄) := by
  iintro ⟨⟨%g, %hg, Hh⟩, HSI⟩
  ihave H := (SI_pointsTo_bufs_agree (st := s') (c := d) (qs := fun _ => fullShare) (F := W6 m g d) (Pipeline.ucRefs τ sig)) $$ [HSI Hh]
  · isplitl [HSI]; · iexact HSI
    iapply (show hb d (W6 m g d) ⊢ bigSep (Pipeline.ucRefs τ sig) fun b => ((d, b) : Loc nD τ sig) ↦{fullShare} W6 m g d b from .rfl)
    iexact Hh
  icases H with %h
  ipureintro
  exact ⟨g, hg, h⟩

def QC : PUnit × MemSt nD τ sig (Elt F) → Prop := fun r =>
  (∀ d : Dev nD, ∃ g : Vec F S1024x256 .f32, Scores m d g ∧ ∀ b ∈ Pipeline.ucRefs τ sig, r.2.mem (d, b) = W6 m g d b) ∧ r.2.sem = fun _ => 0

/-- The program's run over any float values: the last contents, for scores of the rows' words; every semaphore at zero. -/
theorem run_main (hI : ∀ (d : Dev nD) (i : grid1.Coords) (j : ℕ), j < 32 → InRange (rowIX (IDXm m) d i j)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (IDXm m) (X2m m) (T4m m) (T5m m) (T6m m) hI)
    (fun q _ => match q with | 0 => SparseCore.Cfg.VecSplit.of_plain (vecSplit (IDXm m) (X2m m) (T4m m) (T5m m) (T6m m)))
    m ρ main (fun d => iprop(GH 0 d ∗ GH 1 d)) (FIN m) (u₀ (F := F)) (sep_elim_left.trans (hu₀ (Pm m) fun _ _ => rfl)) (hmain m ρ) (fq m) (hfin m) (QC m) (fun _ h hz => ⟨h, hz⟩)

end Vals

end Main

end Cert.Proof
-- ==== Proof.Words.lean ====
/-
  The words, vectors and arrays of the call and of the last region in terms of the program's arguments.
-/
module

public import proofs.«01_k».proof.Proof.Main
public import proofs.«01_k».proof.Pre_rows_named
public import Idealize.ShloMosaic.Lib.PointwiseCore
public import Idealize.ShloMosaic.Lib.ReduceAll

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

variable {F : FTy → Type}

local notation "𝕄" => MT nD τ sig (HIx 1) (Elt F) ℕ UU ℕ

section Words

variable [FloatOps F] (m : (ℓ : Loc nD τ sig) → Buf (Elt F) ℓ) (d : Dev nD)

/-- Three columns of words side by side, each cut in halves, at an index. -/
theorem words_apply (a1 a2 a3 : IVec S1024x200 32) (b : Fin 1024) (k : Fin 3) (h : Fin 2) (l : Fin 100) :
    shapeCast S1024x3x2x100 (concatenate S1024x3x200 1 [⟨S1024x1x200, broadcastInDim S1024x1x200 ![0, 2] bcast_S1024x200_S1024x1x200_0_2 a1⟩, ⟨S1024x1x200, broadcastInDim S1024x1x200 ![0, 2] bcast_S1024x200_S1024x1x200_0_2 a2⟩, ⟨S1024x1x200, broadcastInDim S1024x1x200 ![0, 2] bcast_S1024x200_S1024x1x200_0_2 a3⟩] concatenates_S1024x1x200_S1024x1x200_S1024x1x200_S1024x3x200_d1)
      shapeCasts_S1024x3x200_S1024x3x2x100 (ix4 b k h l)
    = (![a1, a2, a3] k) (ix2 b ⟨h.val * 100 + l.val, by omega⟩) := by
  pointwise
  fin_vals k with hk
  all_goals simp only [hk, Nat.reduceSub, Nat.reduceLT, ↓reduceDIte]
  · obtain rfl : k = 0 := Fin.ext hk
    rfl
  · obtain rfl : k = 1 := Fin.ext hk
    rfl
  · obtain rfl : k = 2 := Fin.ext hk
    rfl

theorem ops1_v7 (Vl : Valuation τ sig (Elt F)) : StableHlo.after ops1 Vl main_v7
    = shapeCast S1024x3x2x100 (concatenate S1024x3x200 1 [⟨S1024x1x200, broadcastInDim S1024x1x200 ![0, 2] bcast_S1024x200_S1024x1x200_0_2 (Vl main_arg1 : IVec S1024x200 32)⟩, ⟨S1024x1x200, broadcastInDim S1024x1x200 ![0, 2] bcast_S1024x200_S1024x1x200_0_2 (Vl main_arg2 : IVec S1024x200 32)⟩, ⟨S1024x1x200, broadcastInDim S1024x1x200 ![0, 2] bcast_S1024x200_S1024x1x200_0_2 (Vl main_arg3 : IVec S1024x200 32)⟩] concatenates_S1024x1x200_S1024x1x200_S1024x1x200_S1024x3x200_d1)
      shapeCasts_S1024x3x200_S1024x3x2x100 := by
  unfold ops1
  after_results
  rfl

/-- The word arrays as launched. -/
abbrev ix1m : IVec S1024x200 32 := m ((d.tc : Thread nD τ).loc main_arg1)
abbrev ix2m : IVec S1024x200 32 := m ((d.tc : Thread nD τ).loc main_arg2)
abbrev ix3m : IVec S1024x200 32 := m ((d.tc : Thread nD τ).loc main_arg3)

theorem W2_arg (b : Ref sig .tc) (hb : b ∉ [main_v0, main_v1, main_v2]) : W2 m d b = m ((d.tc : Thread nD τ).loc b) := by
  simp only [List.mem_cons, List.not_mem_nil, or_false, not_or] at hb
  obtain ⟨h0, h1, h2⟩ := hb
  rw [W2, after0_keep _ d b h2, W1, ops0_keep _ b (by simp [h0, h1])]

theorem IDXm_apply (b : Fin 1024) (k : Fin 3) (h : Fin 2) (l : Fin 100) :
    IDXm m d (ix4 b k h l) = (![ix1m m d, ix2m m d, ix3m m d] k) (ix2 b ⟨h.val * 100 + l.val, by omega⟩) := by
  rw [IDXm, W3, ops1_v7, W2_arg _ _ main_arg1 (by decide), W2_arg _ _ main_arg2 (by decide), W2_arg _ _ main_arg3 (by decide)]
  exact words_apply ..

/-- Every launched word names a row of its table. -/
def Named : Prop := ∀ d : Dev nD, (∀ x, (ix1m m d x).toNat < 1000) ∧ (∀ x, (ix2m m d x).toNat < 100000) ∧ (∀ x, (ix3m m d x).toNat < 100000)

theorem inRange_of_named (hN : Named m) (d : Dev nD) (r : Fin 1024) : InRange (bIX (IDXm m) d r) :=
  ⟨fun j k => lt_of_eq_of_lt (congrArg _ (IDXm_apply m d r 0 j k)) ((hN d).1 _),
   fun j k => lt_of_eq_of_lt (congrArg _ (IDXm_apply m d r 1 j k)) ((hN d).2.1 _),
   fun j k => lt_of_eq_of_lt (congrArg _ (IDXm_apply m d r 2 j k)) ((hN d).2.2 _)⟩

/-- The precondition says every word names a row of its table. -/
theorem named_of_pre [Cert.Pre_rows_named.Facts] (m : (ℓ : Loc nD τ sig) → Buf (Elt F) ℓ)
    (h : ∀ c : Dev nD, Cert.Pre_rows_named.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = fun _ => 1#1) : Named m := by
  have andi_one : ∀ p q : BitVec 1, IntOp.andi p q = 1#1 → p = 1#1 ∧ q = 1#1 := by decide
  have one_iff : ∀ p : Bool, BitVec.ofBool p = 1#1 ↔ p = true := by decide
  have key : ∀ (v : BitVec 32) (n : ℕ), n < 2 ^ 31 → IntOp.andi (IntOp.cmpi .sge v 0#32) (IntOp.cmpi .slt v (BitVec.ofNat 32 n)) = 1#1 → v.toNat < n := by
    intro v n hn e
    obtain ⟨e1, e2⟩ := andi_one _ _ e
    simp only [IntOp.cmpi, one_iff, BitVec.sle_eq_decide, BitVec.slt_eq_decide, decide_eq_true_eq, BitVec.toInt_eq_toNat_cond, BitVec.toNat_ofNat] at e1 e2
    have := v.isLt
    rw [Nat.mod_eq_of_lt (by omega)] at e2
    omega
  intro d
  have e := congrFun (h d) ix0
  simp only [Cert.Pre_rows_named.fn, Cert.Pre_rows_named.fn_part1] at e
  obtain ⟨e', e3⟩ := andi_one _ _ e
  obtain ⟨e1, e2⟩ := andi_one _ _ e'
  exact ⟨fun x => key _ 1000 (by norm_num) (Host.reduce_andi_all _ _ _ _ _ e1 x), fun x => key _ 100000 (by norm_num) (Host.reduce_andi_all _ _ _ _ _ e2 x),
    fun x => key _ 100000 (by norm_num) (Host.reduce_andi_all _ _ _ _ _ e3 x)⟩

/-! ## The run from named words -/

/-- What a run ends with: the arguments as launched; the two results those of the scores' array. -/
theorem run_named [∀ e, Nonempty (Elt F e)] (ρ : Dev nD → PrngReg) (hN : Named m) :
    θ_run (Cert.KernelIdeal.defs (F := F)) (Cert.KernelIdeal.threads (F := F)) ⟨m, fun _ => 0, ρ⟩ fun r =>
      (∀ d : Dev nD, (∀ b ∈ [main_arg0, main_arg1, main_arg2, main_arg3, main_arg4, main_arg5, main_arg6, main_arg7, main_arg8, main_arg9, main_arg10, main_arg11],
          r.2.mem ((d.tc : Thread nD τ).loc b) = m ((d.tc : Thread nD τ).loc b))
        ∧ ∃ g : Vec F S1024x256 .f32, Scores m d g ∧ r.2.mem ((d.tc : Thread nD τ).loc main_v9_0) = W6 m g d main_v9_0
          ∧ r.2.mem ((d.tc : Thread nD τ).loc main_v10) = W6 m g d main_v10) ∧ r.2.sem = fun _ => 0 := by
  refine (θ_run Cert.KernelIdeal.defs _ _).mono ?_ (run_main m ρ fun d i j _ => inRange_of_named m hN d (rowOf i j))
  rintro r ⟨h, hz⟩
  refine ⟨fun d => ?_, hz⟩
  obtain ⟨g, hg, hm⟩ := h d
  refine ⟨fun b hb => ?_, g, hg, hm _ (Pipeline.devRef_mem_ucRefs rfl), hm _ (Pipeline.devRef_mem_ucRefs rfl)⟩
  have hb' := (by decide : ∀ b ∈ [main_arg0, main_arg1, main_arg2, main_arg3, main_arg4, main_arg5, main_arg6, main_arg7, main_arg8, main_arg9, main_arg10, main_arg11],
    (b : Ref sig .tc).isScoped = false ∧ b ∉ [main_v0, main_v1, main_v2, main_v3, main_v4, main_v5, main_v6, main_v7, main_v8, main_v9_0, main_v9_1, main_v10]) b hb
  exact (hm _ (Pipeline.devRef_mem_ucRefs hb'.1)).trans (W6_arg m g d b hb'.2)

end Words

end Cert.Proof
end
-- ==== Proof.Frames.lean ====
/-
  The frames: the runs of the kernel over machine words and over idealized numbers, and the run of the reference.
-/
module

public import proofs.«01_k».proof.Defs
public import proofs.«01_k».proof.Proof.Words
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

instance rows_facts : Cert.Pre_rows_named.Facts := ⟨by decide, by decide, by decide⟩

/-- Twelve statements from one about the members of a list of twelve. -/
theorem twelve {α : Type} {p : α → Prop} {a0 a1 a2 a3 a4 a5 a6 a7 a8 a9 a10 a11 : α}
    (h : ∀ b ∈ [a0, a1, a2, a3, a4, a5, a6, a7, a8, a9, a10, a11], p b) :
    p a0 ∧ p a1 ∧ p a2 ∧ p a3 ∧ p a4 ∧ p a5 ∧ p a6 ∧ p a7 ∧ p a8 ∧ p a9 ∧ p a10 ∧ p a11 := by
  simpa only [List.forall_mem_cons, List.not_mem_nil, false_implies, implies_true, and_true] using h

theorem frame_ideal : Cert.quiescent_KernelIdeal := fun m ρ hp =>
  (θ_run Cert.KernelIdeal.defs _ _).mono (fun _ h => ⟨fun d => twelve (h.1 d).1, h.2⟩)
    (run_named (F := Ideal) m ρ (named_of_pre m hp))

/-- The two texts are one: the bodies of the kernel, case by case. -/
theorem bodies_same : Cert.Kernel.defs₀ (F := Bits) = Cert.KernelIdeal.defs₀ (F := Bits) := by
  funext p l a
  cases p with
  | tc => fin_cases l <;> rfl
  | scScalar c => fin_cases l <;> rfl
  | scVector c s => fin_cases l <;> rfl

theorem defs_same : Cert.Kernel.defs (F := Bits) = Cert.KernelIdeal.defs (F := Bits) :=
  congrArg (fun d => (Cert.Kernel.sc (F := Bits)).defs (Pipeline.defs Cert.Kernel.pcfgs d)) bodies_same

theorem frame_kernel : Cert.quiescent_Kernel := fun m ρ hp => by
  rw [defs_same]
  exact (θ_run Cert.KernelIdeal.defs _ _).mono (fun _ h => ⟨fun d => twelve (h.1 d).1, h.2⟩)
    (run_named (F := Bits) m ρ (named_of_pre m hp))

theorem frame_reference : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run (F := Ideal) m ρ)

end Cert.Proof

end
-- ==== Proof.Lanes.lean ====
/-
  The score of an action over the extended reals: the sixteen lanes, folded, are the sum over the row's 384 columns.
-/
module

public import proofs.«01_k».proof.Proof.Action
public import Idealize.ShloMosaic.Lib.Pointwise

@[expose] public section

noncomputable section

namespace Cert.Proof

open Cert.KernelIdeal Cert.KernelIdeal.Gen
open Idealize.ShloMosaic

set_option maxRecDepth 16384

theorem sum16 (g : Fin 16 → EReal) : ∑ i, g i = g 0 + (g 1 + (g 2 + (g 3 + (g 4 + (g 5 + (g 6 + (g 7 + (g 8 + (g 9 + (g 10 + (g 11 + (g 12 + (g 13 + (g 14 + (g 15))))))))))))))) := by
  simp only [Fin.sum_univ_succ, Fin.sum_univ_zero, add_zero]
  rfl

theorem sum24 (g : Fin 24 → EReal) : ∑ i, g i = g 0 + (g 1 + (g 2 + (g 3 + (g 4 + (g 5 + (g 6 + (g 7 + (g 8 + (g 9 + (g 10 + (g 11 + (g 12 + (g 13 + (g 14 + (g 15 + (g 16 + (g 17 + (g 18 + (g 19 + (g 20 + (g 21 + (g 22 + (g 23))))))))))))))))))))))) := by
  simp only [Fin.sum_univ_succ, Fin.sum_univ_zero, add_zero]
  rfl

/-- Four rotations and additions leave the sum of the sixteen lanes in the first. -/
theorem fold_sum (x y : Vec Ideal S16 .f32) (a b c e : FVec Ideal S16 .f32) (p q : Vec Ideal S1x16 .f32) :
    k1_pay28 x y a b c e p q (ix1 0)
    = ∑ l : Fin 16, (c (ix1 l) + e (ix1 l) + (a (ix1 l) + p (ix2 0 l) * x (ix1 l) + (b (ix1 l) + q (ix2 0 l) * y (ix1 l)))) := by
  unfold k1_pay28
  pointwise
  generalize hg : (fun l : Fin 16 => c (ix1 l) + e (ix1 l) + (a (ix1 l) + p (ix2 0 l) * x (ix1 l) + (b (ix1 l) + q (ix2 0 l) * y (ix1 l)))) = g
  have h (l : Fin 16) : c (ix1 l) + e (ix1 l) + (a (ix1 l) + p (ix2 0 l) * x (ix1 l) + (b (ix1 l) + q (ix2 0 l) * y (ix1 l))) = g l :=
    congrFun hg l
  simp only [h]
  rw [sum16]
  abel

/-- One lane of an action's products, summed over the 24 pieces of the row. -/
theorem lane_sum (x : Fin 24 → Vec Ideal S16 .f32) (r : Fin 24 → Vec Ideal S1x16 .f32) :
    scoreVec x r (ix1 0) = ∑ l : Fin 16, ∑ k : Fin 24, r k (ix2 0 l) * x k (ix1 l) := by
  unfold scoreVec
  rw [fold_sum]
  refine Finset.sum_congr rfl fun l _ => ?_
  pointwise [k1_pay1, k1_pay2, k1_pay3, k1_pay4, k1_pay5, k1_pay6, k1_pay7, k1_pay8, k1_pay9, k1_pay10, k1_pay11, k1_pay12, k1_pay13]
  generalize hg : (fun k : Fin 24 => r k (ix2 0 l) * x k (ix1 l)) = g
  have h (k : Fin 24) : r k (ix2 0 l) * x k (ix1 l) = g k := congrFun hg k
  simp only [h]
  rw [sum24]
  abel

/-- The score of an action: the sum of its gathered row's three pieces with the state's row. -/
theorem score_sum (R : Vec Ideal S600x128 .f32) (X : Vec Ideal S384 .f32) (a : Fin 200) :
    score R X a = ∑ j : Fin 384, R (ix2 ⟨200 * (j.val / 128) + a.val, by omega⟩ ⟨j.val % 128, by omega⟩) * X (ix1 j) := by
  refine (lane_sum (xv X) (rv R a)).trans ?_
  rw [Finset.sum_comm, ← Fintype.sum_prod_type']
  refine Fintype.sum_equiv (finProdFinEquiv (m := 24) (n := 16)) _ _ fun ⟨k, l⟩ => ?_
  have e : (finProdFinEquiv (k, l) : Fin (24 * 16)).val = l.val + 16 * k.val := rfl
  show R (ix2 ⟨200 * (k.val / 8) + a.val, _⟩ ⟨16 * (k.val % 8) + l.val, _⟩) * X (ix1 ⟨16 * k.val + l.val, _⟩) = _
  congr 2
  · refine congrArg₂ ix2 (Fin.ext ?_) (Fin.ext ?_)
    · show 200 * (k.val / 8) + a.val = 200 * ((finProdFinEquiv (k, l) : Fin (24 * 16)).val / 128) + a.val
      rw [e]; omega
    · show 16 * (k.val % 8) + l.val = (finProdFinEquiv (k, l) : Fin (24 * 16)).val % 128
      rw [e]; omega
  · refine congrArg ix1 (Fin.ext ?_)
    show 16 * k.val + l.val = (finProdFinEquiv (k, l) : Fin (24 * 16)).val
    rw [e]; omega

end Cert.Proof

end
-- ==== Proof.Plain.lean ====
/-
  The reference, cut in its steps: the two layers, the rows taken from the tables, the scores, the softmax, the entropy.
-/
module

public import proofs.«01_k».proof.Proof.Gen.ReferenceIdeal.Run
public import Idealize.ShloMosaic.Lib.Pointwise

@[expose] public section

noncomputable section

namespace Cert.Proof.Plain

open Cert.ReferenceIdeal Cert.ReferenceIdeal.Gen
open Idealize.ShloMosaic Idealize.ShloMosaic.TcCoe

set_option maxRecDepth 16384

variable {F : FTy → Type} [FloatOps F]

/-- One layer's bias, along every row. -/
def bias (b : Vec F S384 .f32) : Vec F S1024x384 .f32 :=
  broadcastInDim S1024x384 ![0, 1] bcast_S1x384_S1024x384_0_1 (broadcastInDim S1x384 ![1] bcast_S384_S1x384_1 b)

/-- The hidden layer. -/
def hidden (o : Vec F S1024x128 .f32) (w : Vec F S384x128 .f32) (b : Vec F S384 .f32) : Vec F S1024x384 .f32 :=
  maximumf (addf (Host.dotGeneral dot_S1024x128_S128x384_S1024x384_1_0_0_1_n_n none o (transpose S128x384 [1, 0] w transposes_S384x128_S128x384_1_0)) (bias b))
    (broadcastInDim S1024x384 ![] bcast_S_S1024x384 (constant S_ .f32 0x00000000#32))

/-- The state's rows. -/
def rows (o : Vec F S1024x128 .f32) (w : Vec F S384x128 .f32) (b : Vec F S384 .f32) (w' : Vec F S384x384 .f32) (b' : Vec F S384 .f32) :
    Vec F S1024x384 .f32 :=
  addf (Host.dotGeneral dot_S1024x384_S384x384_S1024x384_1_0_0_1_n_n none (hidden o w b) (transpose S384x384 [1, 0] w' transposes_S384x384_S384x384_1_0)) (bias b')

/-- The words as the take reads them: a negative one counts from the end. -/
def fromEnd (n : BitVec 32) (I : IVec S1024x200 32) : IVec S1024x200x1 32 :=
  broadcastInDim S1024x200x1 ![0, 1] bcast_S1024x200_S1024x200x1_0_1
    (select (cmpi .slt I (broadcastInDim S1024x200 ![] bcast_S_S1024x200 (constantI S_ 32 0#32))) (addi I (broadcastInDim S1024x200 ![] bcast_S_S1024x200 (constantI S_ 32 n))) I)

/-- Where the words lie inside the table. -/
def inside (last : BitVec 32) (w : IVec S1024x200x1 32) : IVec S1024x200 1 :=
  Host.reduce IntOp.andi (andi (cmpi .sge w (broadcastInDim S1024x200x1 ![] bcast_S_S1024x200x1 (constantI S_ 32 0#32)))
      (cmpi .sle w (broadcastInDim S1024x200x1 ![0, 1, 2] bcast_S1x1x1_S1024x200x1_0_1_2 (broadcastInDim S1x1x1 ![2] bcast_S1_S1x1x1_2 (constantI S1 32 last)))))
    (constantI S_ 1 1#1) reducesTo_S1024x200x1_S1024x200_d2 h_S_

/-- The rows that the words name, and no number where a word names none. -/
def take {s : Shape} (d : GatherDims s S1024x200x1 S1024x200x128) (n last : BitVec 32) (T : Vec F s .f32) (I : IVec S1024x200 32) :
    Vec F S1024x200x128 .f32 :=
  select (broadcastInDim S1024x200x128 ![0, 1] bcast_S1024x200_S1024x200x128_0_1 (inside last (fromEnd n I)))
    (Host.gather d T (fromEnd n I)) (broadcastInDim S1024x200x128 ![] bcast_S_S1024x200x128 (constant S_ .f32 0x7FC00000#32))

/-- Three taken rows end to end. -/
def beside (a b c : Vec F S1024x200x128 .f32) : Vec F S1024x200x384 .f32 :=
  concatenate S1024x200x384 2 [⟨S1024x200x128, a⟩, ⟨S1024x200x128, b⟩, ⟨S1024x200x128, c⟩] concatenates_S1024x200x128_S1024x200x128_S1024x200x128_S1024x200x384_d2

def scores (E : Vec F S1024x200x384 .f32) (X : Vec F S1024x384 .f32) : Vec F S1024x200 .f32 :=
  shapeCast S1024x200 (Host.dotGeneral dot_S1024x200x384_S1024x384x1_S1024x200x1_2_1_1_2_0_0 none E
    (broadcastInDim S1024x384x1 ![0, 1] bcast_S1024x384_S1024x384x1_0_1 X)) shapeCasts_S1024x200x1_S1024x200

def masked (S M : Vec F S1024x200 .f32) : Vec F S1024x200 .f32 :=
  subf S (mulf (subf (broadcastInDim S1024x200 ![] bcast_S_S1024x200 (constant S_ .f32 0x3F800000#32)) M) (broadcastInDim S1024x200 ![] bcast_S_S1024x200 (constant S_ .f32 0x72FC6F7C#32)))

/-- A column of 1024, along every row. -/
def wide (v : Vec F S1024 .f32) : Vec F S1024x200 .f32 :=
  broadcastInDim S1024x200 ![0, 1] bcast_S1024x1_S1024x200_0_1 (broadcastInDim S1024x1 ![0] bcast_S1024_S1024x1_0 v)

def powers (S : Vec F S1024x200 .f32) : Vec F S1024x200 .f32 :=
  Host.exp (subf S (wide (maximumf (broadcastInDim S1024 ![] bcast_S_S1024 (constant S_ .f32 0xFF800000#32))
    (Host.reduce FloatOps.maximumf S (constant S_ .f32 0xFF800000#32) reducesTo_S1024x200_S1024_d1 h_S_))))

def softmax (S : Vec F S1024x200 .f32) : Vec F S1024x200 .f32 :=
  Host.divf (powers S) (wide (Host.reduceAdd (powers S) (constant S_ .f32 0x00000000#32) reducesTo_S1024x200_S1024_d1 h_S_))

def entropy (p : Vec F S1024x200 .f32) : Vec F S1024 .f32 :=
  Host.reduceAdd (mulf (Host.negf p) (Host.log (addf p (broadcastInDim S1024x200 ![] bcast_S_S1024x200 (constant S_ .f32 0x25800000#32)))))
    (constant S_ .f32 0x00000000#32) reducesTo_S1024x200_S1024_d1 h_S_

variable (m : (ℓ : Loc nD τ sig) → Buf (Elt F) ℓ) (c : Dev nD)

/-- The taken rows of a launch. -/
def taken : Vec F S1024x200x384 .f32 :=
  beside (take gather_S1000x128_S1024x200x1_S1024x200x128_2_0_n_n_0_2_1128 1000#32 999#32 (m ((c.tc : Thread nD τ).loc main_arg9)) (m ((c.tc : Thread nD τ).loc main_arg1)))
    (take gather_S100000x128_S1024x200x1_S1024x200x128_2_0_n_n_0_2_1128 100000#32 99999#32 (m ((c.tc : Thread nD τ).loc main_arg10)) (m ((c.tc : Thread nD τ).loc main_arg2)))
    (take gather_S100000x128_S1024x200x1_S1024x200x128_2_0_n_n_0_2_1128 100000#32 99999#32 (m ((c.tc : Thread nD τ).loc main_arg11)) (m ((c.tc : Thread nD τ).loc main_arg3)))

/-- The state's rows of a launch. -/
def stated : Vec F S1024x384 .f32 :=
  rows (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))

theorem res0 : Value.res_main_v33 m c = softmax (masked (scores (taken m c) (stated m c)) (m ((c.tc : Thread nD τ).loc main_arg4))) := rfl

theorem res1 : Value.res_main_v39 m c = entropy (softmax (masked (scores (taken m c) (stated m c)) (m ((c.tc : Thread nD τ).loc main_arg4)))) := rfl

end Cert.Proof.Plain

end
-- ==== Proof.PlainAt.lean ====
/-
  The reference's steps at an index, over the extended reals.
-/
module

public import proofs.«01_k».proof.Proof.Plain

@[expose] public section

noncomputable section

namespace Cert.Proof.Plain

open Cert.ReferenceIdeal Cert.ReferenceIdeal.Gen
open Idealize.ShloMosaic

set_option maxRecDepth 16384

/-- A word below the top bit is read as it is. -/
theorem fromEnd_apply (n : BitVec 32) (I : IVec S1024x200 32) (b : Fin 1024) (a : Fin 200) (h : (I (ix2 b a)).toNat < 2 ^ 31) (z : Fin 1) :
    fromEnd n I (ix3 b a z) = I (ix2 b a) := by
  unfold fromEnd
  pointwise
  have e : IntOp.cmpi .slt (I (ix2 b a)) 0#32 = 0#1 := by
    have hs : (I (ix2 b a)).slt 0#32 = false := by
      rw [BitVec.slt_eq_decide, decide_eq_false_iff_not, BitVec.toInt_eq_toNat_of_lt (by omega)]
      simp
    unfold IntOp.cmpi
    simp only [hs]
    rfl
  rw [e]
  exact if_neg (by decide)

/-- A word that names a row passes the take's test. -/
theorem inside_apply (last : BitVec 32) (w : IVec S1024x200x1 32) (b : Fin 1024) (a : Fin 200) (hl : last.toNat < 2 ^ 31)
    (h : (w (ix3 b a 0)).toNat ≤ last.toNat) : inside last w (ix2 b a) = 1#1 := by
  unfold inside
  pointwise
  have e1 : (0#32).sle (w (ix3 b a 0)) = true := by
    rw [BitVec.sle_eq_decide, decide_eq_true_eq, BitVec.toInt_eq_toNat_of_lt (x := w (ix3 b a 0)) (by omega)]
    simp
  have e2 : (w (ix3 b a 0)).sle last = true := by
    rw [BitVec.sle_eq_decide, decide_eq_true_eq, BitVec.toInt_eq_toNat_of_lt (x := w (ix3 b a 0)) (by omega),
      BitVec.toInt_eq_toNat_of_lt (x := last) (by omega)]
    omega
  have e (x : Fin 1) : IntOp.andi (IntOp.cmpi .sge (w (ix3 b a x)) 0#32) (IntOp.cmpi .sle (w (ix3 b a x)) last) = 1#1 := by
    obtain rfl : x = 0 := Subsingleton.elim _ _
    unfold IntOp.cmpi
    simp only [e1, e2]
    rfl
  simp only [e]
  rfl

/-- A gather of whole rows, by one word each. -/
abbrev rowDims (N : ℕ) (wf : GatherDims.WF ⟨2, ![N, 128]⟩ S1024x200x1 S1024x200x128 [2] [0] [] [0] [] 2 ![1, 128]) :
    GatherDims ⟨2, ![N, 128]⟩ S1024x200x1 S1024x200x128 where
  offsetDims := [2]
  collapsedSliceDims := [0]
  operandBatchingDims := []
  startIndicesBatchingDims := []
  startIndexMap := [0]
  indexVectorDim := 2
  sliceSizes := ![1, 128]
  wf := wf

theorem rowDims_apply {N : ℕ} (hN : 0 < N) (wf) (T : Vec Ideal ⟨2, ![N, 128]⟩ .f32) (w : IVec S1024x200x1 32) (b : Fin 1024) (a : Fin 200) (k : Fin 128) :
    Host.gather (rowDims N wf) T w (ix3 b a k) = T (ix2 ⟨min (w (ix3 b a 0)).toInt.toNat (N - 1), by omega⟩ k) := by
  unfold Host.gather
  refine congrArg T (funext fun x => Fin.ext ?_)
  show (rowDims N wf).start (ix3 b a k) w x + (rowDims N wf).batchCoord (ix3 b a k) x + (rowDims N wf).offCoord (ix3 b a k) x = _
  rw [GatherDims.batchCoord_eq_zero _ _ _ List.not_mem_nil, Nat.add_zero]
  have hx : x = 0 ∨ x = 1 := (by decide : ∀ y : Fin 2, y = 0 ∨ y = 1) x
  rcases hx with rfl | rfl
  · rw [GatherDims.offCoord_eq_zero _ _ _ (fun h => ((GatherDims.mem_sKept _ _).mp h).1 (List.mem_cons_self ..)), Nat.add_zero]
    unfold GatherDims.start
    rw [dif_pos (List.mem_cons_self ..)]
    refine congrArg (fun u => min (w u).toInt.toNat (N - 1)) (funext fun y => Fin.ext ?_)
    match y with
    | ⟨0, _⟩ => rfl
    | ⟨1, _⟩ => rfl
    | ⟨2, _⟩ => rfl
  · have h1 : (1 : Fin 2) ∉ [(0 : Fin 2)] := by decide
    unfold GatherDims.start GatherDims.offCoord
    rw [dif_neg h1, Nat.zero_add, dif_pos ((GatherDims.mem_sKept _ _).mpr ⟨h1, List.not_mem_nil⟩)]
    rfl

/-- The take of a row that its word names. -/
theorem take_apply {N : ℕ} (hN : N < 2 ^ 31) (wf) (n : BitVec 32) (T : Vec Ideal ⟨2, ![N, 128]⟩ .f32) (I : IVec S1024x200 32)
    (b : Fin 1024) (a : Fin 200) (k : Fin 128) (h : (I (ix2 b a)).toNat < N) :
    take (rowDims N wf) n (BitVec.ofNat 32 (N - 1)) T I (ix3 b a k) = T (ix2 ⟨(I (ix2 b a)).toNat, h⟩ k) := by
  have e : fromEnd n I (ix3 b a 0) = I (ix2 b a) := fromEnd_apply n I b a (by omega) 0
  have hl : (BitVec.ofNat 32 (N - 1)).toNat = N - 1 := by rw [BitVec.toNat_ofNat]; omega
  have hi : inside (BitVec.ofNat 32 (N - 1)) (fromEnd n I) (ix2 b a) = 1#1 := inside_apply _ _ b a (by omega) (by rw [e]; omega)
  unfold take
  pointwise
  rw [hi]
  refine (if_pos rfl).trans ?_
  rw [rowDims_apply (by omega)]
  refine congrArg T (congrArg (fun r => ix2 r k) (Fin.ext ?_))
  show min (fromEnd n I (ix3 b a 0)).toInt.toNat (N - 1) = _
  rw [e, BitVec.toInt_eq_toNat_of_lt (by omega)]
  simp only [Int.toNat_natCast]
  omega

theorem beside_apply (x y z : Vec Ideal S1024x200x128 .f32) (b : Fin 1024) (a : Fin 200) (j : Fin 384) :
    beside x y z (ix3 b a j) = (if j.val < 128 then x else if j.val < 256 then y else z) (ix3 b a ⟨j.val % 128, by omega⟩) := by
  unfold beside
  pointwise
  have := j.isLt
  by_cases h1 : j.val < 128
  · rw [dif_pos h1, if_pos h1]
    exact congrArg x (congrArg (ix3 b a) (Fin.ext (Nat.mod_eq_of_lt h1).symm))
  · rw [dif_neg h1, if_neg h1]
    by_cases h2 : j.val < 256
    · rw [dif_pos (by omega), if_pos h2]
      exact congrArg y (congrArg (ix3 b a) (Fin.ext (by show j.val - 128 = j.val % 128; omega)))
    · rw [dif_neg (by omega), if_neg h2]
      exact congrArg z (congrArg (ix3 b a) (Fin.ext (by show j.val - 128 - 128 = j.val % 128; omega)))

theorem scores_apply (E : Vec Ideal S1024x200x384 .f32) (X : Vec Ideal S1024x384 .f32) (b : Fin 1024) (a : Fin 200) :
    scores E X (ix2 b a) = ∑ j : Fin 384, E (ix3 b a j) * X (ix2 b j) := by
  unfold scores
  pointwise

theorem rows_apply (o : Vec Ideal S1024x128 .f32) (w : Vec Ideal S384x128 .f32) (v : Vec Ideal S384 .f32) (w' : Vec Ideal S384x384 .f32) (v' : Vec Ideal S384 .f32)
    (b : Fin 1024) (j : Fin 384) : rows o w v w' v' (ix2 b j)
      = ∑ k, max (∑ i, o (ix2 b i) * w (ix2 k i) + v (ix1 k)) 0 * w' (ix2 j k) + v' (ix1 j) := by
  pointwise [rows, hidden, bias]

end Cert.Proof.Plain

end
-- ==== Proof.Same.lean ====
/-
  The kernel's softmax, entropy and layers are the reference's, over the extended reals.
-/
module

public import proofs.«01_k».proof.Proof.PlainAt
public import proofs.«01_k».proof.Proof.Gen.KernelIdeal.Skeleton

@[expose] public section

noncomputable section

namespace Cert.Proof

open Cert.KernelIdeal Cert.KernelIdeal.Gen
open Idealize.ShloMosaic

set_option maxRecDepth 16384

theorem max_fold {α : Type} (s : Finset α) (c : EReal) (f : α → EReal) : max c (s.fold max c f) = s.fold max c f :=
  max_eq_right ((Finset.le_fold_max c).mpr (Or.inl le_rfl))

theorem softmax_same (S M : Vec Ideal S1024x200 .f32) : k2_pay1 S M = Plain.softmax (Plain.masked S M) := by
  funext x
  idx_vars x
  pointwise [k2_pay1, Plain.softmax, Plain.powers, Plain.wide, Plain.masked]
  simp only [max_fold]

theorem entropy_same (S M : Vec Ideal S1024x200 .f32) : shapeCast S1024 (k2_pay2 S M) shapeCasts_S1024x1_S1024 = Plain.entropy (Plain.softmax (Plain.masked S M)) := by
  rw [← softmax_same]
  funext x
  idx_vars x
  pointwise [k2_pay1, k2_pay2, Plain.entropy]
  simp only [zero_sub]

theorem rows_same (o : Vec Ideal S1024x128 .f32) (w : Vec Ideal S384x128 .f32) (v : Vec Ideal S384 .f32) (w' : Vec Ideal S384x384 .f32) (v' : Vec Ideal S384 .f32) :
    k0_pay1 o w (shapeCast S1x384 v shapeCasts_S384_S1x384) w' (shapeCast S1x384 v' shapeCasts_S384_S1x384) = Plain.rows o w v w' v' := by
  funext x
  obtain ⟨b, j, rfl⟩ : ∃ (b : Fin 1024) (j : Fin 384), x = ix2 b j := ⟨x 0, x 1, eq_ix2 x⟩
  refine Eq.trans ?_ (Plain.rows_apply o w v w' v' b j).symm
  pointwise [k0_pay1]

end Cert.Proof

end
-- ==== Proof.Equal.lean ====
/-
  The kernel's two results are the reference's, over the extended reals.
-/
module

public import proofs.«01_k».proof.Proof.Words
public import proofs.«01_k».proof.Proof.Lanes
public import proofs.«01_k».proof.Proof.Same

@[expose] public section

noncomputable section

namespace Cert.Proof

open Cert.KernelIdeal Cert.KernelIdeal.Gen
open Idealize.ShloMosaic Idealize.ShloMosaic.TcCoe

set_option maxRecDepth 16384

variable (m : (ℓ : Loc nD τ sig) → Buf (Elt Ideal) ℓ) (d : Dev nD)

/-- The word that names row `200 q + a` is word `a` of array `q`. -/
theorem ent_apply (r : Fin 1024) (q : Fin 3) (a : Fin 200) :
    ent (bIX (IDXm m) d r) ⟨200 * q.val + a.val, by omega⟩ = (![ix1m m d, ix2m m d, ix3m m d] q) (ix2 r a) := by
  refine (IDXm_apply m d r ⟨(200 * q.val + a.val) / 200, by omega⟩ ⟨(200 * q.val + a.val) % 200 / 100, by omega⟩ ⟨(200 * q.val + a.val) % 100, by omega⟩).trans ?_
  have hq : (⟨(200 * q.val + a.val) / 200, by omega⟩ : Fin 3) = q := Fin.ext (by show (200 * q.val + a.val) / 200 = q.val; omega)
  rw [hq]
  refine congrArg (fun u => (![ix1m m d, ix2m m d, ix3m m d] q) (ix2 r u)) (Fin.ext ?_)
  show (200 * q.val + a.val) % 200 / 100 * 100 + (200 * q.val + a.val) % 100 = a.val
  omega

/-- The rows that the reference takes. -/
abbrev wanted : Vec Ideal Cert.ReferenceIdeal.S1024x200x384 .f32 :=
  Plain.beside (Plain.take Cert.ReferenceIdeal.gather_S1000x128_S1024x200x1_S1024x200x128_2_0_n_n_0_2_1128 1000#32 999#32 (m ((d.tc : Thread nD τ).loc main_arg9)) (m ((d.tc : Thread nD τ).loc main_arg1)))
    (Plain.take Cert.ReferenceIdeal.gather_S100000x128_S1024x200x1_S1024x200x128_2_0_n_n_0_2_1128 100000#32 99999#32 (m ((d.tc : Thread nD τ).loc main_arg10)) (m ((d.tc : Thread nD τ).loc main_arg2)))
    (Plain.take Cert.ReferenceIdeal.gather_S100000x128_S1024x200x1_S1024x200x128_2_0_n_n_0_2_1128 100000#32 99999#32 (m ((d.tc : Thread nD τ).loc main_arg11)) (m ((d.tc : Thread nD τ).loc main_arg3)))

/-- The gathered rows are the taken ones. -/
theorem gath_apply (hN : Named m) (r : Fin 1024) (a : Fin 200) (j : Fin 384) :
    gath (bIX (IDXm m) d r) (T4m m d) (T5m m d) (T6m m d) (ix2 ⟨200 * (j.val / 128) + a.val, by omega⟩ ⟨j.val % 128, by omega⟩)
    = wanted m d (ix3 r a j) := by
  refine Eq.trans ?_ (Plain.beside_apply _ _ _ r a j).symm
  have hj := j.isLt
  have ha := a.isLt
  have e4 : T4m m d = m ((d.tc : Thread nD τ).loc main_arg9) := W3_arg m d main_arg9 (by decide)
  have e5 : T5m m d = m ((d.tc : Thread nD τ).loc main_arg10) := W3_arg m d main_arg10 (by decide)
  have e6 : T6m m d = m ((d.tc : Thread nD τ).loc main_arg11) := W3_arg m d main_arg11 (by decide)
  unfold gath
  rw [e4, e5, e6]
  by_cases h1 : j.val < 128
  · have hq : j.val / 128 = 0 := by omega
    have hw := ent_apply m d r 0 a
    have hb := (hN d).1 (ix2 r a)
    rw [if_pos (by show 200 * (j.val / 128) + a.val < 200; omega), if_pos h1]
    refine Eq.trans ?_ (Plain.take_apply (by decide) _ 1000#32 (m ((d.tc : Thread nD τ).loc main_arg9)) (ix1m m d) r a ⟨j.val % 128, by omega⟩ hb).symm
    refine congrArg (m ((d.tc : Thread nD τ).loc main_arg9) : Vec Ideal S1000x128 .f32) (congrArg (fun u => ix2 u _) (Fin.ext ?_))
    show (ent (bIX (IDXm m) d r) ⟨200 * (j.val / 128) + a.val, _⟩).toNat % 1000 = _
    simp only [hq]
    refine Eq.trans (congrArg (fun u : BitVec 32 => u.toNat % 1000) hw) (Nat.mod_eq_of_lt hb)
  · rw [if_neg (by show ¬200 * (j.val / 128) + a.val < 200; omega), if_neg h1]
    by_cases h2 : j.val < 256
    · have hq : j.val / 128 = 1 := by omega
      have hw := ent_apply m d r 1 a
      have hb := (hN d).2.1 (ix2 r a)
      rw [if_pos (by show 200 * (j.val / 128) + a.val < 400; omega), if_pos h2]
      refine Eq.trans ?_ (Plain.take_apply (by decide) _ 100000#32 (m ((d.tc : Thread nD τ).loc main_arg10)) (ix2m m d) r a ⟨j.val % 128, by omega⟩ hb).symm
      refine congrArg (m ((d.tc : Thread nD τ).loc main_arg10) : Vec Ideal S100000x128 .f32) (congrArg (fun u => ix2 u _) (Fin.ext ?_))
      show (ent (bIX (IDXm m) d r) ⟨200 * (j.val / 128) + a.val, _⟩).toNat % 100000 = _
      simp only [hq]
      refine Eq.trans (congrArg (fun u : BitVec 32 => u.toNat % 100000) hw) (Nat.mod_eq_of_lt hb)
    · have hq : j.val / 128 = 2 := by omega
      have hw := ent_apply m d r 2 a
      have hb := (hN d).2.2 (ix2 r a)
      rw [if_neg (by show ¬200 * (j.val / 128) + a.val < 400; omega), if_neg h2]
      refine Eq.trans ?_ (Plain.take_apply (by decide) _ 100000#32 (m ((d.tc : Thread nD τ).loc main_arg11)) (ix3m m d) r a ⟨j.val % 128, by omega⟩ hb).symm
      refine congrArg (m ((d.tc : Thread nD τ).loc main_arg11) : Vec Ideal S100000x128 .f32) (congrArg (fun u => ix2 u _) (Fin.ext ?_))
      show (ent (bIX (IDXm m) d r) ⟨200 * (j.val / 128) + a.val, _⟩).toNat % 100000 = _
      simp only [hq]
      refine Eq.trans (congrArg (fun u : BitVec 32 => u.toNat % 100000) hw) (Nat.mod_eq_of_lt hb)

/-- The state's rows are the reference's. -/
theorem X2m_eq : X2m m d = Plain.rows (m ((d.tc : Thread nD τ).loc main_arg0)) (m ((d.tc : Thread nD τ).loc main_arg5)) (m ((d.tc : Thread nD τ).loc main_arg6)) (m ((d.tc : Thread nD τ).loc main_arg7)) (m ((d.tc : Thread nD τ).loc main_arg8)) := by
  rw [X2m, W3, ops1_keep _ main_v2 (by decide), W2, after0_out]
  unfold mlpOf W1
  rw [ops0_keep _ main_arg0 (by decide), ops0_keep _ main_arg5 (by decide), ops0_keep _ main_arg7 (by decide)]
  refine Eq.trans ?_ (rows_same _ _ _ _ _)
  have e0 : StableHlo.after ops0 (StableHlo.launchContents m d) main_v0 = shapeCast S1x384 (m ((d.tc : Thread nD τ).loc main_arg6)) shapeCasts_S384_S1x384 := by
    unfold ops0
    after_results
    rfl
  have e1 : StableHlo.after ops0 (StableHlo.launchContents m d) main_v1 = shapeCast S1x384 (m ((d.tc : Thread nD τ).loc main_arg8)) shapeCasts_S384_S1x384 := by
    unfold ops0
    after_results
    rfl
  rw [e0, e1]

/-- The scores are the reference's. -/
theorem sc_eq (hN : Named m) (r : Fin 1024) (a : Fin 200) :
    sc (IDXm m) (X2m m) (T4m m) (T5m m) (T6m m) d r a
    = Plain.scores (wanted m d) (Plain.rows (m ((d.tc : Thread nD τ).loc main_arg0)) (m ((d.tc : Thread nD τ).loc main_arg5)) (m ((d.tc : Thread nD τ).loc main_arg6)) (m ((d.tc : Thread nD τ).loc main_arg7)) (m ((d.tc : Thread nD τ).loc main_arg8))) (ix2 r a) := by
  rw [Plain.scores_apply, ← X2m_eq]
  refine (score_sum _ _ a).trans (Finset.sum_congr rfl fun j _ => ?_)
  rw [gath_apply m d hN r a j]
  rfl

theorem cols_eq (hN : Named m) (g : Vec Ideal S1024x256 .f32) (hg : Scores m d g) :
    cols g = Plain.scores (wanted m d) (Plain.rows (m ((d.tc : Thread nD τ).loc main_arg0)) (m ((d.tc : Thread nD τ).loc main_arg5)) (m ((d.tc : Thread nD τ).loc main_arg6)) (m ((d.tc : Thread nD τ).loc main_arg7)) (m ((d.tc : Thread nD τ).loc main_arg8))) := by
  funext x
  obtain ⟨r, a, rfl⟩ : ∃ (r : Fin 1024) (a : Fin 200), x = ix2 r a := ⟨x 0, x 1, eq_ix2 x⟩
  refine Eq.trans ?_ ((hg r a).trans (sc_eq m d hN r a))
  unfold cols
  pointwise
  rfl

theorem out0 (hN : Named m) (g : Vec Ideal S1024x256 .f32) (hg : Scores m d g) :
    W6 m g d main_v9_0 = Plain.softmax (Plain.masked (Plain.scores (wanted m d) (Plain.rows (m ((d.tc : Thread nD τ).loc main_arg0)) (m ((d.tc : Thread nD τ).loc main_arg5)) (m ((d.tc : Thread nD τ).loc main_arg6)) (m ((d.tc : Thread nD τ).loc main_arg7)) (m ((d.tc : Thread nD τ).loc main_arg8)))) (m ((d.tc : Thread nD τ).loc main_arg4))) := by
  rw [W6, ops2_keep _ main_v9_0 (by decide), W5, after2_out, smxOf, W4_v8, cols_eq m d hN g hg, W4_keep _ _ _ main_arg4 (by decide), W3_arg _ _ main_arg4 (by decide)]
  exact softmax_same _ _

theorem out1 (hN : Named m) (g : Vec Ideal S1024x256 .f32) (hg : Scores m d g) :
    W6 m g d main_v10 = Plain.entropy (Plain.softmax (Plain.masked (Plain.scores (wanted m d) (Plain.rows (m ((d.tc : Thread nD τ).loc main_arg0)) (m ((d.tc : Thread nD τ).loc main_arg5)) (m ((d.tc : Thread nD τ).loc main_arg6)) (m ((d.tc : Thread nD τ).loc main_arg7)) (m ((d.tc : Thread nD τ).loc main_arg8)))) (m ((d.tc : Thread nD τ).loc main_arg4)))) := by
  have e : W6 m g d main_v10 = shapeCast S1024 (W5 m g d main_v9_1) shapeCasts_S1024x1_S1024 := by
    unfold W6 ops2
    after_results
    rfl
  rw [e, W5, after2_out', entOf, W4_v8, cols_eq m d hN g hg, W4_keep _ _ _ main_arg4 (by decide), W3_arg _ _ main_arg4 (by decide)]
  exact entropy_same _ _

end Cert.Proof

end
-- ==== Proof.Algebraic.lean ====
/-
  The kernel and the reference end with the same two results, over the extended reals.
-/
module

public import proofs.«01_k».proof.Proof.Frames
public import proofs.«01_k».proof.Proof.Equal

@[expose] public section

noncomputable section

namespace Cert.Proof

open Idealize.ShloMosaic Idealize.SL.Sem

/-- The reference's frame, on the memories that the precondition admits. -/
theorem frame_reference_named : Cert.quiescent_ReferenceIdeal_pre_rows_named :=
  fun m ρ _ => frame_reference m ρ trivial

theorem algebraic : Cert.algebraic_KernelIdeal_ReferenceIdeal := by
  intro m g m' g' hp ha
  have hN := named_of_pre m hp
  have et : ∀ c, Plain.taken m' c = wanted m c := fun c => by
    obtain ⟨_, h1, h2, h3, _, _, _, _, _, h9, h10, h11⟩ := ha c
    unfold Plain.taken wanted
    rw [h1, h2, h3, h9, h10, h11]
  have es : ∀ c, Plain.stated m' c = Plain.rows (m ((c.tc : Thread Cert.KernelIdeal.nD Cert.KernelIdeal.τ).loc Cert.KernelIdeal.main_arg0))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := fun c => by
    obtain ⟨h0, _, _, _, _, h5, h6, h7, h8, _⟩ := ha c
    unfold Plain.stated
    rw [h0, h5, h6, h7, h8]
  refine ⟨fun c => Cert.ReferenceIdeal.Value.res_main_v33 m' c, fun c => Cert.ReferenceIdeal.Value.res_main_v39 m' c, ?_, ?_⟩
  · refine (θ_run Cert.KernelIdeal.defs _ _).mono ?_ (run_named (F := Ideal) m g hN)
    rintro r ⟨h, _⟩ c
    obtain ⟨hk, s, hs, e0, e1⟩ := h c
    have h4 := (ha c).2.2.2.2.1
    refine ⟨e0.trans ?_, e1.trans ?_, twelve hk⟩
    · refine (out0 m c hN s hs).trans (Eq.trans ?_ (Plain.res0 m' c).symm)
      rw [et, es, h4]
    · refine (out1 m c hN s hs).trans (Eq.trans ?_ (Plain.res1 m' c).symm)
      rw [et, es, h4]
  · exact Cert.ReferenceIdeal.Value.run (F := Ideal) m' g'

end Cert.Proof

end
-- ==== Proof.lean ====
module

public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, rows_facts,
    frame_kernel, frame_ideal, frame_reference, frame_reference_named, trivial, algebraic⟩

end Cert.Proof

end
